-- ==== Defs.lean ====
def Pre_Merge1 (m : (ℓ : Loc Cert.Merge1.nD Cert.Merge1.τ Cert.Merge1.sig) → Buf (Elt Bits) ℓ) : Prop :=
  True

def Pre_Merge1Ideal (m : (ℓ : Loc Cert.Merge1Ideal.nD Cert.Merge1Ideal.τ Cert.Merge1Ideal.sig) → Buf (Elt Ideal) ℓ) : Prop :=
  True

def Pre_Ref1Ideal (m : (ℓ : Loc Cert.Ref1Ideal.nD Cert.Ref1Ideal.τ Cert.Ref1Ideal.sig) → Buf (Elt Ideal) ℓ) : Prop :=
  True

def Pre_Merge2 (m : (ℓ : Loc Cert.Merge2.nD Cert.Merge2.τ Cert.Merge2.sig) → Buf (Elt Bits) ℓ) : Prop :=
  True

def Pre_Merge2Ideal (m : (ℓ : Loc Cert.Merge2Ideal.nD Cert.Merge2Ideal.τ Cert.Merge2Ideal.sig) → Buf (Elt Ideal) ℓ) : Prop :=
  True

def Pre_Ref2Ideal (m : (ℓ : Loc Cert.Ref2Ideal.nD Cert.Ref2Ideal.τ Cert.Ref2Ideal.sig) → Buf (Elt Ideal) ℓ) : Prop :=
  True

def quiescent_Merge1 [hMerge1 : Cert.Merge1.Facts] : Prop :=
  ∀ (m : (ℓ : Loc Cert.Merge1.nD Cert.Merge1.τ Cert.Merge1.sig) → Buf (Elt Bits) ℓ) (g : Dev Cert.Merge1.nD → PrngReg), Pre_Merge1 m →
    θ_run (Cert.Merge1.defs (F := Bits)) (onTc (τ := Cert.Merge1.τ) (Cert.Merge1.main (F := Bits))) ⟨m, fun _ => 0, g⟩ (fun r => (∀ c : Dev Cert.Merge1.nD,
      r.2.mem ((c.tc : Thread Cert.Merge1.nD Cert.Merge1.τ).loc Cert.Merge1.main_arg0) = m ((c.tc : Thread Cert.Merge1.nD Cert.Merge1.τ).loc Cert.Merge1.main_arg0)
      ∧ r.2.mem ((c.tc : Thread Cert.Merge1.nD Cert.Merge1.τ).loc Cert.Merge1.main_arg1) = m ((c.tc : Thread Cert.Merge1.nD Cert.Merge1.τ).loc Cert.Merge1.main_arg1)
      ∧ r.2.mem ((c.tc : Thread Cert.Merge1.nD Cert.Merge1.τ).loc Cert.Merge1.main_arg2) = m ((c.tc : Thread Cert.Merge1.nD Cert.Merge1.τ).loc Cert.Merge1.main_arg2)
      ∧ r.2.mem ((c.tc : Thread Cert.Merge1.nD Cert.Merge1.τ).loc Cert.Merge1.main_arg3) = m ((c.tc : Thread Cert.Merge1.nD Cert.Merge1.τ).loc Cert.Merge1.main_arg3)
      ∧ r.2.mem ((c.tc : Thread Cert.Merge1.nD Cert.Merge1.τ).loc Cert.Merge1.main_arg4) = m ((c.tc : Thread Cert.Merge1.nD Cert.Merge1.τ).loc Cert.Merge1.main_arg4))
      ∧ r.2.sem = fun _ => 0)

def quiescent_Merge1Ideal [hMerge1Ideal : Cert.Merge1Ideal.Facts] : Prop :=
  ∀ (m : (ℓ : Loc Cert.Merge1Ideal.nD Cert.Merge1Ideal.τ Cert.Merge1Ideal.sig) → Buf (Elt Ideal) ℓ) (g : Dev Cert.Merge1Ideal.nD → PrngReg), Pre_Merge1Ideal m →
    θ_run (Cert.Merge1Ideal.defs (F := Ideal)) (onTc (τ := Cert.Merge1Ideal.τ) (Cert.Merge1Ideal.main (F := Ideal))) ⟨m, fun _ => 0, g⟩ (fun r => (∀ c : Dev Cert.Merge1Ideal.nD,
      r.2.mem ((c.tc : Thread Cert.Merge1Ideal.nD Cert.Merge1Ideal.τ).loc Cert.Merge1Ideal.main_arg0) = m ((c.tc : Thread Cert.Merge1Ideal.nD Cert.Merge1Ideal.τ).loc Cert.Merge1Ideal.main_arg0)
      ∧ r.2.mem ((c.tc : Thread Cert.Merge1Ideal.nD Cert.Merge1Ideal.τ).loc Cert.Merge1Ideal.main_arg1) = m ((c.tc : Thread Cert.Merge1Ideal.nD Cert.Merge1Ideal.τ).loc Cert.Merge1Ideal.main_arg1)
      ∧ r.2.mem ((c.tc : Thread Cert.Merge1Ideal.nD Cert.Merge1Ideal.τ).loc Cert.Merge1Ideal.main_arg2) = m ((c.tc : Thread Cert.Merge1Ideal.nD Cert.Merge1Ideal.τ).loc Cert.Merge1Ideal.main_arg2)
      ∧ r.2.mem ((c.tc : Thread Cert.Merge1Ideal.nD Cert.Merge1Ideal.τ).loc Cert.Merge1Ideal.main_arg3) = m ((c.tc : Thread Cert.Merge1Ideal.nD Cert.Merge1Ideal.τ).loc Cert.Merge1Ideal.main_arg3)
      ∧ r.2.mem ((c.tc : Thread Cert.Merge1Ideal.nD Cert.Merge1Ideal.τ).loc Cert.Merge1Ideal.main_arg4) = m ((c.tc : Thread Cert.Merge1Ideal.nD Cert.Merge1Ideal.τ).loc Cert.Merge1Ideal.main_arg4))
      ∧ r.2.sem = fun _ => 0)

def quiescent_Ref1Ideal [hRef1Ideal : Cert.Ref1Ideal.Facts] : Prop :=
  ∀ (m : (ℓ : Loc Cert.Ref1Ideal.nD Cert.Ref1Ideal.τ Cert.Ref1Ideal.sig) → Buf (Elt Ideal) ℓ) (g : Dev Cert.Ref1Ideal.nD → PrngReg), Pre_Ref1Ideal m →
    θ_run (Cert.Ref1Ideal.defs (F := Ideal)) (onTc (τ := Cert.Ref1Ideal.τ) (Cert.Ref1Ideal.main (F := Ideal))) ⟨m, fun _ => 0, g⟩ (fun r => (∀ c : Dev Cert.Ref1Ideal.nD,
      r.2.mem ((c.tc : Thread Cert.Ref1Ideal.nD Cert.Ref1Ideal.τ).loc Cert.Ref1Ideal.main_arg0) = m ((c.tc : Thread Cert.Ref1Ideal.nD Cert.Ref1Ideal.τ).loc Cert.Ref1Ideal.main_arg0)
      ∧ r.2.mem ((c.tc : Thread Cert.Ref1Ideal.nD Cert.Ref1Ideal.τ).loc Cert.Ref1Ideal.main_arg1) = m ((c.tc : Thread Cert.Ref1Ideal.nD Cert.Ref1Ideal.τ).loc Cert.Ref1Ideal.main_arg1)
      ∧ r.2.mem ((c.tc : Thread Cert.Ref1Ideal.nD Cert.Ref1Ideal.τ).loc Cert.Ref1Ideal.main_arg2) = m ((c.tc : Thread Cert.Ref1Ideal.nD Cert.Ref1Ideal.τ).loc Cert.Ref1Ideal.main_arg2)
      ∧ r.2.mem ((c.tc : Thread Cert.Ref1Ideal.nD Cert.Ref1Ideal.τ).loc Cert.Ref1Ideal.main_arg3) = m ((c.tc : Thread Cert.Ref1Ideal.nD Cert.Ref1Ideal.τ).loc Cert.Ref1Ideal.main_arg3)
      ∧ r.2.mem ((c.tc : Thread Cert.Ref1Ideal.nD Cert.Ref1Ideal.τ).loc Cert.Ref1Ideal.main_arg4) = m ((c.tc : Thread Cert.Ref1Ideal.nD Cert.Ref1Ideal.τ).loc Cert.Ref1Ideal.main_arg4))
      ∧ r.2.sem = fun _ => 0)

def quiescent_Merge2 [hMerge2 : Cert.Merge2.Facts] : Prop :=
  ∀ (m : (ℓ : Loc Cert.Merge2.nD Cert.Merge2.τ Cert.Merge2.sig) → Buf (Elt Bits) ℓ) (g : Dev Cert.Merge2.nD → PrngReg), Pre_Merge2 m →
    θ_run (Cert.Merge2.defs (F := Bits)) (onTc (τ := Cert.Merge2.τ) (Cert.Merge2.main (F := Bits))) ⟨m, fun _ => 0, g⟩ (fun r => (∀ c : Dev Cert.Merge2.nD,
      r.2.mem ((c.tc : Thread Cert.Merge2.nD Cert.Merge2.τ).loc Cert.Merge2.main_arg0) = m ((c.tc : Thread Cert.Merge2.nD Cert.Merge2.τ).loc Cert.Merge2.main_arg0)
      ∧ r.2.mem ((c.tc : Thread Cert.Merge2.nD Cert.Merge2.τ).loc Cert.Merge2.main_arg1) = m ((c.tc : Thread Cert.Merge2.nD Cert.Merge2.τ).loc Cert.Merge2.main_arg1)
      ∧ r.2.mem ((c.tc : Thread Cert.Merge2.nD Cert.Merge2.τ).loc Cert.Merge2.main_arg2) = m ((c.tc : Thread Cert.Merge2.nD Cert.Merge2.τ).loc Cert.Merge2.main_arg2)
      ∧ r.2.mem ((c.tc : Thread Cert.Merge2.nD Cert.Merge2.τ).loc Cert.Merge2.main_arg3) = m ((c.tc : Thread Cert.Merge2.nD Cert.Merge2.τ).loc Cert.Merge2.main_arg3)
      ∧ r.2.mem ((c.tc : Thread Cert.Merge2.nD Cert.Merge2.τ).loc Cert.Merge2.main_arg4) = m ((c.tc : Thread Cert.Merge2.nD Cert.Merge2.τ).loc Cert.Merge2.main_arg4))
      ∧ r.2.sem = fun _ => 0)

def quiescent_Merge2Ideal [hMerge2Ideal : Cert.Merge2Ideal.Facts] : Prop :=
  ∀ (m : (ℓ : Loc Cert.Merge2Ideal.nD Cert.Merge2Ideal.τ Cert.Merge2Ideal.sig) → Buf (Elt Ideal) ℓ) (g : Dev Cert.Merge2Ideal.nD → PrngReg), Pre_Merge2Ideal m →
    θ_run (Cert.Merge2Ideal.defs (F := Ideal)) (onTc (τ := Cert.Merge2Ideal.τ) (Cert.Merge2Ideal.main (F := Ideal))) ⟨m, fun _ => 0, g⟩ (fun r => (∀ c : Dev Cert.Merge2Ideal.nD,
      r.2.mem ((c.tc : Thread Cert.Merge2Ideal.nD Cert.Merge2Ideal.τ).loc Cert.Merge2Ideal.main_arg0) = m ((c.tc : Thread Cert.Merge2Ideal.nD Cert.Merge2Ideal.τ).loc Cert.Merge2Ideal.main_arg0)
      ∧ r.2.mem ((c.tc : Thread Cert.Merge2Ideal.nD Cert.Merge2Ideal.τ).loc Cert.Merge2Ideal.main_arg1) = m ((c.tc : Thread Cert.Merge2Ideal.nD Cert.Merge2Ideal.τ).loc Cert.Merge2Ideal.main_arg1)
      ∧ r.2.mem ((c.tc : Thread Cert.Merge2Ideal.nD Cert.Merge2Ideal.τ).loc Cert.Merge2Ideal.main_arg2) = m ((c.tc : Thread Cert.Merge2Ideal.nD Cert.Merge2Ideal.τ).loc Cert.Merge2Ideal.main_arg2)
      ∧ r.2.mem ((c.tc : Thread Cert.Merge2Ideal.nD Cert.Merge2Ideal.τ).loc Cert.Merge2Ideal.main_arg3) = m ((c.tc : Thread Cert.Merge2Ideal.nD Cert.Merge2Ideal.τ).loc Cert.Merge2Ideal.main_arg3)
      ∧ r.2.mem ((c.tc : Thread Cert.Merge2Ideal.nD Cert.Merge2Ideal.τ).loc Cert.Merge2Ideal.main_arg4) = m ((c.tc : Thread Cert.Merge2Ideal.nD Cert.Merge2Ideal.τ).loc Cert.Merge2Ideal.main_arg4))
      ∧ r.2.sem = fun _ => 0)

def quiescent_Ref2Ideal [hRef2Ideal : Cert.Ref2Ideal.Facts] : Prop :=
  ∀ (m : (ℓ : Loc Cert.Ref2Ideal.nD Cert.Ref2Ideal.τ Cert.Ref2Ideal.sig) → Buf (Elt Ideal) ℓ) (g : Dev Cert.Ref2Ideal.nD → PrngReg), Pre_Ref2Ideal m →
    θ_run (Cert.Ref2Ideal.defs (F := Ideal)) (onTc (τ := Cert.Ref2Ideal.τ) (Cert.Ref2Ideal.main (F := Ideal))) ⟨m, fun _ => 0, g⟩ (fun r => (∀ c : Dev Cert.Ref2Ideal.nD,
      r.2.mem ((c.tc : Thread Cert.Ref2Ideal.nD Cert.Ref2Ideal.τ).loc Cert.Ref2Ideal.main_arg0) = m ((c.tc : Thread Cert.Ref2Ideal.nD Cert.Ref2Ideal.τ).loc Cert.Ref2Ideal.main_arg0)
      ∧ r.2.mem ((c.tc : Thread Cert.Ref2Ideal.nD Cert.Ref2Ideal.τ).loc Cert.Ref2Ideal.main_arg1) = m ((c.tc : Thread Cert.Ref2Ideal.nD Cert.Ref2Ideal.τ).loc Cert.Ref2Ideal.main_arg1)
      ∧ r.2.mem ((c.tc : Thread Cert.Ref2Ideal.nD Cert.Ref2Ideal.τ).loc Cert.Ref2Ideal.main_arg2) = m ((c.tc : Thread Cert.Ref2Ideal.nD Cert.Ref2Ideal.τ).loc Cert.Ref2Ideal.main_arg2)
      ∧ r.2.mem ((c.tc : Thread Cert.Ref2Ideal.nD Cert.Ref2Ideal.τ).loc Cert.Ref2Ideal.main_arg3) = m ((c.tc : Thread Cert.Ref2Ideal.nD Cert.Ref2Ideal.τ).loc Cert.Ref2Ideal.main_arg3)
      ∧ r.2.mem ((c.tc : Thread Cert.Ref2Ideal.nD Cert.Ref2Ideal.τ).loc Cert.Ref2Ideal.main_arg4) = m ((c.tc : Thread Cert.Ref2Ideal.nD Cert.Ref2Ideal.τ).loc Cert.Ref2Ideal.main_arg4))
      ∧ r.2.sem = fun _ => 0)

def preserves_Merge1_Merge1Ideal : Prop :=
  True

def algebraic_Merge1Ideal_Ref1Ideal [hMerge1Ideal : Cert.Merge1Ideal.Facts] [hRef1Ideal : Cert.Ref1Ideal.Facts] : Prop :=
  ∀ (m : (ℓ : Loc Cert.Merge1Ideal.nD Cert.Merge1Ideal.τ Cert.Merge1Ideal.sig) → Buf (Elt Ideal) ℓ) (g : Dev Cert.Merge1Ideal.nD → PrngReg)
    (m' : (ℓ : Loc Cert.Ref1Ideal.nD Cert.Ref1Ideal.τ Cert.Ref1Ideal.sig) → Buf (Elt Ideal) ℓ) (g' : Dev Cert.Ref1Ideal.nD → PrngReg), Pre_Merge1Ideal m →
    (∀ c : Dev Cert.Merge1Ideal.nD,
      m' ((c.tc : Thread Cert.Ref1Ideal.nD Cert.Ref1Ideal.τ).loc Cert.Ref1Ideal.main_arg0) = m ((c.tc : Thread Cert.Merge1Ideal.nD Cert.Merge1Ideal.τ).loc Cert.Merge1Ideal.main_arg0)
      ∧ m' ((c.tc : Thread Cert.Ref1Ideal.nD Cert.Ref1Ideal.τ).loc Cert.Ref1Ideal.main_arg1) = m ((c.tc : Thread Cert.Merge1Ideal.nD Cert.Merge1Ideal.τ).loc Cert.Merge1Ideal.main_arg1)
      ∧ m' ((c.tc : Thread Cert.Ref1Ideal.nD Cert.Ref1Ideal.τ).loc Cert.Ref1Ideal.main_arg2) = m ((c.tc : Thread Cert.Merge1Ideal.nD Cert.Merge1Ideal.τ).loc Cert.Merge1Ideal.main_arg2)
      ∧ m' ((c.tc : Thread Cert.Ref1Ideal.nD Cert.Ref1Ideal.τ).loc Cert.Ref1Ideal.main_arg3) = m ((c.tc : Thread Cert.Merge1Ideal.nD Cert.Merge1Ideal.τ).loc Cert.Merge1Ideal.main_arg3)
      ∧ m' ((c.tc : Thread Cert.Ref1Ideal.nD Cert.Ref1Ideal.τ).loc Cert.Ref1Ideal.main_arg4) = m ((c.tc : Thread Cert.Merge1Ideal.nD Cert.Merge1Ideal.τ).loc Cert.Merge1Ideal.main_arg4)) →
    ∃ (v0 : (c : Dev Cert.Merge1Ideal.nD) → Buf (Elt Ideal) ((c.tc : Thread Cert.Merge1Ideal.nD Cert.Merge1Ideal.τ).loc Cert.Merge1Ideal.main_v3_0)) (v1 : (c : Dev Cert.Merge1Ideal.nD) → Buf (Elt Ideal) ((c.tc : Thread Cert.Merge1Ideal.nD Cert.Merge1Ideal.τ).loc Cert.Merge1Ideal.main_v3_1)) (v2 : (c : Dev Cert.Merge1Ideal.nD) → Buf (Elt Ideal) ((c.tc : Thread Cert.Merge1Ideal.nD Cert.Merge1Ideal.τ).loc Cert.Merge1Ideal.main_v3_2)) (v3 : (c : Dev Cert.Merge1Ideal.nD) → Buf (Elt Ideal) ((c.tc : Thread Cert.Merge1Ideal.nD Cert.Merge1Ideal.τ).loc Cert.Merge1Ideal.main_v3_3)),
      θ_run (Cert.Merge1Ideal.defs (F := Ideal)) (onTc (τ := Cert.Merge1Ideal.τ) (Cert.Merge1Ideal.main (F := Ideal))) ⟨m, fun _ => 0, g⟩ (fun r => ∀ c : Dev Cert.Merge1Ideal.nD,
          r.2.mem ((c.tc : Thread Cert.Merge1Ideal.nD Cert.Merge1Ideal.τ).loc Cert.Merge1Ideal.main_v3_0) = v0 c
          ∧ r.2.mem ((c.tc : Thread Cert.Merge1Ideal.nD Cert.Merge1Ideal.τ).loc Cert.Merge1Ideal.main_v3_1) = v1 c
          ∧ r.2.mem ((c.tc : Thread Cert.Merge1Ideal.nD Cert.Merge1Ideal.τ).loc Cert.Merge1Ideal.main_v3_2) = v2 c
          ∧ r.2.mem ((c.tc : Thread Cert.Merge1Ideal.nD Cert.Merge1Ideal.τ).loc Cert.Merge1Ideal.main_v3_3) = v3 c
          ∧ r.2.mem ((c.tc : Thread Cert.Merge1Ideal.nD Cert.Merge1Ideal.τ).loc Cert.Merge1Ideal.main_arg0) = m ((c.tc : Thread Cert.Merge1Ideal.nD Cert.Merge1Ideal.τ).loc Cert.Merge1Ideal.main_arg0)
          ∧ r.2.mem ((c.tc : Thread Cert.Merge1Ideal.nD Cert.Merge1Ideal.τ).loc Cert.Merge1Ideal.main_arg1) = m ((c.tc : Thread Cert.Merge1Ideal.nD Cert.Merge1Ideal.τ).loc Cert.Merge1Ideal.main_arg1)
          ∧ r.2.mem ((c.tc : Thread Cert.Merge1Ideal.nD Cert.Merge1Ideal.τ).loc Cert.Merge1Ideal.main_arg2) = m ((c.tc : Thread Cert.Merge1Ideal.nD Cert.Merge1Ideal.τ).loc Cert.Merge1Ideal.main_arg2)
          ∧ r.2.mem ((c.tc : Thread Cert.Merge1Ideal.nD Cert.Merge1Ideal.τ).loc Cert.Merge1Ideal.main_arg3) = m ((c.tc : Thread Cert.Merge1Ideal.nD Cert.Merge1Ideal.τ).loc Cert.Merge1Ideal.main_arg3)
          ∧ r.2.mem ((c.tc : Thread Cert.Merge1Ideal.nD Cert.Merge1Ideal.τ).loc Cert.Merge1Ideal.main_arg4) = m ((c.tc : Thread Cert.Merge1Ideal.nD Cert.Merge1Ideal.τ).loc Cert.Merge1Ideal.main_arg4))
      ∧ θ_run (Cert.Ref1Ideal.defs (F := Ideal)) (onTc (τ := Cert.Ref1Ideal.τ) (Cert.Ref1Ideal.main (F := Ideal))) ⟨m', fun _ => 0, g'⟩ (fun r => ∀ c : Dev Cert.Ref1Ideal.nD,
          r.2.mem ((c.tc : Thread Cert.Ref1Ideal.nD Cert.Ref1Ideal.τ).loc Cert.Ref1Ideal.main_v0_0) = v0 c
          ∧ r.2.mem ((c.tc : Thread Cert.Ref1Ideal.nD Cert.Ref1Ideal.τ).loc Cert.Ref1Ideal.main_v0_1) = v1 c
          ∧ r.2.mem ((c.tc : Thread Cert.Ref1Ideal.nD Cert.Ref1Ideal.τ).loc Cert.Ref1Ideal.main_v0_2) = v2 c
          ∧ r.2.mem ((c.tc : Thread Cert.Ref1Ideal.nD Cert.Ref1Ideal.τ).loc Cert.Ref1Ideal.main_v0_3) = v3 c
          ∧ r.2.mem ((c.tc : Thread Cert.Ref1Ideal.nD Cert.Ref1Ideal.τ).loc Cert.Ref1Ideal.main_arg0) = m' ((c.tc : Thread Cert.Ref1Ideal.nD Cert.Ref1Ideal.τ).loc Cert.Ref1Ideal.main_arg0)
          ∧ r.2.mem ((c.tc : Thread Cert.Ref1Ideal.nD Cert.Ref1Ideal.τ).loc Cert.Ref1Ideal.main_arg1) = m' ((c.tc : Thread Cert.Ref1Ideal.nD Cert.Ref1Ideal.τ).loc Cert.Ref1Ideal.main_arg1)
          ∧ r.2.mem ((c.tc : Thread Cert.Ref1Ideal.nD Cert.Ref1Ideal.τ).loc Cert.Ref1Ideal.main_arg2) = m' ((c.tc : Thread Cert.Ref1Ideal.nD Cert.Ref1Ideal.τ).loc Cert.Ref1Ideal.main_arg2)
          ∧ r.2.mem ((c.tc : Thread Cert.Ref1Ideal.nD Cert.Ref1Ideal.τ).loc Cert.Ref1Ideal.main_arg3) = m' ((c.tc : Thread Cert.Ref1Ideal.nD Cert.Ref1Ideal.τ).loc Cert.Ref1Ideal.main_arg3)
          ∧ r.2.mem ((c.tc : Thread Cert.Ref1Ideal.nD Cert.Ref1Ideal.τ).loc Cert.Ref1Ideal.main_arg4) = m' ((c.tc : Thread Cert.Ref1Ideal.nD Cert.Ref1Ideal.τ).loc Cert.Ref1Ideal.main_arg4))

def preserves_Merge2_Merge2Ideal : Prop :=
  True

def algebraic_Merge2Ideal_Ref2Ideal [hMerge2Ideal : Cert.Merge2Ideal.Facts] [hRef2Ideal : Cert.Ref2Ideal.Facts] : Prop :=
  ∀ (m : (ℓ : Loc Cert.Merge2Ideal.nD Cert.Merge2Ideal.τ Cert.Merge2Ideal.sig) → Buf (Elt Ideal) ℓ) (g : Dev Cert.Merge2Ideal.nD → PrngReg)
    (m' : (ℓ : Loc Cert.Ref2Ideal.nD Cert.Ref2Ideal.τ Cert.Ref2Ideal.sig) → Buf (Elt Ideal) ℓ) (g' : Dev Cert.Ref2Ideal.nD → PrngReg), Pre_Merge2Ideal m →
    (∀ c : Dev Cert.Merge2Ideal.nD,
      m' ((c.tc : Thread Cert.Ref2Ideal.nD Cert.Ref2Ideal.τ).loc Cert.Ref2Ideal.main_arg0) = m ((c.tc : Thread Cert.Merge2Ideal.nD Cert.Merge2Ideal.τ).loc Cert.Merge2Ideal.main_arg0)
      ∧ m' ((c.tc : Thread Cert.Ref2Ideal.nD Cert.Ref2Ideal.τ).loc Cert.Ref2Ideal.main_arg1) = m ((c.tc : Thread Cert.Merge2Ideal.nD Cert.Merge2Ideal.τ).loc Cert.Merge2Ideal.main_arg1)
      ∧ m' ((c.tc : Thread Cert.Ref2Ideal.nD Cert.Ref2Ideal.τ).loc Cert.Ref2Ideal.main_arg2) = m ((c.tc : Thread Cert.Merge2Ideal.nD Cert.Merge2Ideal.τ).loc Cert.Merge2Ideal.main_arg2)
      ∧ m' ((c.tc : Thread Cert.Ref2Ideal.nD Cert.Ref2Ideal.τ).loc Cert.Ref2Ideal.main_arg3) = m ((c.tc : Thread Cert.Merge2Ideal.nD Cert.Merge2Ideal.τ).loc Cert.Merge2Ideal.main_arg3)
      ∧ m' ((c.tc : Thread Cert.Ref2Ideal.nD Cert.Ref2Ideal.τ).loc Cert.Ref2Ideal.main_arg4) = m ((c.tc : Thread Cert.Merge2Ideal.nD Cert.Merge2Ideal.τ).loc Cert.Merge2Ideal.main_arg4)) →
    ∃ (v0 : (c : Dev Cert.Merge2Ideal.nD) → Buf (Elt Ideal) ((c.tc : Thread Cert.Merge2Ideal.nD Cert.Merge2Ideal.τ).loc Cert.Merge2Ideal.main_v3)),
      θ_run (Cert.Merge2Ideal.defs (F := Ideal)) (onTc (τ := Cert.Merge2Ideal.τ) (Cert.Merge2Ideal.main (F := Ideal))) ⟨m, fun _ => 0, g⟩ (fun r => ∀ c : Dev Cert.Merge2Ideal.nD,
          r.2.mem ((c.tc : Thread Cert.Merge2Ideal.nD Cert.Merge2Ideal.τ).loc Cert.Merge2Ideal.main_v3) = v0 c
          ∧ r.2.mem ((c.tc : Thread Cert.Merge2Ideal.nD Cert.Merge2Ideal.τ).loc Cert.Merge2Ideal.main_arg0) = m ((c.tc : Thread Cert.Merge2Ideal.nD Cert.Merge2Ideal.τ).loc Cert.Merge2Ideal.main_arg0)
          ∧ r.2.mem ((c.tc : Thread Cert.Merge2Ideal.nD Cert.Merge2Ideal.τ).loc Cert.Merge2Ideal.main_arg1) = m ((c.tc : Thread Cert.Merge2Ideal.nD Cert.Merge2Ideal.τ).loc Cert.Merge2Ideal.main_arg1)
          ∧ r.2.mem ((c.tc : Thread Cert.Merge2Ideal.nD Cert.Merge2Ideal.τ).loc Cert.Merge2Ideal.main_arg2) = m ((c.tc : Thread Cert.Merge2Ideal.nD Cert.Merge2Ideal.τ).loc Cert.Merge2Ideal.main_arg2)
          ∧ r.2.mem ((c.tc : Thread Cert.Merge2Ideal.nD Cert.Merge2Ideal.τ).loc Cert.Merge2Ideal.main_arg3) = m ((c.tc : Thread Cert.Merge2Ideal.nD Cert.Merge2Ideal.τ).loc Cert.Merge2Ideal.main_arg3)
          ∧ r.2.mem ((c.tc : Thread Cert.Merge2Ideal.nD Cert.Merge2Ideal.τ).loc Cert.Merge2Ideal.main_arg4) = m ((c.tc : Thread Cert.Merge2Ideal.nD Cert.Merge2Ideal.τ).loc Cert.Merge2Ideal.main_arg4))
      ∧ θ_run (Cert.Ref2Ideal.defs (F := Ideal)) (onTc (τ := Cert.Ref2Ideal.τ) (Cert.Ref2Ideal.main (F := Ideal))) ⟨m', fun _ => 0, g'⟩ (fun r => ∀ c : Dev Cert.Ref2Ideal.nD,
          r.2.mem ((c.tc : Thread Cert.Ref2Ideal.nD Cert.Ref2Ideal.τ).loc Cert.Ref2Ideal.main_v0) = v0 c
          ∧ r.2.mem ((c.tc : Thread Cert.Ref2Ideal.nD Cert.Ref2Ideal.τ).loc Cert.Ref2Ideal.main_arg0) = m' ((c.tc : Thread Cert.Ref2Ideal.nD Cert.Ref2Ideal.τ).loc Cert.Ref2Ideal.main_arg0)
          ∧ r.2.mem ((c.tc : Thread Cert.Ref2Ideal.nD Cert.Ref2Ideal.τ).loc Cert.Ref2Ideal.main_arg1) = m' ((c.tc : Thread Cert.Ref2Ideal.nD Cert.Ref2Ideal.τ).loc Cert.Ref2Ideal.main_arg1)
          ∧ r.2.mem ((c.tc : Thread Cert.Ref2Ideal.nD Cert.Ref2Ideal.τ).loc Cert.Ref2Ideal.main_arg2) = m' ((c.tc : Thread Cert.Ref2Ideal.nD Cert.Ref2Ideal.τ).loc Cert.Ref2Ideal.main_arg2)
          ∧ r.2.mem ((c.tc : Thread Cert.Ref2Ideal.nD Cert.Ref2Ideal.τ).loc Cert.Ref2Ideal.main_arg3) = m' ((c.tc : Thread Cert.Ref2Ideal.nD Cert.Ref2Ideal.τ).loc Cert.Ref2Ideal.main_arg3)
          ∧ r.2.mem ((c.tc : Thread Cert.Ref2Ideal.nD Cert.Ref2Ideal.τ).loc Cert.Ref2Ideal.main_arg4) = m' ((c.tc : Thread Cert.Ref2Ideal.nD Cert.Ref2Ideal.τ).loc Cert.Ref2Ideal.main_arg4))

def Claim : Prop :=
  ∃ (hMerge1 : Cert.Merge1.Facts) (hMerge1Ideal : Cert.Merge1Ideal.Facts) (hRef1Ideal : Cert.Ref1Ideal.Facts) (hMerge2 : Cert.Merge2.Facts) (hMerge2Ideal : Cert.Merge2Ideal.Facts) (hRef2Ideal : Cert.Ref2Ideal.Facts),
    quiescent_Merge1 (hMerge1 := hMerge1)
    ∧ quiescent_Merge1Ideal (hMerge1Ideal := hMerge1Ideal)
    ∧ quiescent_Ref1Ideal (hRef1Ideal := hRef1Ideal)
    ∧ quiescent_Merge2 (hMerge2 := hMerge2)
    ∧ quiescent_Merge2Ideal (hMerge2Ideal := hMerge2Ideal)
    ∧ quiescent_Ref2Ideal (hRef2Ideal := hRef2Ideal)
    ∧ preserves_Merge1_Merge1Ideal
    ∧ algebraic_Merge1Ideal_Ref1Ideal (hMerge1Ideal := hMerge1Ideal) (hRef1Ideal := hRef1Ideal)
    ∧ preserves_Merge2_Merge2Ideal
    ∧ algebraic_Merge2Ideal_Ref2Ideal (hMerge2Ideal := hMerge2Ideal) (hRef2Ideal := hRef2Ideal)
-- ==== Merge1.lean ====
abbrev S4096x1280 : Shape := ⟨2, ![4096, 1280]⟩
abbrev S1280 : Shape := ⟨1, ![1280]⟩
abbrev S5120x5120 : Shape := ⟨2, ![5120, 5120]⟩
abbrev S5120 : Shape := ⟨1, ![5120]⟩
abbrev S1x1280 : Shape := ⟨2, ![1, 1280]⟩
abbrev S1x5120 : Shape := ⟨2, ![1, 5120]⟩
abbrev S1024x5120 : Shape := ⟨2, ![1024, 5120]⟩
abbrev S4x1x256 : Shape := ⟨3, ![4, 1, 256]⟩
abbrev S1024x1280 : Shape := ⟨2, ![1024, 1280]⟩
abbrev S256x5120 : Shape := ⟨2, ![256, 5120]⟩
abbrev S1x1x256 : Shape := ⟨3, ![1, 1, 256]⟩
abbrev S256x128 : Shape := ⟨2, ![256, 128]⟩
abbrev S10x128x128 : Shape := ⟨3, ![10, 128, 128]⟩
abbrev S128x128 : Shape := ⟨2, ![128, 128]⟩
abbrev S128 : Shape := ⟨1, ![128]⟩
abbrev S128x1 : Shape := ⟨2, ![128, 1]⟩
abbrev S1x128 : Shape := ⟨2, ![1, 128]⟩
abbrev S1x128x128 : Shape := ⟨3, ![1, 128, 128]⟩
abbrev S32x128 : Shape := ⟨2, ![32, 128]⟩
abbrev S32 : Shape := ⟨1, ![32]⟩
abbrev S32x1 : Shape := ⟨2, ![32, 1]⟩
abbrev S1x32x128 : Shape := ⟨3, ![1, 32, 128]⟩
abbrev S5120x512 : Shape := ⟨2, ![5120, 512]⟩
abbrev S256x512 : Shape := ⟨2, ![256, 512]⟩
abbrev S256x1 : Shape := ⟨2, ![256, 1]⟩
abbrev S1x512 : Shape := ⟨2, ![1, 512]⟩
abbrev S256 : Shape := ⟨1, ![256]⟩
abbrev S128x256 : Shape := ⟨2, ![128, 256]⟩
abbrev S1x256 : Shape := ⟨2, ![1, 256]⟩

abbrev nBuf : Space → Nat
  | .hbm => 12
  | .vmem => 19
  | .smem => 0
  | _ => 0

abbrev bufTy : (tb : Table) → Fin (tcTables nBuf tb) → BufTy
  | .hbm, ⟨0, _⟩ => ⟨S4096x1280, .bf16⟩
  | .hbm, ⟨1, _⟩ => ⟨S1280, .f32⟩
  | .hbm, ⟨2, _⟩ => ⟨S5120x5120, .fp8e4m3⟩
  | .hbm, ⟨3, _⟩ => ⟨S5120, .f32⟩
  | .hbm, ⟨4, _⟩ => ⟨S5120, .f32⟩
  | .hbm, ⟨5, _⟩ => ⟨S1x1280, .f32⟩
  | .hbm, ⟨6, _⟩ => ⟨S1x5120, .f32⟩
  | .hbm, ⟨7, _⟩ => ⟨S1x5120, .f32⟩
  | .hbm, ⟨8, _⟩ => ⟨S1024x5120, .fp8e4m3⟩
  | .hbm, ⟨9, _⟩ => ⟨S4x1x256, .f32⟩
  | .hbm, ⟨10, _⟩ => ⟨S1024x5120, .fp8e4m3⟩
  | .hbm, ⟨11, _⟩ => ⟨S4x1x256, .f32⟩
  | .local _ .vmem, ⟨0, _⟩ => ⟨S1024x1280, .bf16⟩
  | .local _ .vmem, ⟨1, _⟩ => ⟨S1024x1280, .bf16⟩
  | .local _ .vmem, ⟨2, _⟩ => ⟨S1x1280, .f32⟩
  | .local _ .vmem, ⟨3, _⟩ => ⟨S5120x5120, .fp8e4m3⟩
  | .local _ .vmem, ⟨4, _⟩ => ⟨S1x5120, .f32⟩
  | .local _ .vmem, ⟨5, _⟩ => ⟨S1x5120, .f32⟩
  | .local _ .vmem, ⟨6, _⟩ => ⟨S256x5120, .fp8e4m3⟩
  | .local _ .vmem, ⟨7, _⟩ => ⟨S256x5120, .fp8e4m3⟩
  | .local _ .vmem, ⟨8, _⟩ => ⟨S1x1x256, .f32⟩
  | .local _ .vmem, ⟨9, _⟩ => ⟨S1x1x256, .f32⟩
  | .local _ .vmem, ⟨10, _⟩ => ⟨S256x5120, .fp8e4m3⟩
  | .local _ .vmem, ⟨11, _⟩ => ⟨S256x5120, .fp8e4m3⟩
  | .local _ .vmem, ⟨12, _⟩ => ⟨S1x1x256, .f32⟩
  | .local _ .vmem, ⟨13, _⟩ => ⟨S1x1x256, .f32⟩
  | .local _ .vmem, ⟨14, _⟩ => ⟨S256x5120, .f32⟩
  | .local _ .vmem, ⟨15, _⟩ => ⟨S256x128, .f32⟩
  | .local _ .vmem, ⟨16, _⟩ => ⟨S256x128, .f32⟩
  | .local _ .vmem, ⟨17, _⟩ => ⟨S10x128x128, .f32⟩
  | .local _ .vmem, ⟨18, _⟩ => ⟨S128x128, .f32⟩
  | _, _ => ⟨S4096x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_mult1 (k0_t1 : Fin k0_t1_loop.trips) : BitVec 32 :=
  let c0_i32_28 : BitVec 32 := 0#32
  let c0_i32 : BitVec 32 := 0#32
  let c1_i32 : BitVec 32 := 1#32
  let arg15 : BitVec 32 := Scf.iv c0_i32 c1_i32 k0_t1
  let c1_i32_27 : BitVec 32 := 1#32
  let v33 : BitVec 32 := Scalar.muli arg15 c1_i32_27
  let v34 : BitVec 32 := Scalar.addi c0_i32_28 v33
  let c32_i32 : BitVec 32 := 32#32
  let v35 : BitVec 32 := Scalar.muli v34 c32_i32
  v35
def k0_mult2 (k0_t1 : Fin k0_t1_loop.trips) : BitVec 32 :=
  let c0_i32_28 : BitVec 32 := 0#32
  let c0_i32 : BitVec 32 := 0#32
  let c1_i32 : BitVec 32 := 1#32
  let arg15 : BitVec 32 := Scf.iv c0_i32 c1_i32 k0_t1
  let c1_i32_27 : BitVec 32 := 1#32
  let v33 : BitVec 32 := Scalar.muli arg15 c1_i32_27
  let v34 : BitVec 32 := Scalar.addi c0_i32_28 v33
  let c128_i32 : BitVec 32 := 128#32
  let v37 : BitVec 32 := Scalar.muli v34 c128_i32
  v37
def k0_off1 (k0_t1 : Fin k0_t1_loop.trips) : Fin 2 → Nat :=
  let c0_i32_28 : BitVec 32 := 0#32
  let c0_i32 : BitVec 32 := 0#32
  let c1_i32 : BitVec 32 := 1#32
  let arg15 : BitVec 32 := Scf.iv c0_i32 c1_i32 k0_t1
  let c1_i32_27 : BitVec 32 := 1#32
  let v33 : BitVec 32 := Scalar.muli arg15 c1_i32_27
  let v34 : BitVec 32 := Scalar.addi c0_i32_28 v33
  let c128_i32 : BitVec 32 := 128#32
  let v37 : BitVec 32 := Scalar.muli v34 c128_i32
  let v38 : BitVec 32 := v37
  let v40 : Index := Scalar.indexCast v38
  let c0_30 : Index := 0#32
  ![v40.toNat, 0]
def k0_off2 (k0_t1 : Fin k0_t1_loop.trips) : Fin 2 → Nat :=
  let c0_i32_28 : BitVec 32 := 0#32
  let c0_i32 : BitVec 32 := 0#32
  let c1_i32 : BitVec 32 := 1#32
  let arg15 : BitVec 32 := Scf.iv c0_i32 c1_i32 k0_t1
  let c1_i32_27 : BitVec 32 := 1#32
  let v33 : BitVec 32 := Scalar.muli arg15 c1_i32_27
  let v34 : BitVec 32 := Scalar.addi c0_i32_28 v33
  let c128_i32 : BitVec 32 := 128#32
  let v37 : BitVec 32 := Scalar.muli v34 c128_i32
  let v38 : BitVec 32 := v37
  let v45 : Index := Scalar.indexCast v38
  let c128 : Index := 128#32
  ![v45.toNat, 128]
def k0_off3 (k0_t1 : Fin k0_t1_loop.trips) : Fin 2 → Nat :=
  let c0_i32_28 : BitVec 32 := 0#32
  let c0_i32 : BitVec 32 := 0#32
  let c1_i32 : BitVec 32 := 1#32
  let arg15 : BitVec 32 := Scf.iv c0_i32 c1_i32 k0_t1
  let c1_i32_27 : BitVec 32 := 1#32
  let v33 : BitVec 32 := Scalar.muli arg15 c1_i32_27
  let v34 : BitVec 32 := Scalar.addi c0_i32_28 v33
  let c128_i32 : BitVec 32 := 128#32
  let v37 : BitVec 32 := Scalar.muli v34 c128_i32
  let v38 : BitVec 32 := v37
  let v50 : Index := Scalar.indexCast v38
  let c256 : Index := 256#32
  ![v50.toNat, 256]
def k0_off4 (k0_t1 : Fin k0_t1_loop.trips) : Fin 2 → Nat :=
  let c0_i32_28 : BitVec 32 := 0#32
  let c0_i32 : BitVec 32 := 0#32
  let c1_i32 : BitVec 32 := 1#32
  let arg15 : BitVec 32 := Scf.iv c0_i32 c1_i32 k0_t1
  let c1_i32_27 : BitVec 32 := 1#32
  let v33 : BitVec 32 := Scalar.muli arg15 c1_i32_27
  let v34 : BitVec 32 := Scalar.addi c0_i32_28 v33
  let c128_i32 : BitVec 32 := 128#32
  let v37 : BitVec 32 := Scalar.muli v34 c128_i32
  let v38 : BitVec 32 := v37
  let v55 : Index := Scalar.indexCast v38
  let c384 : Index := 384#32
  ![v55.toNat, 384]
def k0_off5 (k0_t1 : Fin k0_t1_loop.trips) : Fin 2 → Nat :=
  let c0_i32_28 : BitVec 32 := 0#32
  let c0_i32 : BitVec 32 := 0#32
  let c1_i32 : BitVec 32 := 1#32
  let arg15 : BitVec 32 := Scf.iv c0_i32 c1_i32 k0_t1
  let c1_i32_27 : BitVec 32 := 1#32
  let v33 : BitVec 32 := Scalar.muli arg15 c1_i32_27
  let v34 : BitVec 32 := Scalar.addi c0_i32_28 v33
  let c128_i32 : BitVec 32 := 128#32
  let v37 : BitVec 32 := Scalar.muli v34 c128_i32
  let v38 : BitVec 32 := v37
  let v60 : Index := Scalar.indexCast v38
  let c512 : Index := 512#32
  ![v60.toNat, 512]
def k0_off6 (k0_t1 : Fin k0_t1_loop.trips) : Fin 2 → Nat :=
  let c0_i32_28 : BitVec 32 := 0#32
  let c0_i32 : BitVec 32 := 0#32
  let c1_i32 : BitVec 32 := 1#32
  let arg15 : BitVec 32 := Scf.iv c0_i32 c1_i32 k0_t1
  let c1_i32_27 : BitVec 32 := 1#32
  let v33 : BitVec 32 := Scalar.muli arg15 c1_i32_27
  let v34 : BitVec 32 := Scalar.addi c0_i32_28 v33
  let c128_i32 : BitVec 32 := 128#32
  let v37 : BitVec 32 := Scalar.muli v34 c128_i32
  let v38 : BitVec 32 := v37
  let v65 : Index := Scalar.indexCast v38
  let c640 : Index := 640#32
  ![v65.toNat, 640]
def k0_off7 (k0_t1 : Fin k0_t1_loop.trips) : Fin 2 → Nat :=
  let c0_i32_28 : BitVec 32 := 0#32
  let c0_i32 : BitVec 32 := 0#32
  let c1_i32 : BitVec 32 := 1#32
  let arg15 : BitVec 32 := Scf.iv c0_i32 c1_i32 k0_t1
  let c1_i32_27 : BitVec 32 := 1#32
  let v33 : BitVec 32 := Scalar.muli arg15 c1_i32_27
  let v34 : BitVec 32 := Scalar.addi c0_i32_28 v33
  let c128_i32 : BitVec 32 := 128#32
  let v37 : BitVec 32 := Scalar.muli v34 c128_i32
  let v38 : BitVec 32 := v37
  let v70 : Index := Scalar.indexCast v38
  let c768 : Index := 768#32
  ![v70.toNat, 768]
def k0_off8 (k0_t1 : Fin k0_t1_loop.trips) : Fin 2 → Nat :=
  let c0_i32_28 : BitVec 32 := 0#32
  let c0_i32 : BitVec 32 := 0#32
  let c1_i32 : BitVec 32 := 1#32
  let arg15 : BitVec 32 := Scf.iv c0_i32 c1_i32 k0_t1
  let c1_i32_27 : BitVec 32 := 1#32
  let v33 : BitVec 32 := Scalar.muli arg15 c1_i32_27
  let v34 : BitVec 32 := Scalar.addi c0_i32_28 v33
  let c128_i32 : BitVec 32 := 128#32
  let v37 : BitVec 32 := Scalar.muli v34 c128_i32
  let v38 : BitVec 32 := v37
  let v75 : Index := Scalar.indexCast v38
  let c896 : Index := 896#32
  ![v75.toNat, 896]
def k0_off9 (k0_t1 : Fin k0_t1_loop.trips) : Fin 2 → Nat :=
  let c0_i32_28 : BitVec 32 := 0#32
  let c0_i32 : BitVec 32 := 0#32
  let c1_i32 : BitVec 32 := 1#32
  let arg15 : BitVec 32 := Scf.iv c0_i32 c1_i32 k0_t1
  let c1_i32_27 : BitVec 32 := 1#32
  let v33 : BitVec 32 := Scalar.muli arg15 c1_i32_27
  let v34 : BitVec 32 := Scalar.addi c0_i32_28 v33
  let c128_i32 : BitVec 32 := 128#32
  let v37 : BitVec 32 := Scalar.muli v34 c128_i32
  let v38 : BitVec 32 := v37
  let v80 : Index := Scalar.indexCast v38
  let c1024 : Index := 1024#32
  ![v80.toNat, 1024]
def k0_off10 (k0_t1 : Fin k0_t1_loop.trips) : Fin 2 → Nat :=
  let c0_i32_28 : BitVec 32 := 0#32
  let c0_i32 : BitVec 32 := 0#32
  let c1_i32 : BitVec 32 := 1#32
  let arg15 : BitVec 32 := Scf.iv c0_i32 c1_i32 k0_t1
  let c1_i32_27 : BitVec 32 := 1#32
  let v33 : BitVec 32 := Scalar.muli arg15 c1_i32_27
  let v34 : BitVec 32 := Scalar.addi c0_i32_28 v33
  let c128_i32 : BitVec 32 := 128#32
  let v37 : BitVec 32 := Scalar.muli v34 c128_i32
  let v38 : BitVec 32 := v37
  let v85 : Index := Scalar.indexCast v38
  let c1152 : Index := 1152#32
  ![v85.toNat, 1152]
def k0_off11 (k0_t1 : Fin k0_t1_loop.trips) : Fin 2 → Nat :=
  let c0_i32_28 : BitVec 32 := 0#32
  let c0_i32 : BitVec 32 := 0#32
  let c1_i32 : BitVec 32 := 1#32
  let arg15 : BitVec 32 := Scf.iv c0_i32 c1_i32 k0_t1
  let c1_i32_27 : BitVec 32 := 1#32
  let v33 : BitVec 32 := Scalar.muli arg15 c1_i32_27
  let v34 : BitVec 32 := Scalar.addi c0_i32_28 v33
  let c32_i32 : BitVec 32 := 32#32
  let v35 : BitVec 32 := Scalar.muli v34 c32_i32
  let v36 : BitVec 32 := v35
  let v260 : Index := Scalar.indexCast v36
  let c0_101 : Index := 0#32
  ![v260.toNat, 0]
def k0_off12 (k0_t1 : Fin k0_t1_loop.trips) : Fin 2 → Nat :=
  let c0_i32_28 : BitVec 32 := 0#32
  let c0_i32 : BitVec 32 := 0#32
  let c1_i32 : BitVec 32 := 1#32
  let arg15 : BitVec 32 := Scf.iv c0_i32 c1_i32 k0_t1
  let c1_i32_27 : BitVec 32 := 1#32
  let v33 : BitVec 32 := Scalar.muli arg15 c1_i32_27
  let v34 : BitVec 32 := Scalar.addi c0_i32_28 v33
  let c32_i32 : BitVec 32 := 32#32
  let v35 : BitVec 32 := Scalar.muli v34 c32_i32
  let v36 : BitVec 32 := v35
  let v275 : Index := Scalar.indexCast v36
  let c0_108 : Index := 0#32
  ![v275.toNat, 0]
def k0_off13 (k0_t1 : Fin k0_t1_loop.trips) : Fin 2 → Nat :=
  let c0_i32_28 : BitVec 32 := 0#32
  let c0_i32 : BitVec 32 := 0#32
  let c1_i32 : BitVec 32 := 1#32
  let arg15 : BitVec 32 := Scf.iv c0_i32 c1_i32 k0_t1
  let c1_i32_27 : BitVec 32 := 1#32
  let v33 : BitVec 32 := Scalar.muli arg15 c1_i32_27
  let v34 : BitVec 32 := Scalar.addi c0_i32_28 v33
  let c32_i32 : BitVec 32 := 32#32
  let v35 : BitVec 32 := Scalar.muli v34 c32_i32
  let v36 : BitVec 32 := v35
  let v286 : Index := Scalar.indexCast v36
  let c128_114 : Index := 128#32
  ![v286.toNat, 128]
def k0_off14 (k0_t1 : Fin k0_t1_loop.trips) : Fin 2 → Nat :=
  let c0_i32_28 : BitVec 32 := 0#32
  let c0_i32 : BitVec 32 := 0#32
  let c1_i32 : BitVec 32 := 1#32
  let arg15 : BitVec 32 := Scf.iv c0_i32 c1_i32 k0_t1
  let c1_i32_27 : BitVec 32 := 1#32
  let v33 : BitVec 32 := Scalar.muli arg15 c1_i32_27
  let v34 : BitVec 32 := Scalar.addi c0_i32_28 v33
  let c32_i32 : BitVec 32 := 32#32
  let v35 : BitVec 32 := Scalar.muli v34 c32_i32
  let v36 : BitVec 32 := v35
  let v297 : Index := Scalar.indexCast v36
  let c256_120 : Index := 256#32
  ![v297.toNat, 256]
def k0_off15 (k0_t1 : Fin k0_t1_loop.trips) : Fin 2 → Nat :=
  let c0_i32_28 : BitVec 32 := 0#32
  let c0_i32 : BitVec 32 := 0#32
  let c1_i32 : BitVec 32 := 1#32
  let arg15 : BitVec 32 := Scf.iv c0_i32 c1_i32 k0_t1
  let c1_i32_27 : BitVec 32 := 1#32
  let v33 : BitVec 32 := Scalar.muli arg15 c1_i32_27
  let v34 : BitVec 32 := Scalar.addi c0_i32_28 v33
  let c32_i32 : BitVec 32 := 32#32
  let v35 : BitVec 32 := Scalar.muli v34 c32_i32
  let v36 : BitVec 32 := v35
  let v308 : Index := Scalar.indexCast v36
  let c384_126 : Index := 384#32
  ![v308.toNat, 384]
def k0_off16 (k0_t1 : Fin k0_t1_loop.trips) : Fin 2 → Nat :=
  let c0_i32_28 : BitVec 32 := 0#32
  let c0_i32 : BitVec 32 := 0#32
  let c1_i32 : BitVec 32 := 1#32
  let arg15 : BitVec 32 := Scf.iv c0_i32 c1_i32 k0_t1
  let c1_i32_27 : BitVec 32 := 1#32
  let v33 : BitVec 32 := Scalar.muli arg15 c1_i32_27
  let v34 : BitVec 32 := Scalar.addi c0_i32_28 v33
  let c32_i32 : BitVec 32 := 32#32
  let v35 : BitVec 32 := Scalar.muli v34 c32_i32
  let v36 : BitVec 32 := v35
  let v319 : Index := Scalar.indexCast v36
  let c512_132 : Index := 512#32
  ![v319.toNat, 512]
def k0_off17 (k0_t1 : Fin k0_t1_loop.trips) : Fin 2 → Nat :=
  let c0_i32_28 : BitVec 32 := 0#32
  let c0_i32 : BitVec 32 := 0#32
  let c1_i32 : BitVec 32 := 1#32
  let arg15 : BitVec 32 := Scf.iv c0_i32 c1_i32 k0_t1
  let c1_i32_27 : BitVec 32 := 1#32
  let v33 : BitVec 32 := Scalar.muli arg15 c1_i32_27
  let v34 : BitVec 32 := Scalar.addi c0_i32_28 v33
  let c32_i32 : BitVec 32 := 32#32
  let v35 : BitVec 32 := Scalar.muli v34 c32_i32
  let v36 : BitVec 32 := v35
  let v330 : Index := Scalar.indexCast v36
  let c640_138 : Index := 640#32
  ![v330.toNat, 640]
def k0_off18 (k0_t1 : Fin k0_t1_loop.trips) : Fin 2 → Nat :=
  let c0_i32_28 : BitVec 32 := 0#32
  let c0_i32 : BitVec 32 := 0#32
  let c1_i32 : BitVec 32 := 1#32
  let arg15 : BitVec 32 := Scf.iv c0_i32 c1_i32 k0_t1
  let c1_i32_27 : BitVec 32 := 1#32
  let v33 : BitVec 32 := Scalar.muli arg15 c1_i32_27
  let v34 : BitVec 32 := Scalar.addi c0_i32_28 v33
  let c32_i32 : BitVec 32 := 32#32
  let v35 : BitVec 32 := Scalar.muli v34 c32_i32
  let v36 : BitVec 32 := v35
  let v341 : Index := Scalar.indexCast v36
  let c768_144 : Index := 768#32
  ![v341.toNat, 768]
def k0_off19 (k0_t1 : Fin k0_t1_loop.trips) : Fin 2 → Nat :=
  let c0_i32_28 : BitVec 32 := 0#32
  let c0_i32 : BitVec 32 := 0#32
  let c1_i32 : BitVec 32 := 1#32
  let arg15 : BitVec 32 := Scf.iv c0_i32 c1_i32 k0_t1
  let c1_i32_27 : BitVec 32 := 1#32
  let v33 : BitVec 32 := Scalar.muli arg15 c1_i32_27
  let v34 : BitVec 32 := Scalar.addi c0_i32_28 v33
  let c32_i32 : BitVec 32 := 32#32
  let v35 : BitVec 32 := Scalar.muli v34 c32_i32
  let v36 : BitVec 32 := v35
  let v352 : Index := Scalar.indexCast v36
  let c896_150 : Index := 896#32
  ![v352.toNat, 896]
def k0_off20 (k0_t1 : Fin k0_t1_loop.trips) : Fin 2 → Nat :=
  let c0_i32_28 : BitVec 32 := 0#32
  let c0_i32 : BitVec 32 := 0#32
  let c1_i32 : BitVec 32 := 1#32
  let arg15 : BitVec 32 := Scf.iv c0_i32 c1_i32 k0_t1
  let c1_i32_27 : BitVec 32 := 1#32
  let v33 : BitVec 32 := Scalar.muli arg15 c1_i32_27
  let v34 : BitVec 32 := Scalar.addi c0_i32_28 v33
  let c32_i32 : BitVec 32 := 32#32
  let v35 : BitVec 32 := Scalar.muli v34 c32_i32
  let v36 : BitVec 32 := v35
  let v363 : Index := Scalar.indexCast v36
  let c1024_156 : Index := 1024#32
  ![v363.toNat, 1024]
def k0_off21 (k0_t1 : Fin k0_t1_loop.trips) : Fin 2 → Nat :=
  let c0_i32_28 : BitVec 32 := 0#32
  let c0_i32 : BitVec 32 := 0#32
  let c1_i32 : BitVec 32 := 1#32
  let arg15 : BitVec 32 := Scf.iv c0_i32 c1_i32 k0_t1
  let c1_i32_27 : BitVec 32 := 1#32
  let v33 : BitVec 32 := Scalar.muli arg15 c1_i32_27
  let v34 : BitVec 32 := Scalar.addi c0_i32_28 v33
  let c32_i32 : BitVec 32 := 32#32
  let v35 : BitVec 32 := Scalar.muli v34 c32_i32
  let v36 : BitVec 32 := v35
  let v374 : Index := Scalar.indexCast v36
  let c1152_162 : Index := 1152#32
  ![v374.toNat, 1152]
def k0_off22 (k0_t1 : Fin k0_t1_loop.trips) : Fin 2 → Nat :=
  let c0_i32_28 : BitVec 32 := 0#32
  let c0_i32 : BitVec 32 := 0#32
  let c1_i32 : BitVec 32 := 1#32
  let arg15 : BitVec 32 := Scf.iv c0_i32 c1_i32 k0_t1
  let c1_i32_27 : BitVec 32 := 1#32
  let v33 : BitVec 32 := Scalar.muli arg15 c1_i32_27
  let v34 : BitVec 32 := Scalar.addi c0_i32_28 v33
  let c32_i32 : BitVec 32 := 32#32
  let v35 : BitVec 32 := Scalar.muli v34 c32_i32
  let v36 : BitVec 32 := v35
  let v385 : Index := Scalar.indexCast v36
  let c1280 : Index := 1280#32
  ![v385.toNat, 1280]
def k0_off23 (k0_t1 : Fin k0_t1_loop.trips) : Fin 2 → Nat :=
  let c0_i32_28 : BitVec 32 := 0#32
  let c0_i32 : BitVec 32 := 0#32
  let c1_i32 : BitVec 32 := 1#32
  let arg15 : BitVec 32 := Scf.iv c0_i32 c1_i32 k0_t1
  let c1_i32_27 : BitVec 32 := 1#32
  let v33 : BitVec 32 := Scalar.muli arg15 c1_i32_27
  let v34 : BitVec 32 := Scalar.addi c0_i32_28 v33
  let c32_i32 : BitVec 32 := 32#32
  let v35 : BitVec 32 := Scalar.muli v34 c32_i32
  let v36 : BitVec 32 := v35
  let v396 : Index := Scalar.indexCast v36
  let c1408 : Index := 1408#32
  ![v396.toNat, 1408]
def k0_off24 (k0_t1 : Fin k0_t1_loop.trips) : Fin 2 → Nat :=
  let c0_i32_28 : BitVec 32 := 0#32
  let c0_i32 : BitVec 32 := 0#32
  let c1_i32 : BitVec 32 := 1#32
  let arg15 : BitVec 32 := Scf.iv c0_i32 c1_i32 k0_t1
  let c1_i32_27 : BitVec 32 := 1#32
  let v33 : BitVec 32 := Scalar.muli arg15 c1_i32_27
  let v34 : BitVec 32 := Scalar.addi c0_i32_28 v33
  let c32_i32 : BitVec 32 := 32#32
  let v35 : BitVec 32 := Scalar.muli v34 c32_i32
  let v36 : BitVec 32 := v35
  let v407 : Index := Scalar.indexCast v36
  let c1536 : Index := 1536#32
  ![v407.toNat, 1536]
def k0_off25 (k0_t1 : Fin k0_t1_loop.trips) : Fin 2 → Nat :=
  let c0_i32_28 : BitVec 32 := 0#32
  let c0_i32 : BitVec 32 := 0#32
  let c1_i32 : BitVec 32 := 1#32
  let arg15 : BitVec 32 := Scf.iv c0_i32 c1_i32 k0_t1
  let c1_i32_27 : BitVec 32 := 1#32
  let v33 : BitVec 32 := Scalar.muli arg15 c1_i32_27
  let v34 : BitVec 32 := Scalar.addi c0_i32_28 v33
  let c32_i32 : BitVec 32 := 32#32
  let v35 : BitVec 32 := Scalar.muli v34 c32_i32
  let v36 : BitVec 32 := v35
  let v418 : Index := Scalar.indexCast v36
  let c1664 : Index := 1664#32
  ![v418.toNat, 1664]
def k0_off26 (k0_t1 : Fin k0_t1_loop.trips) : Fin 2 → Nat :=
  let c0_i32_28 : BitVec 32 := 0#32
  let c0_i32 : BitVec 32 := 0#32
  let c1_i32 : BitVec 32 := 1#32
  let arg15 : BitVec 32 := Scf.iv c0_i32 c1_i32 k0_t1
  let c1_i32_27 : BitVec 32 := 1#32
  let v33 : BitVec 32 := Scalar.muli arg15 c1_i32_27
  let v34 : BitVec 32 := Scalar.addi c0_i32_28 v33
  let c32_i32 : BitVec 32 := 32#32
  let v35 : BitVec 32 := Scalar.muli v34 c32_i32
  let v36 : BitVec 32 := v35
  let v429 : Index := Scalar.indexCast v36
  let c1792 : Index := 1792#32
  ![v429.toNat, 1792]
def k0_off27 (k0_t1 : Fin k0_t1_loop.trips) : Fin 2 → Nat :=
  let c0_i32_28 : BitVec 32 := 0#32
  let c0_i32 : BitVec 32 := 0#32
  let c1_i32 : BitVec 32 := 1#32
  let arg15 : BitVec 32 := Scf.iv c0_i32 c1_i32 k0_t1
  let c1_i32_27 : BitVec 32 := 1#32
  let v33 : BitVec 32 := Scalar.muli arg15 c1_i32_27
  let v34 : BitVec 32 := Scalar.addi c0_i32_28 v33
  let c32_i32 : BitVec 32 := 32#32
  let v35 : BitVec 32 := Scalar.muli v34 c32_i32
  let v36 : BitVec 32 := v35
  let v440 : Index := Scalar.indexCast v36
  let c1920 : Index := 1920#32
  ![v440.toNat, 1920]
def k0_off28 (k0_t1 : Fin k0_t1_loop.trips) : Fin 2 → Nat :=
  let c0_i32_28 : BitVec 32 := 0#32
  let c0_i32 : BitVec 32 := 0#32
  let c1_i32 : BitVec 32 := 1#32
  let arg15 : BitVec 32 := Scf.iv c0_i32 c1_i32 k0_t1
  let c1_i32_27 : BitVec 32 := 1#32
  let v33 : BitVec 32 := Scalar.muli arg15 c1_i32_27
  let v34 : BitVec 32 := Scalar.addi c0_i32_28 v33
  let c32_i32 : BitVec 32 := 32#32
  let v35 : BitVec 32 := Scalar.muli v34 c32_i32
  let v36 : BitVec 32 := v35
  let v451 : Index := Scalar.indexCast v36
  let c2048 : Index := 2048#32
  ![v451.toNat, 2048]
def k0_off29 (k0_t1 : Fin k0_t1_loop.trips) : Fin 2 → Nat :=
  let c0_i32_28 : BitVec 32 := 0#32
  let c0_i32 : BitVec 32 := 0#32
  let c1_i32 : BitVec 32 := 1#32
  let arg15 : BitVec 32 := Scf.iv c0_i32 c1_i32 k0_t1
  let c1_i32_27 : BitVec 32 := 1#32
  let v33 : BitVec 32 := Scalar.muli arg15 c1_i32_27
  let v34 : BitVec 32 := Scalar.addi c0_i32_28 v33
  let c32_i32 : BitVec 32 := 32#32
  let v35 : BitVec 32 := Scalar.muli v34 c32_i32
  let v36 : BitVec 32 := v35
  let v462 : Index := Scalar.indexCast v36
  let c2176 : Index := 2176#32
  ![v462.toNat, 2176]
def k0_off30 (k0_t1 : Fin k0_t1_loop.trips) : Fin 2 → Nat :=
  let c0_i32_28 : BitVec 32 := 0#32
  let c0_i32 : BitVec 32 := 0#32
  let c1_i32 : BitVec 32 := 1#32
  let arg15 : BitVec 32 := Scf.iv c0_i32 c1_i32 k0_t1
  let c1_i32_27 : BitVec 32 := 1#32
  let v33 : BitVec 32 := Scalar.muli arg15 c1_i32_27
  let v34 : BitVec 32 := Scalar.addi c0_i32_28 v33
  let c32_i32 : BitVec 32 := 32#32
  let v35 : BitVec 32 := Scalar.muli v34 c32_i32
  let v36 : BitVec 32 := v35
  let v473 : Index := Scalar.indexCast v36
  let c2304 : Index := 2304#32
  ![v473.toNat, 2304]
def k0_off31 (k0_t1 : Fin k0_t1_loop.trips) : Fin 2 → Nat :=
  let c0_i32_28 : BitVec 32 := 0#32
  let c0_i32 : BitVec 32 := 0#32
  let c1_i32 : BitVec 32 := 1#32
  let arg15 : BitVec 32 := Scf.iv c0_i32 c1_i32 k0_t1
  let c1_i32_27 : BitVec 32 := 1#32
  let v33 : BitVec 32 := Scalar.muli arg15 c1_i32_27
  let v34 : BitVec 32 := Scalar.addi c0_i32_28 v33
  let c32_i32 : BitVec 32 := 32#32
  let v35 : BitVec 32 := Scalar.muli v34 c32_i32
  let v36 : BitVec 32 := v35
  let v484 : Index := Scalar.indexCast v36
  let c2432 : Index := 2432#32
  ![v484.toNat, 2432]
def k0_off32 (k0_t1 : Fin k0_t1_loop.trips) : Fin 2 → Nat :=
  let c0_i32_28 : BitVec 32 := 0#32
  let c0_i32 : BitVec 32 := 0#32
  let c1_i32 : BitVec 32 := 1#32
  let arg15 : BitVec 32 := Scf.iv c0_i32 c1_i32 k0_t1
  let c1_i32_27 : BitVec 32 := 1#32
  let v33 : BitVec 32 := Scalar.muli arg15 c1_i32_27
  let v34 : BitVec 32 := Scalar.addi c0_i32_28 v33
  let c32_i32 : BitVec 32 := 32#32
  let v35 : BitVec 32 := Scalar.muli v34 c32_i32
  let v36 : BitVec 32 := v35
  let v495 : Index := Scalar.indexCast v36
  let c2560 : Index := 2560#32
  ![v495.toNat, 2560]
def k0_off33 (k0_t1 : Fin k0_t1_loop.trips) : Fin 2 → Nat :=
  let c0_i32_28 : BitVec 32 := 0#32
  let c0_i32 : BitVec 32 := 0#32
  let c1_i32 : BitVec 32 := 1#32
  let arg15 : BitVec 32 := Scf.iv c0_i32 c1_i32 k0_t1
  let c1_i32_27 : BitVec 32 := 1#32
  let v33 : BitVec 32 := Scalar.muli arg15 c1_i32_27
  let v34 : BitVec 32 := Scalar.addi c0_i32_28 v33
  let c32_i32 : BitVec 32 := 32#32
  let v35 : BitVec 32 := Scalar.muli v34 c32_i32
  let v36 : BitVec 32 := v35
  let v506 : Index := Scalar.indexCast v36
  let c2688 : Index := 2688#32
  ![v506.toNat, 2688]
def k0_off34 (k0_t1 : Fin k0_t1_loop.trips) : Fin 2 → Nat :=
  let c0_i32_28 : BitVec 32 := 0#32
  let c0_i32 : BitVec 32 := 0#32
  let c1_i32 : BitVec 32 := 1#32
  let arg15 : BitVec 32 := Scf.iv c0_i32 c1_i32 k0_t1
  let c1_i32_27 : BitVec 32 := 1#32
  let v33 : BitVec 32 := Scalar.muli arg15 c1_i32_27
  let v34 : BitVec 32 := Scalar.addi c0_i32_28 v33
  let c32_i32 : BitVec 32 := 32#32
  let v35 : BitVec 32 := Scalar.muli v34 c32_i32
  let v36 : BitVec 32 := v35
  let v517 : Index := Scalar.indexCast v36
  let c2816 : Index := 2816#32
  ![v517.toNat, 2816]
def k0_off35 (k0_t1 : Fin k0_t1_loop.trips) : Fin 2 → Nat :=
  let c0_i32_28 : BitVec 32 := 0#32
  let c0_i32 : BitVec 32 := 0#32
  let c1_i32 : BitVec 32 := 1#32
  let arg15 : BitVec 32 := Scf.iv c0_i32 c1_i32 k0_t1
  let c1_i32_27 : BitVec 32 := 1#32
  let v33 : BitVec 32 := Scalar.muli arg15 c1_i32_27
  let v34 : BitVec 32 := Scalar.addi c0_i32_28 v33
  let c32_i32 : BitVec 32 := 32#32
  let v35 : BitVec 32 := Scalar.muli v34 c32_i32
  let v36 : BitVec 32 := v35
  let v528 : Index := Scalar.indexCast v36
  let c2944 : Index := 2944#32
  ![v528.toNat, 2944]
def k0_off36 (k0_t1 : Fin k0_t1_loop.trips) : Fin 2 → Nat :=
  let c0_i32_28 : BitVec 32 := 0#32
  let c0_i32 : BitVec 32 := 0#32
  let c1_i32 : BitVec 32 := 1#32
  let arg15 : BitVec 32 := Scf.iv c0_i32 c1_i32 k0_t1
  let c1_i32_27 : BitVec 32 := 1#32
  let v33 : BitVec 32 := Scalar.muli arg15 c1_i32_27
  let v34 : BitVec 32 := Scalar.addi c0_i32_28 v33
  let c32_i32 : BitVec 32 := 32#32
  let v35 : BitVec 32 := Scalar.muli v34 c32_i32
  let v36 : BitVec 32 := v35
  let v539 : Index := Scalar.indexCast v36
  let c3072 : Index := 3072#32
  ![v539.toNat, 3072]
def k0_off37 (k0_t1 : Fin k0_t1_loop.trips) : Fin 2 → Nat :=
  let c0_i32_28 : BitVec 32 := 0#32
  let c0_i32 : BitVec 32 := 0#32
  let c1_i32 : BitVec 32 := 1#32
  let arg15 : BitVec 32 := Scf.iv c0_i32 c1_i32 k0_t1
  let c1_i32_27 : BitVec 32 := 1#32
  let v33 : BitVec 32 := Scalar.muli arg15 c1_i32_27
  let v34 : BitVec 32 := Scalar.addi c0_i32_28 v33
  let c32_i32 : BitVec 32 := 32#32
  let v35 : BitVec 32 := Scalar.muli v34 c32_i32
  let v36 : BitVec 32 := v35
  let v550 : Index := Scalar.indexCast v36
  let c3200 : Index := 3200#32
  ![v550.toNat, 3200]
def k0_off38 (k0_t1 : Fin k0_t1_loop.trips) : Fin 2 → Nat :=
  let c0_i32_28 : BitVec 32 := 0#32
  let c0_i32 : BitVec 32 := 0#32
  let c1_i32 : BitVec 32 := 1#32
  let arg15 : BitVec 32 := Scf.iv c0_i32 c1_i32 k0_t1
  let c1_i32_27 : BitVec 32 := 1#32
  let v33 : BitVec 32 := Scalar.muli arg15 c1_i32_27
  let v34 : BitVec 32 := Scalar.addi c0_i32_28 v33
  let c32_i32 : BitVec 32 := 32#32
  let v35 : BitVec 32 := Scalar.muli v34 c32_i32
  let v36 : BitVec 32 := v35
  let v561 : Index := Scalar.indexCast v36
  let c3328 : Index := 3328#32
  ![v561.toNat, 3328]
def k0_off39 (k0_t1 : Fin k0_t1_loop.trips) : Fin 2 → Nat :=
  let c0_i32_28 : BitVec 32 := 0#32
  let c0_i32 : BitVec 32 := 0#32
  let c1_i32 : BitVec 32 := 1#32
  let arg15 : BitVec 32 := Scf.iv c0_i32 c1_i32 k0_t1
  let c1_i32_27 : BitVec 32 := 1#32
  let v33 : BitVec 32 := Scalar.muli arg15 c1_i32_27
  let v34 : BitVec 32 := Scalar.addi c0_i32_28 v33
  let c32_i32 : BitVec 32 := 32#32
  let v35 : BitVec 32 := Scalar.muli v34 c32_i32
  let v36 : BitVec 32 := v35
  let v572 : Index := Scalar.indexCast v36
  let c3456 : Index := 3456#32
  ![v572.toNat, 3456]
def k0_off40 (k0_t1 : Fin k0_t1_loop.trips) : Fin 2 → Nat :=
  let c0_i32_28 : BitVec 32 := 0#32
  let c0_i32 : BitVec 32 := 0#32
  let c1_i32 : BitVec 32 := 1#32
  let arg15 : BitVec 32 := Scf.iv c0_i32 c1_i32 k0_t1
  let c1_i32_27 : BitVec 32 := 1#32
  let v33 : BitVec 32 := Scalar.muli arg15 c1_i32_27
  let v34 : BitVec 32 := Scalar.addi c0_i32_28 v33
  let c32_i32 : BitVec 32 := 32#32
  let v35 : BitVec 32 := Scalar.muli v34 c32_i32
  let v36 : BitVec 32 := v35
  let v583 : Index := Scalar.indexCast v36
  let c3584 : Index := 3584#32
  ![v583.toNat, 3584]
def k0_off41 (k0_t1 : Fin k0_t1_loop.trips) : Fin 2 → Nat :=
  let c0_i32_28 : BitVec 32 := 0#32
  let c0_i32 : BitVec 32 := 0#32
  let c1_i32 : BitVec 32 := 1#32
  let arg15 : BitVec 32 := Scf.iv c0_i32 c1_i32 k0_t1
  let c1_i32_27 : BitVec 32 := 1#32
  let v33 : BitVec 32 := Scalar.muli arg15 c1_i32_27
  let v34 : BitVec 32 := Scalar.addi c0_i32_28 v33
  let c32_i32 : BitVec 32 := 32#32
  let v35 : BitVec 32 := Scalar.muli v34 c32_i32
  let v36 : BitVec 32 := v35
  let v594 : Index := Scalar.indexCast v36
  let c3712 : Index := 3712#32
  ![v594.toNat, 3712]
def k0_off42 (k0_t1 : Fin k0_t1_loop.trips) : Fin 2 → Nat :=
  let c0_i32_28 : BitVec 32 := 0#32
  let c0_i32 : BitVec 32 := 0#32
  let c1_i32 : BitVec 32 := 1#32
  let arg15 : BitVec 32 := Scf.iv c0_i32 c1_i32 k0_t1
  let c1_i32_27 : BitVec 32 := 1#32
  let v33 : BitVec 32 := Scalar.muli arg15 c1_i32_27
  let v34 : BitVec 32 := Scalar.addi c0_i32_28 v33
  let c32_i32 : BitVec 32 := 32#32
  let v35 : BitVec 32 := Scalar.muli v34 c32_i32
  let v36 : BitVec 32 := v35
  let v605 : Index := Scalar.indexCast v36
  let c3840 : Index := 3840#32
  ![v605.toNat, 3840]
def k0_off43 (k0_t1 : Fin k0_t1_loop.trips) : Fin 2 → Nat :=
  let c0_i32_28 : BitVec 32 := 0#32
  let c0_i32 : BitVec 32 := 0#32
  let c1_i32 : BitVec 32 := 1#32
  let arg15 : BitVec 32 := Scf.iv c0_i32 c1_i32 k0_t1
  let c1_i32_27 : BitVec 32 := 1#32
  let v33 : BitVec 32 := Scalar.muli arg15 c1_i32_27
  let v34 : BitVec 32 := Scalar.addi c0_i32_28 v33
  let c32_i32 : BitVec 32 := 32#32
  let v35 : BitVec 32 := Scalar.muli v34 c32_i32
  let v36 : BitVec 32 := v35
  let v616 : Index := Scalar.indexCast v36
  let c3968 : Index := 3968#32
  ![v616.toNat, 3968]
def k0_off44 (k0_t1 : Fin k0_t1_loop.trips) : Fin 2 → Nat :=
  let c0_i32_28 : BitVec 32 := 0#32
  let c0_i32 : BitVec 32 := 0#32
  let c1_i32 : BitVec 32 := 1#32
  let arg15 : BitVec 32 := Scf.iv c0_i32 c1_i32 k0_t1
  let c1_i32_27 : BitVec 32 := 1#32
  let v33 : BitVec 32 := Scalar.muli arg15 c1_i32_27
  let v34 : BitVec 32 := Scalar.addi c0_i32_28 v33
  let c32_i32 : BitVec 32 := 32#32
  let v35 : BitVec 32 := Scalar.muli v34 c32_i32
  let v36 : BitVec 32 := v35
  let v627 : Index := Scalar.indexCast v36
  let c4096 : Index := 4096#32
  ![v627.toNat, 4096]
def k0_off45 (k0_t1 : Fin k0_t1_loop.trips) : Fin 2 → Nat :=
  let c0_i32_28 : BitVec 32 := 0#32
  let c0_i32 : BitVec 32 := 0#32
  let c1_i32 : BitVec 32 := 1#32
  let arg15 : BitVec 32 := Scf.iv c0_i32 c1_i32 k0_t1
  let c1_i32_27 : BitVec 32 := 1#32
  let v33 : BitVec 32 := Scalar.muli arg15 c1_i32_27
  let v34 : BitVec 32 := Scalar.addi c0_i32_28 v33
  let c32_i32 : BitVec 32 := 32#32
  let v35 : BitVec 32 := Scalar.muli v34 c32_i32
  let v36 : BitVec 32 := v35
  let v638 : Index := Scalar.indexCast v36
  let c4224 : Index := 4224#32
  ![v638.toNat, 4224]
def k0_off46 (k0_t1 : Fin k0_t1_loop.trips) : Fin 2 → Nat :=
  let c0_i32_28 : BitVec 32 := 0#32
  let c0_i32 : BitVec 32 := 0#32
  let c1_i32 : BitVec 32 := 1#32
  let arg15 : BitVec 32 := Scf.iv c0_i32 c1_i32 k0_t1
  let c1_i32_27 : BitVec 32 := 1#32
  let v33 : BitVec 32 := Scalar.muli arg15 c1_i32_27
  let v34 : BitVec 32 := Scalar.addi c0_i32_28 v33
  let c32_i32 : BitVec 32 := 32#32
  let v35 : BitVec 32 := Scalar.muli v34 c32_i32
  let v36 : BitVec 32 := v35
  let v649 : Index := Scalar.indexCast v36
  let c4352 : Index := 4352#32
  ![v649.toNat, 4352]
def k0_off47 (k0_t1 : Fin k0_t1_loop.trips) : Fin 2 → Nat :=
  let c0_i32_28 : BitVec 32 := 0#32
  let c0_i32 : BitVec 32 := 0#32
  let c1_i32 : BitVec 32 := 1#32
  let arg15 : BitVec 32 := Scf.iv c0_i32 c1_i32 k0_t1
  let c1_i32_27 : BitVec 32 := 1#32
  let v33 : BitVec 32 := Scalar.muli arg15 c1_i32_27
  let v34 : BitVec 32 := Scalar.addi c0_i32_28 v33
  let c32_i32 : BitVec 32 := 32#32
  let v35 : BitVec 32 := Scalar.muli v34 c32_i32
  let v36 : BitVec 32 := v35
  let v660 : Index := Scalar.indexCast v36
  let c4480 : Index := 4480#32
  ![v660.toNat, 4480]
def k0_off48 (k0_t1 : Fin k0_t1_loop.trips) : Fin 2 → Nat :=
  let c0_i32_28 : BitVec 32 := 0#32
  let c0_i32 : BitVec 32 := 0#32
  let c1_i32 : BitVec 32 := 1#32
  let arg15 : BitVec 32 := Scf.iv c0_i32 c1_i32 k0_t1
  let c1_i32_27 : BitVec 32 := 1#32
  let v33 : BitVec 32 := Scalar.muli arg15 c1_i32_27
  let v34 : BitVec 32 := Scalar.addi c0_i32_28 v33
  let c32_i32 : BitVec 32 := 32#32
  let v35 : BitVec 32 := Scalar.muli v34 c32_i32
  let v36 : BitVec 32 := v35
  let v671 : Index := Scalar.indexCast v36
  let c4608 : Index := 4608#32
  ![v671.toNat, 4608]
def k0_off49 (k0_t1 : Fin k0_t1_loop.trips) : Fin 2 → Nat :=
  let c0_i32_28 : BitVec 32 := 0#32
  let c0_i32 : BitVec 32 := 0#32
  let c1_i32 : BitVec 32 := 1#32
  let arg15 : BitVec 32 := Scf.iv c0_i32 c1_i32 k0_t1
  let c1_i32_27 : BitVec 32 := 1#32
  let v33 : BitVec 32 := Scalar.muli arg15 c1_i32_27
  let v34 : BitVec 32 := Scalar.addi c0_i32_28 v33
  let c32_i32 : BitVec 32 := 32#32
  let v35 : BitVec 32 := Scalar.muli v34 c32_i32
  let v36 : BitVec 32 := v35
  let v682 : Index := Scalar.indexCast v36
  let c4736 : Index := 4736#32
  ![v682.toNat, 4736]
def k0_off50 (k0_t1 : Fin k0_t1_loop.trips) : Fin 2 → Nat :=
  let c0_i32_28 : BitVec 32 := 0#32
  let c0_i32 : BitVec 32 := 0#32
  let c1_i32 : BitVec 32 := 1#32
  let arg15 : BitVec 32 := Scf.iv c0_i32 c1_i32 k0_t1
  let c1_i32_27 : BitVec 32 := 1#32
  let v33 : BitVec 32 := Scalar.muli arg15 c1_i32_27
  let v34 : BitVec 32 := Scalar.addi c0_i32_28 v33
  let c32_i32 : BitVec 32 := 32#32
  let v35 : BitVec 32 := Scalar.muli v34 c32_i32
  let v36 : BitVec 32 := v35
  let v693 : Index := Scalar.indexCast v36
  let c4864 : Index := 4864#32
  ![v693.toNat, 4864]
def k0_off51 (k0_t1 : Fin k0_t1_loop.trips) : Fin 2 → Nat :=
  let c0_i32_28 : BitVec 32 := 0#32
  let c0_i32 : BitVec 32 := 0#32
  let c1_i32 : BitVec 32 := 1#32
  let arg15 : BitVec 32 := Scf.iv c0_i32 c1_i32 k0_t1
  let c1_i32_27 : BitVec 32 := 1#32
  let v33 : BitVec 32 := Scalar.muli arg15 c1_i32_27
  let v34 : BitVec 32 := Scalar.addi c0_i32_28 v33
  let c32_i32 : BitVec 32 := 32#32
  let v35 : BitVec 32 := Scalar.muli v34 c32_i32
  let v36 : BitVec 32 := v35
  let v704 : Index := Scalar.indexCast v36
  let c4992 : Index := 4992#32
  ![v704.toNat, 4992]
@[reducible] def k0_t2_loop : Scf.Loop 32 :=
  let c0_i32_2 : BitVec 32 := 0#32
  let c10_i32 : BitVec 32 := 10#32
  let v5 : BitVec 32 := Scalar.addi c0_i32_2 c10_i32
  let c1_i32_3 : BitVec 32 := 1#32
  ⟨c0_i32_2, v5, c1_i32_3⟩
def k0_mult3 (k0_t2 : Fin k0_t2_loop.trips) : BitVec 32 :=
  let c0_i32_28 : BitVec 32 := 0#32
  let c0_i32_2 : BitVec 32 := 0#32
  let c1_i32_3 : BitVec 32 := 1#32
  let arg15 : BitVec 32 := Scf.iv c0_i32_2 c1_i32_3 k0_t2
  let c1_i32_27 : BitVec 32 := 1#32
  let v33 : BitVec 32 := Scalar.muli arg15 c1_i32_27
  let v34 : BitVec 32 := Scalar.addi c0_i32_28 v33
  let c512_i32 : BitVec 32 := 512#32
  let v35 : BitVec 32 := Scalar.muli v34 c512_i32
  v35
def k0_off52 (k0_t2 : Fin k0_t2_loop.trips) : Fin 2 → Nat :=
  let c0_31 : Index := 0#32
  let c0_i32_28 : BitVec 32 := 0#32
  let c0_i32_2 : BitVec 32 := 0#32
  let c1_i32_3 : BitVec 32 := 1#32
  let arg15 : BitVec 32 := Scf.iv c0_i32_2 c1_i32_3 k0_t2
  let c1_i32_27 : BitVec 32 := 1#32
  let v33 : BitVec 32 := Scalar.muli arg15 c1_i32_27
  let v34 : BitVec 32 := Scalar.addi c0_i32_28 v33
  let c512_i32 : BitVec 32 := 512#32
  let v35 : BitVec 32 := Scalar.muli v34 c512_i32
  let v36 : BitVec 32 := v35
  let v39 : Index := Scalar.indexCast v36
  ![0, v39.toNat]
def k0_off53 (k0_t2 : Fin k0_t2_loop.trips) : Fin 2 → Nat :=
  let c0_35 : Index := 0#32
  let c0_i32_28 : BitVec 32 := 0#32
  let c0_i32_2 : BitVec 32 := 0#32
  let c1_i32_3 : BitVec 32 := 1#32
  let arg15 : BitVec 32 := Scf.iv c0_i32_2 c1_i32_3 k0_t2
  let c1_i32_27 : BitVec 32 := 1#32
  let v33 : BitVec 32 := Scalar.muli arg15 c1_i32_27
  let v34 : BitVec 32 := Scalar.addi c0_i32_28 v33
  let c512_i32 : BitVec 32 := 512#32
  let v35 : BitVec 32 := Scalar.muli v34 c512_i32
  let v36 : BitVec 32 := v35
  let v45 : Index := Scalar.indexCast v36
  ![0, v45.toNat]
def k0_off54 (k0_t2 : Fin k0_t2_loop.trips) : Fin 2 → Nat :=
  let c0_40 : Index := 0#32
  let c0_i32_28 : BitVec 32 := 0#32
  let c0_i32_2 : BitVec 32 := 0#32
  let c1_i32_3 : BitVec 32 := 1#32
  let arg15 : BitVec 32 := Scf.iv c0_i32_2 c1_i32_3 k0_t2
  let c1_i32_27 : BitVec 32 := 1#32
  let v33 : BitVec 32 := Scalar.muli arg15 c1_i32_27
  let v34 : BitVec 32 := Scalar.addi c0_i32_28 v33
  let c512_i32 : BitVec 32 := 512#32
  let v35 : BitVec 32 := Scalar.muli v34 c512_i32
  let v36 : BitVec 32 := v35
  let v63 : Index := Scalar.indexCast v36
  ![0, v63.toNat]
@[reducible] def k0_t3_loop : Scf.Loop 32 :=
  let c0_i32_23 : BitVec 32 := 0#32
  let c8_i32_24 : BitVec 32 := 8#32
  let v32 : BitVec 32 := Scalar.addi c0_i32_23 c8_i32_24
  let c1_i32_25 : BitVec 32 := 1#32
  ⟨c0_i32_23, v32, c1_i32_25⟩
def k0_mult4 (k0_t3 : Fin k0_t3_loop.trips) : BitVec 32 :=
  let c0_i32_28 : BitVec 32 := 0#32
  let c0_i32_23 : BitVec 32 := 0#32
  let c1_i32_25 : BitVec 32 := 1#32
  let arg15 : BitVec 32 := Scf.iv c0_i32_23 c1_i32_25 k0_t3
  let c1_i32_27 : BitVec 32 := 1#32
  let v33 : BitVec 32 := Scalar.muli arg15 c1_i32_27
  let v34 : BitVec 32 := Scalar.addi c0_i32_28 v33
  let c32_i32 : BitVec 32 := 32#32
  let v35 : BitVec 32 := Scalar.muli v34 c32_i32
  v35
def k0_off55 (k0_t3 : Fin k0_t3_loop.trips) : Fin 2 → Nat :=
  let c0_i32_28 : BitVec 32 := 0#32
  let c0_i32_23 : BitVec 32 := 0#32
  let c1_i32_25 : BitVec 32 := 1#32
  let arg15 : BitVec 32 := Scf.iv c0_i32_23 c1_i32_25 k0_t3
  let c1_i32_27 : BitVec 32 := 1#32
  let v33 : BitVec 32 := Scalar.muli arg15 c1_i32_27
  let v34 : BitVec 32 := Scalar.addi c0_i32_28 v33
  let c32_i32 : BitVec 32 := 32#32
  let v35 : BitVec 32 := Scalar.muli v34 c32_i32
  let v36 : BitVec 32 := v35
  let v37 : Index := Scalar.indexCast v36
  let c0_29 : Index := 0#32
  ![v37.toNat, 0]
def k0_off56 (k0_t3 : Fin k0_t3_loop.trips) : Fin 2 → Nat :=
  let c0_i32_28 : BitVec 32 := 0#32
  let c0_i32_23 : BitVec 32 := 0#32
  let c1_i32_25 : BitVec 32 := 1#32
  let arg15 : BitVec 32 := Scf.iv c0_i32_23 c1_i32_25 k0_t3
  let c1_i32_27 : BitVec 32 := 1#32
  let v33 : BitVec 32 := Scalar.muli arg15 c1_i32_27
  let v34 : BitVec 32 := Scalar.addi c0_i32_28 v33
  let c32_i32 : BitVec 32 := 32#32
  let v35 : BitVec 32 := Scalar.muli v34 c32_i32
  let v36 : BitVec 32 := v35
  let v41 : Index := Scalar.indexCast v36
  let c0_31 : Index := 0#32
  ![v41.toNat, 0]
def k0_off57 (k0_t3 : Fin k0_t3_loop.trips) : Fin 2 → Nat :=
  let c0_i32_28 : BitVec 32 := 0#32
  let c0_i32_23 : BitVec 32 := 0#32
  let c1_i32_25 : BitVec 32 := 1#32
  let arg15 : BitVec 32 := Scf.iv c0_i32_23 c1_i32_25 k0_t3
  let c1_i32_27 : BitVec 32 := 1#32
  let v33 : BitVec 32 := Scalar.muli arg15 c1_i32_27
  let v34 : BitVec 32 := Scalar.addi c0_i32_28 v33
  let c32_i32 : BitVec 32 := 32#32
  let v35 : BitVec 32 := Scalar.muli v34 c32_i32
  let v36 : BitVec 32 := v35
  let v52 : Index := Scalar.indexCast v36
  let c128 : Index := 128#32
  ![v52.toNat, 128]
def k0_off58 (k0_t3 : Fin k0_t3_loop.trips) : Fin 2 → Nat :=
  let c0_i32_28 : BitVec 32 := 0#32
  let c0_i32_23 : BitVec 32 := 0#32
  let c1_i32_25 : BitVec 32 := 1#32
  let arg15 : BitVec 32 := Scf.iv c0_i32_23 c1_i32_25 k0_t3
  let c1_i32_27 : BitVec 32 := 1#32
  let v33 : BitVec 32 := Scalar.muli arg15 c1_i32_27
  let v34 : BitVec 32 := Scalar.addi c0_i32_28 v33
  let c32_i32 : BitVec 32 := 32#32
  let v35 : BitVec 32 := Scalar.muli v34 c32_i32
  let v36 : BitVec 32 := v35
  let v63 : Index := Scalar.indexCast v36
  let c256 : Index := 256#32
  ![v63.toNat, 256]
def k0_off59 (k0_t3 : Fin k0_t3_loop.trips) : Fin 2 → Nat :=
  let c0_i32_28 : BitVec 32 := 0#32
  let c0_i32_23 : BitVec 32 := 0#32
  let c1_i32_25 : BitVec 32 := 1#32
  let arg15 : BitVec 32 := Scf.iv c0_i32_23 c1_i32_25 k0_t3
  let c1_i32_27 : BitVec 32 := 1#32
  let v33 : BitVec 32 := Scalar.muli arg15 c1_i32_27
  let v34 : BitVec 32 := Scalar.addi c0_i32_28 v33
  let c32_i32 : BitVec 32 := 32#32
  let v35 : BitVec 32 := Scalar.muli v34 c32_i32
  let v36 : BitVec 32 := v35
  let v74 : Index := Scalar.indexCast v36
  let c384 : Index := 384#32
  ![v74.toNat, 384]
def k0_off60 (k0_t3 : Fin k0_t3_loop.trips) : Fin 2 → Nat :=
  let c0_i32_28 : BitVec 32 := 0#32
  let c0_i32_23 : BitVec 32 := 0#32
  let c1_i32_25 : BitVec 32 := 1#32
  let arg15 : BitVec 32 := Scf.iv c0_i32_23 c1_i32_25 k0_t3
  let c1_i32_27 : BitVec 32 := 1#32
  let v33 : BitVec 32 := Scalar.muli arg15 c1_i32_27
  let v34 : BitVec 32 := Scalar.addi c0_i32_28 v33
  let c32_i32 : BitVec 32 := 32#32
  let v35 : BitVec 32 := Scalar.muli v34 c32_i32
  let v36 : BitVec 32 := v35
  let v85 : Index := Scalar.indexCast v36
  let c512 : Index := 512#32
  ![v85.toNat, 512]
def k0_off61 (k0_t3 : Fin k0_t3_loop.trips) : Fin 2 → Nat :=
  let c0_i32_28 : BitVec 32 := 0#32
  let c0_i32_23 : BitVec 32 := 0#32
  let c1_i32_25 : BitVec 32 := 1#32
  let arg15 : BitVec 32 := Scf.iv c0_i32_23 c1_i32_25 k0_t3
  let c1_i32_27 : BitVec 32 := 1#32
  let v33 : BitVec 32 := Scalar.muli arg15 c1_i32_27
  let v34 : BitVec 32 := Scalar.addi c0_i32_28 v33
  let c32_i32 : BitVec 32 := 32#32
  let v35 : BitVec 32 := Scalar.muli v34 c32_i32
  let v36 : BitVec 32 := v35
  let v96 : Index := Scalar.indexCast v36
  let c640 : Index := 640#32
  ![v96.toNat, 640]
def k0_off62 (k0_t3 : Fin k0_t3_loop.trips) : Fin 2 → Nat :=
  let c0_i32_28 : BitVec 32 := 0#32
  let c0_i32_23 : BitVec 32 := 0#32
  let c1_i32_25 : BitVec 32 := 1#32
  let arg15 : BitVec 32 := Scf.iv c0_i32_23 c1_i32_25 k0_t3
  let c1_i32_27 : BitVec 32 := 1#32
  let v33 : BitVec 32 := Scalar.muli arg15 c1_i32_27
  let v34 : BitVec 32 := Scalar.addi c0_i32_28 v33
  let c32_i32 : BitVec 32 := 32#32
  let v35 : BitVec 32 := Scalar.muli v34 c32_i32
  let v36 : BitVec 32 := v35
  let v107 : Index := Scalar.indexCast v36
  let c768 : Index := 768#32
  ![v107.toNat, 768]
def k0_off63 (k0_t3 : Fin k0_t3_loop.trips) : Fin 2 → Nat :=
  let c0_i32_28 : BitVec 32 := 0#32
  let c0_i32_23 : BitVec 32 := 0#32
  let c1_i32_25 : BitVec 32 := 1#32
  let arg15 : BitVec 32 := Scf.iv c0_i32_23 c1_i32_25 k0_t3
  let c1_i32_27 : BitVec 32 := 1#32
  let v33 : BitVec 32 := Scalar.muli arg15 c1_i32_27
  let v34 : BitVec 32 := Scalar.addi c0_i32_28 v33
  let c32_i32 : BitVec 32 := 32#32
  let v35 : BitVec 32 := Scalar.muli v34 c32_i32
  let v36 : BitVec 32 := v35
  let v118 : Index := Scalar.indexCast v36
  let c896 : Index := 896#32
  ![v118.toNat, 896]
def k0_off64 (k0_t3 : Fin k0_t3_loop.trips) : Fin 2 → Nat :=
  let c0_i32_28 : BitVec 32 := 0#32
  let c0_i32_23 : BitVec 32 := 0#32
  let c1_i32_25 : BitVec 32 := 1#32
  let arg15 : BitVec 32 := Scf.iv c0_i32_23 c1_i32_25 k0_t3
  let c1_i32_27 : BitVec 32 := 1#32
  let v33 : BitVec 32 := Scalar.muli arg15 c1_i32_27
  let v34 : BitVec 32 := Scalar.addi c0_i32_28 v33
  let c32_i32 : BitVec 32 := 32#32
  let v35 : BitVec 32 := Scalar.muli v34 c32_i32
  let v36 : BitVec 32 := v35
  let v129 : Index := Scalar.indexCast v36
  let c1024 : Index := 1024#32
  ![v129.toNat, 1024]
def k0_off65 (k0_t3 : Fin k0_t3_loop.trips) : Fin 2 → Nat :=
  let c0_i32_28 : BitVec 32 := 0#32
  let c0_i32_23 : BitVec 32 := 0#32
  let c1_i32_25 : BitVec 32 := 1#32
  let arg15 : BitVec 32 := Scf.iv c0_i32_23 c1_i32_25 k0_t3
  let c1_i32_27 : BitVec 32 := 1#32
  let v33 : BitVec 32 := Scalar.muli arg15 c1_i32_27
  let v34 : BitVec 32 := Scalar.addi c0_i32_28 v33
  let c32_i32 : BitVec 32 := 32#32
  let v35 : BitVec 32 := Scalar.muli v34 c32_i32
  let v36 : BitVec 32 := v35
  let v140 : Index := Scalar.indexCast v36
  let c1152 : Index := 1152#32
  ![v140.toNat, 1152]
def k0_off66 (k0_t3 : Fin k0_t3_loop.trips) : Fin 2 → Nat :=
  let c0_i32_28 : BitVec 32 := 0#32
  let c0_i32_23 : BitVec 32 := 0#32
  let c1_i32_25 : BitVec 32 := 1#32
  let arg15 : BitVec 32 := Scf.iv c0_i32_23 c1_i32_25 k0_t3
  let c1_i32_27 : BitVec 32 := 1#32
  let v33 : BitVec 32 := Scalar.muli arg15 c1_i32_27
  let v34 : BitVec 32 := Scalar.addi c0_i32_28 v33
  let c32_i32 : BitVec 32 := 32#32
  let v35 : BitVec 32 := Scalar.muli v34 c32_i32
  let v36 : BitVec 32 := v35
  let v151 : Index := Scalar.indexCast v36
  let c1280 : Index := 1280#32
  ![v151.toNat, 1280]
def k0_off67 (k0_t3 : Fin k0_t3_loop.trips) : Fin 2 → Nat :=
  let c0_i32_28 : BitVec 32 := 0#32
  let c0_i32_23 : BitVec 32 := 0#32
  let c1_i32_25 : BitVec 32 := 1#32
  let arg15 : BitVec 32 := Scf.iv c0_i32_23 c1_i32_25 k0_t3
  let c1_i32_27 : BitVec 32 := 1#32
  let v33 : BitVec 32 := Scalar.muli arg15 c1_i32_27
  let v34 : BitVec 32 := Scalar.addi c0_i32_28 v33
  let c32_i32 : BitVec 32 := 32#32
  let v35 : BitVec 32 := Scalar.muli v34 c32_i32
  let v36 : BitVec 32 := v35
  let v162 : Index := Scalar.indexCast v36
  let c1408 : Index := 1408#32
  ![v162.toNat, 1408]
def k0_off68 (k0_t3 : Fin k0_t3_loop.trips) : Fin 2 → Nat :=
  let c0_i32_28 : BitVec 32 := 0#32
  let c0_i32_23 : BitVec 32 := 0#32
  let c1_i32_25 : BitVec 32 := 1#32
  let arg15 : BitVec 32 := Scf.iv c0_i32_23 c1_i32_25 k0_t3
  let c1_i32_27 : BitVec 32 := 1#32
  let v33 : BitVec 32 := Scalar.muli arg15 c1_i32_27
  let v34 : BitVec 32 := Scalar.addi c0_i32_28 v33
  let c32_i32 : BitVec 32 := 32#32
  let v35 : BitVec 32 := Scalar.muli v34 c32_i32
  let v36 : BitVec 32 := v35
  let v173 : Index := Scalar.indexCast v36
  let c1536 : Index := 1536#32
  ![v173.toNat, 1536]
def k0_off69 (k0_t3 : Fin k0_t3_loop.trips) : Fin 2 → Nat :=
  let c0_i32_28 : BitVec 32 := 0#32
  let c0_i32_23 : BitVec 32 := 0#32
  let c1_i32_25 : BitVec 32 := 1#32
  let arg15 : BitVec 32 := Scf.iv c0_i32_23 c1_i32_25 k0_t3
  let c1_i32_27 : BitVec 32 := 1#32
  let v33 : BitVec 32 := Scalar.muli arg15 c1_i32_27
  let v34 : BitVec 32 := Scalar.addi c0_i32_28 v33
  let c32_i32 : BitVec 32 := 32#32
  let v35 : BitVec 32 := Scalar.muli v34 c32_i32
  let v36 : BitVec 32 := v35
  let v184 : Index := Scalar.indexCast v36
  let c1664 : Index := 1664#32
  ![v184.toNat, 1664]
def k0_off70 (k0_t3 : Fin k0_t3_loop.trips) : Fin 2 → Nat :=
  let c0_i32_28 : BitVec 32 := 0#32
  let c0_i32_23 : BitVec 32 := 0#32
  let c1_i32_25 : BitVec 32 := 1#32
  let arg15 : BitVec 32 := Scf.iv c0_i32_23 c1_i32_25 k0_t3
  let c1_i32_27 : BitVec 32 := 1#32
  let v33 : BitVec 32 := Scalar.muli arg15 c1_i32_27
  let v34 : BitVec 32 := Scalar.addi c0_i32_28 v33
  let c32_i32 : BitVec 32 := 32#32
  let v35 : BitVec 32 := Scalar.muli v34 c32_i32
  let v36 : BitVec 32 := v35
  let v195 : Index := Scalar.indexCast v36
  let c1792 : Index := 1792#32
  ![v195.toNat, 1792]
def k0_off71 (k0_t3 : Fin k0_t3_loop.trips) : Fin 2 → Nat :=
  let c0_i32_28 : BitVec 32 := 0#32
  let c0_i32_23 : BitVec 32 := 0#32
  let c1_i32_25 : BitVec 32 := 1#32
  let arg15 : BitVec 32 := Scf.iv c0_i32_23 c1_i32_25 k0_t3
  let c1_i32_27 : BitVec 32 := 1#32
  let v33 : BitVec 32 := Scalar.muli arg15 c1_i32_27
  let v34 : BitVec 32 := Scalar.addi c0_i32_28 v33
  let c32_i32 : BitVec 32 := 32#32
  let v35 : BitVec 32 := Scalar.muli v34 c32_i32
  let v36 : BitVec 32 := v35
  let v206 : Index := Scalar.indexCast v36
  let c1920 : Index := 1920#32
  ![v206.toNat, 1920]
def k0_off72 (k0_t3 : Fin k0_t3_loop.trips) : Fin 2 → Nat :=
  let c0_i32_28 : BitVec 32 := 0#32
  let c0_i32_23 : BitVec 32 := 0#32
  let c1_i32_25 : BitVec 32 := 1#32
  let arg15 : BitVec 32 := Scf.iv c0_i32_23 c1_i32_25 k0_t3
  let c1_i32_27 : BitVec 32 := 1#32
  let v33 : BitVec 32 := Scalar.muli arg15 c1_i32_27
  let v34 : BitVec 32 := Scalar.addi c0_i32_28 v33
  let c32_i32 : BitVec 32 := 32#32
  let v35 : BitVec 32 := Scalar.muli v34 c32_i32
  let v36 : BitVec 32 := v35
  let v217 : Index := Scalar.indexCast v36
  let c2048 : Index := 2048#32
  ![v217.toNat, 2048]
def k0_off73 (k0_t3 : Fin k0_t3_loop.trips) : Fin 2 → Nat :=
  let c0_i32_28 : BitVec 32 := 0#32
  let c0_i32_23 : BitVec 32 := 0#32
  let c1_i32_25 : BitVec 32 := 1#32
  let arg15 : BitVec 32 := Scf.iv c0_i32_23 c1_i32_25 k0_t3
  let c1_i32_27 : BitVec 32 := 1#32
  let v33 : BitVec 32 := Scalar.muli arg15 c1_i32_27
  let v34 : BitVec 32 := Scalar.addi c0_i32_28 v33
  let c32_i32 : BitVec 32 := 32#32
  let v35 : BitVec 32 := Scalar.muli v34 c32_i32
  let v36 : BitVec 32 := v35
  let v228 : Index := Scalar.indexCast v36
  let c2176 : Index := 2176#32
  ![v228.toNat, 2176]
def k0_off74 (k0_t3 : Fin k0_t3_loop.trips) : Fin 2 → Nat :=
  let c0_i32_28 : BitVec 32 := 0#32
  let c0_i32_23 : BitVec 32 := 0#32
  let c1_i32_25 : BitVec 32 := 1#32
  let arg15 : BitVec 32 := Scf.iv c0_i32_23 c1_i32_25 k0_t3
  let c1_i32_27 : BitVec 32 := 1#32
  let v33 : BitVec 32 := Scalar.muli arg15 c1_i32_27
  let v34 : BitVec 32 := Scalar.addi c0_i32_28 v33
  let c32_i32 : BitVec 32 := 32#32
  let v35 : BitVec 32 := Scalar.muli v34 c32_i32
  let v36 : BitVec 32 := v35
  let v239 : Index := Scalar.indexCast v36
  let c2304 : Index := 2304#32
  ![v239.toNat, 2304]
def k0_off75 (k0_t3 : Fin k0_t3_loop.trips) : Fin 2 → Nat :=
  let c0_i32_28 : BitVec 32 := 0#32
  let c0_i32_23 : BitVec 32 := 0#32
  let c1_i32_25 : BitVec 32 := 1#32
  let arg15 : BitVec 32 := Scf.iv c0_i32_23 c1_i32_25 k0_t3
  let c1_i32_27 : BitVec 32 := 1#32
  let v33 : BitVec 32 := Scalar.muli arg15 c1_i32_27
  let v34 : BitVec 32 := Scalar.addi c0_i32_28 v33
  let c32_i32 : BitVec 32 := 32#32
  let v35 : BitVec 32 := Scalar.muli v34 c32_i32
  let v36 : BitVec 32 := v35
  let v250 : Index := Scalar.indexCast v36
  let c2432 : Index := 2432#32
  ![v250.toNat, 2432]
def k0_off76 (k0_t3 : Fin k0_t3_loop.trips) : Fin 2 → Nat :=
  let c0_i32_28 : BitVec 32 := 0#32
  let c0_i32_23 : BitVec 32 := 0#32
  let c1_i32_25 : BitVec 32 := 1#32
  let arg15 : BitVec 32 := Scf.iv c0_i32_23 c1_i32_25 k0_t3
  let c1_i32_27 : BitVec 32 := 1#32
  let v33 : BitVec 32 := Scalar.muli arg15 c1_i32_27
  let v34 : BitVec 32 := Scalar.addi c0_i32_28 v33
  let c32_i32 : BitVec 32 := 32#32
  let v35 : BitVec 32 := Scalar.muli v34 c32_i32
  let v36 : BitVec 32 := v35
  let v261 : Index := Scalar.indexCast v36
  let c2560 : Index := 2560#32
  ![v261.toNat, 2560]
def k0_off77 (k0_t3 : Fin k0_t3_loop.trips) : Fin 2 → Nat :=
  let c0_i32_28 : BitVec 32 := 0#32
  let c0_i32_23 : BitVec 32 := 0#32
  let c1_i32_25 : BitVec 32 := 1#32
  let arg15 : BitVec 32 := Scf.iv c0_i32_23 c1_i32_25 k0_t3
  let c1_i32_27 : BitVec 32 := 1#32
  let v33 : BitVec 32 := Scalar.muli arg15 c1_i32_27
  let v34 : BitVec 32 := Scalar.addi c0_i32_28 v33
  let c32_i32 : BitVec 32 := 32#32
  let v35 : BitVec 32 := Scalar.muli v34 c32_i32
  let v36 : BitVec 32 := v35
  let v272 : Index := Scalar.indexCast v36
  let c2688 : Index := 2688#32
  ![v272.toNat, 2688]
def k0_off78 (k0_t3 : Fin k0_t3_loop.trips) : Fin 2 → Nat :=
  let c0_i32_28 : BitVec 32 := 0#32
  let c0_i32_23 : BitVec 32 := 0#32
  let c1_i32_25 : BitVec 32 := 1#32
  let arg15 : BitVec 32 := Scf.iv c0_i32_23 c1_i32_25 k0_t3
  let c1_i32_27 : BitVec 32 := 1#32
  let v33 : BitVec 32 := Scalar.muli arg15 c1_i32_27
  let v34 : BitVec 32 := Scalar.addi c0_i32_28 v33
  let c32_i32 : BitVec 32 := 32#32
  let v35 : BitVec 32 := Scalar.muli v34 c32_i32
  let v36 : BitVec 32 := v35
  let v283 : Index := Scalar.indexCast v36
  let c2816 : Index := 2816#32
  ![v283.toNat, 2816]
def k0_off79 (k0_t3 : Fin k0_t3_loop.trips) : Fin 2 → Nat :=
  let c0_i32_28 : BitVec 32 := 0#32
  let c0_i32_23 : BitVec 32 := 0#32
  let c1_i32_25 : BitVec 32 := 1#32
  let arg15 : BitVec 32 := Scf.iv c0_i32_23 c1_i32_25 k0_t3
  let c1_i32_27 : BitVec 32 := 1#32
  let v33 : BitVec 32 := Scalar.muli arg15 c1_i32_27
  let v34 : BitVec 32 := Scalar.addi c0_i32_28 v33
  let c32_i32 : BitVec 32 := 32#32
  let v35 : BitVec 32 := Scalar.muli v34 c32_i32
  let v36 : BitVec 32 := v35
  let v294 : Index := Scalar.indexCast v36
  let c2944 : Index := 2944#32
  ![v294.toNat, 2944]
def k0_off80 (k0_t3 : Fin k0_t3_loop.trips) : Fin 2 → Nat :=
  let c0_i32_28 : BitVec 32 := 0#32
  let c0_i32_23 : BitVec 32 := 0#32
  let c1_i32_25 : BitVec 32 := 1#32
  let arg15 : BitVec 32 := Scf.iv c0_i32_23 c1_i32_25 k0_t3
  let c1_i32_27 : BitVec 32 := 1#32
  let v33 : BitVec 32 := Scalar.muli arg15 c1_i32_27
  let v34 : BitVec 32 := Scalar.addi c0_i32_28 v33
  let c32_i32 : BitVec 32 := 32#32
  let v35 : BitVec 32 := Scalar.muli v34 c32_i32
  let v36 : BitVec 32 := v35
  let v305 : Index := Scalar.indexCast v36
  let c3072 : Index := 3072#32
  ![v305.toNat, 3072]
def k0_off81 (k0_t3 : Fin k0_t3_loop.trips) : Fin 2 → Nat :=
  let c0_i32_28 : BitVec 32 := 0#32
  let c0_i32_23 : BitVec 32 := 0#32
  let c1_i32_25 : BitVec 32 := 1#32
  let arg15 : BitVec 32 := Scf.iv c0_i32_23 c1_i32_25 k0_t3
  let c1_i32_27 : BitVec 32 := 1#32
  let v33 : BitVec 32 := Scalar.muli arg15 c1_i32_27
  let v34 : BitVec 32 := Scalar.addi c0_i32_28 v33
  let c32_i32 : BitVec 32 := 32#32
  let v35 : BitVec 32 := Scalar.muli v34 c32_i32
  let v36 : BitVec 32 := v35
  let v316 : Index := Scalar.indexCast v36
  let c3200 : Index := 3200#32
  ![v316.toNat, 3200]
def k0_off82 (k0_t3 : Fin k0_t3_loop.trips) : Fin 2 → Nat :=
  let c0_i32_28 : BitVec 32 := 0#32
  let c0_i32_23 : BitVec 32 := 0#32
  let c1_i32_25 : BitVec 32 := 1#32
  let arg15 : BitVec 32 := Scf.iv c0_i32_23 c1_i32_25 k0_t3
  let c1_i32_27 : BitVec 32 := 1#32
  let v33 : BitVec 32 := Scalar.muli arg15 c1_i32_27
  let v34 : BitVec 32 := Scalar.addi c0_i32_28 v33
  let c32_i32 : BitVec 32 := 32#32
  let v35 : BitVec 32 := Scalar.muli v34 c32_i32
  let v36 : BitVec 32 := v35
  let v327 : Index := Scalar.indexCast v36
  let c3328 : Index := 3328#32
  ![v327.toNat, 3328]
def k0_off83 (k0_t3 : Fin k0_t3_loop.trips) : Fin 2 → Nat :=
  let c0_i32_28 : BitVec 32 := 0#32
  let c0_i32_23 : BitVec 32 := 0#32
  let c1_i32_25 : BitVec 32 := 1#32
  let arg15 : BitVec 32 := Scf.iv c0_i32_23 c1_i32_25 k0_t3
  let c1_i32_27 : BitVec 32 := 1#32
  let v33 : BitVec 32 := Scalar.muli arg15 c1_i32_27
  let v34 : BitVec 32 := Scalar.addi c0_i32_28 v33
  let c32_i32 : BitVec 32 := 32#32
  let v35 : BitVec 32 := Scalar.muli v34 c32_i32
  let v36 : BitVec 32 := v35
  let v338 : Index := Scalar.indexCast v36
  let c3456 : Index := 3456#32
  ![v338.toNat, 3456]
def k0_off84 (k0_t3 : Fin k0_t3_loop.trips) : Fin 2 → Nat :=
  let c0_i32_28 : BitVec 32 := 0#32
  let c0_i32_23 : BitVec 32 := 0#32
  let c1_i32_25 : BitVec 32 := 1#32
  let arg15 : BitVec 32 := Scf.iv c0_i32_23 c1_i32_25 k0_t3
  let c1_i32_27 : BitVec 32 := 1#32
  let v33 : BitVec 32 := Scalar.muli arg15 c1_i32_27
  let v34 : BitVec 32 := Scalar.addi c0_i32_28 v33
  let c32_i32 : BitVec 32 := 32#32
  let v35 : BitVec 32 := Scalar.muli v34 c32_i32
  let v36 : BitVec 32 := v35
  let v349 : Index := Scalar.indexCast v36
  let c3584 : Index := 3584#32
  ![v349.toNat, 3584]
def k0_off85 (k0_t3 : Fin k0_t3_loop.trips) : Fin 2 → Nat :=
  let c0_i32_28 : BitVec 32 := 0#32
  let c0_i32_23 : BitVec 32 := 0#32
  let c1_i32_25 : BitVec 32 := 1#32
  let arg15 : BitVec 32 := Scf.iv c0_i32_23 c1_i32_25 k0_t3
  let c1_i32_27 : BitVec 32 := 1#32
  let v33 : BitVec 32 := Scalar.muli arg15 c1_i32_27
  let v34 : BitVec 32 := Scalar.addi c0_i32_28 v33
  let c32_i32 : BitVec 32 := 32#32
  let v35 : BitVec 32 := Scalar.muli v34 c32_i32
  let v36 : BitVec 32 := v35
  let v360 : Index := Scalar.indexCast v36
  let c3712 : Index := 3712#32
  ![v360.toNat, 3712]
def k0_off86 (k0_t3 : Fin k0_t3_loop.trips) : Fin 2 → Nat :=
  let c0_i32_28 : BitVec 32 := 0#32
  let c0_i32_23 : BitVec 32 := 0#32
  let c1_i32_25 : BitVec 32 := 1#32
  let arg15 : BitVec 32 := Scf.iv c0_i32_23 c1_i32_25 k0_t3
  let c1_i32_27 : BitVec 32 := 1#32
  let v33 : BitVec 32 := Scalar.muli arg15 c1_i32_27
  let v34 : BitVec 32 := Scalar.addi c0_i32_28 v33
  let c32_i32 : BitVec 32 := 32#32
  let v35 : BitVec 32 := Scalar.muli v34 c32_i32
  let v36 : BitVec 32 := v35
  let v371 : Index := Scalar.indexCast v36
  let c3840 : Index := 3840#32
  ![v371.toNat, 3840]
def k0_off87 (k0_t3 : Fin k0_t3_loop.trips) : Fin 2 → Nat :=
  let c0_i32_28 : BitVec 32 := 0#32
  let c0_i32_23 : BitVec 32 := 0#32
  let c1_i32_25 : BitVec 32 := 1#32
  let arg15 : BitVec 32 := Scf.iv c0_i32_23 c1_i32_25 k0_t3
  let c1_i32_27 : BitVec 32 := 1#32
  let v33 : BitVec 32 := Scalar.muli arg15 c1_i32_27
  let v34 : BitVec 32 := Scalar.addi c0_i32_28 v33
  let c32_i32 : BitVec 32 := 32#32
  let v35 : BitVec 32 := Scalar.muli v34 c32_i32
  let v36 : BitVec 32 := v35
  let v382 : Index := Scalar.indexCast v36
  let c3968 : Index := 3968#32
  ![v382.toNat, 3968]
def k0_off88 (k0_t3 : Fin k0_t3_loop.trips) : Fin 2 → Nat :=
  let c0_i32_28 : BitVec 32 := 0#32
  let c0_i32_23 : BitVec 32 := 0#32
  let c1_i32_25 : BitVec 32 := 1#32
  let arg15 : BitVec 32 := Scf.iv c0_i32_23 c1_i32_25 k0_t3
  let c1_i32_27 : BitVec 32 := 1#32
  let v33 : BitVec 32 := Scalar.muli arg15 c1_i32_27
  let v34 : BitVec 32 := Scalar.addi c0_i32_28 v33
  let c32_i32 : BitVec 32 := 32#32
  let v35 : BitVec 32 := Scalar.muli v34 c32_i32
  let v36 : BitVec 32 := v35
  let v393 : Index := Scalar.indexCast v36
  let c4096 : Index := 4096#32
  ![v393.toNat, 4096]
def k0_off89 (k0_t3 : Fin k0_t3_loop.trips) : Fin 2 → Nat :=
  let c0_i32_28 : BitVec 32 := 0#32
  let c0_i32_23 : BitVec 32 := 0#32
  let c1_i32_25 : BitVec 32 := 1#32
  let arg15 : BitVec 32 := Scf.iv c0_i32_23 c1_i32_25 k0_t3
  let c1_i32_27 : BitVec 32 := 1#32
  let v33 : BitVec 32 := Scalar.muli arg15 c1_i32_27
  let v34 : BitVec 32 := Scalar.addi c0_i32_28 v33
  let c32_i32 : BitVec 32 := 32#32
  let v35 : BitVec 32 := Scalar.muli v34 c32_i32
  let v36 : BitVec 32 := v35
  let v404 : Index := Scalar.indexCast v36
  let c4224 : Index := 4224#32
  ![v404.toNat, 4224]
def k0_off90 (k0_t3 : Fin k0_t3_loop.trips) : Fin 2 → Nat :=
  let c0_i32_28 : BitVec 32 := 0#32
  let c0_i32_23 : BitVec 32 := 0#32
  let c1_i32_25 : BitVec 32 := 1#32
  let arg15 : BitVec 32 := Scf.iv c0_i32_23 c1_i32_25 k0_t3
  let c1_i32_27 : BitVec 32 := 1#32
  let v33 : BitVec 32 := Scalar.muli arg15 c1_i32_27
  let v34 : BitVec 32 := Scalar.addi c0_i32_28 v33
  let c32_i32 : BitVec 32 := 32#32
  let v35 : BitVec 32 := Scalar.muli v34 c32_i32
  let v36 : BitVec 32 := v35
  let v415 : Index := Scalar.indexCast v36
  let c4352 : Index := 4352#32
  ![v415.toNat, 4352]
def k0_off91 (k0_t3 : Fin k0_t3_loop.trips) : Fin 2 → Nat :=
  let c0_i32_28 : BitVec 32 := 0#32
  let c0_i32_23 : BitVec 32 := 0#32
  let c1_i32_25 : BitVec 32 := 1#32
  let arg15 : BitVec 32 := Scf.iv c0_i32_23 c1_i32_25 k0_t3
  let c1_i32_27 : BitVec 32 := 1#32
  let v33 : BitVec 32 := Scalar.muli arg15 c1_i32_27
  let v34 : BitVec 32 := Scalar.addi c0_i32_28 v33
  let c32_i32 : BitVec 32 := 32#32
  let v35 : BitVec 32 := Scalar.muli v34 c32_i32
  let v36 : BitVec 32 := v35
  let v426 : Index := Scalar.indexCast v36
  let c4480 : Index := 4480#32
  ![v426.toNat, 4480]
def k0_off92 (k0_t3 : Fin k0_t3_loop.trips) : Fin 2 → Nat :=
  let c0_i32_28 : BitVec 32 := 0#32
  let c0_i32_23 : BitVec 32 := 0#32
  let c1_i32_25 : BitVec 32 := 1#32
  let arg15 : BitVec 32 := Scf.iv c0_i32_23 c1_i32_25 k0_t3
  let c1_i32_27 : BitVec 32 := 1#32
  let v33 : BitVec 32 := Scalar.muli arg15 c1_i32_27
  let v34 : BitVec 32 := Scalar.addi c0_i32_28 v33
  let c32_i32 : BitVec 32 := 32#32
  let v35 : BitVec 32 := Scalar.muli v34 c32_i32
  let v36 : BitVec 32 := v35
  let v437 : Index := Scalar.indexCast v36
  let c4608 : Index := 4608#32
  ![v437.toNat, 4608]
def k0_off93 (k0_t3 : Fin k0_t3_loop.trips) : Fin 2 → Nat :=
  let c0_i32_28 : BitVec 32 := 0#32
  let c0_i32_23 : BitVec 32 := 0#32
  let c1_i32_25 : BitVec 32 := 1#32
  let arg15 : BitVec 32 := Scf.iv c0_i32_23 c1_i32_25 k0_t3
  let c1_i32_27 : BitVec 32 := 1#32
  let v33 : BitVec 32 := Scalar.muli arg15 c1_i32_27
  let v34 : BitVec 32 := Scalar.addi c0_i32_28 v33
  let c32_i32 : BitVec 32 := 32#32
  let v35 : BitVec 32 := Scalar.muli v34 c32_i32
  let v36 : BitVec 32 := v35
  let v448 : Index := Scalar.indexCast v36
  let c4736 : Index := 4736#32
  ![v448.toNat, 4736]
def k0_off94 (k0_t3 : Fin k0_t3_loop.trips) : Fin 2 → Nat :=
  let c0_i32_28 : BitVec 32 := 0#32
  let c0_i32_23 : BitVec 32 := 0#32
  let c1_i32_25 : BitVec 32 := 1#32
  let arg15 : BitVec 32 := Scf.iv c0_i32_23 c1_i32_25 k0_t3
  let c1_i32_27 : BitVec 32 := 1#32
  let v33 : BitVec 32 := Scalar.muli arg15 c1_i32_27
  let v34 : BitVec 32 := Scalar.addi c0_i32_28 v33
  let c32_i32 : BitVec 32 := 32#32
  let v35 : BitVec 32 := Scalar.muli v34 c32_i32
  let v36 : BitVec 32 := v35
  let v459 : Index := Scalar.indexCast v36
  let c4864 : Index := 4864#32
  ![v459.toNat, 4864]
def k0_off95 (k0_t3 : Fin k0_t3_loop.trips) : Fin 2 → Nat :=
  let c0_i32_28 : BitVec 32 := 0#32
  let c0_i32_23 : BitVec 32 := 0#32
  let c1_i32_25 : BitVec 32 := 1#32
  let arg15 : BitVec 32 := Scf.iv c0_i32_23 c1_i32_25 k0_t3
  let c1_i32_27 : BitVec 32 := 1#32
  let v33 : BitVec 32 := Scalar.muli arg15 c1_i32_27
  let v34 : BitVec 32 := Scalar.addi c0_i32_28 v33
  let c32_i32 : BitVec 32 := 32#32
  let v35 : BitVec 32 := Scalar.muli v34 c32_i32
  let v36 : BitVec 32 := v35
  let v470 : Index := Scalar.indexCast v36
  let c4992 : Index := 4992#32
  ![v470.toNat, 4992]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1280 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5120x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x5120 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x5120 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Ref1Ideal.lean ====
abbrev S4096x1280 : Shape := ⟨2, ![4096, 1280]⟩
abbrev S1280 : Shape := ⟨1, ![1280]⟩
abbrev S5120x5120 : Shape := ⟨2, ![5120, 5120]⟩
abbrev S5120 : Shape := ⟨1, ![5120]⟩
abbrev S1024x5120 : Shape := ⟨2, ![1024, 5120]⟩
abbrev S4x1x256 : Shape := ⟨3, ![4, 1, 256]⟩
abbrev S4096 : Shape := ⟨1, ![4096]⟩
abbrev S4096x1 : Shape := ⟨2, ![4096, 1]⟩
abbrev S1x1280 : Shape := ⟨2, ![1, 1280]⟩
abbrev S1024 : Shape := ⟨1, ![1024]⟩
abbrev S1024x1 : Shape := ⟨2, ![1024, 1]⟩
abbrev S1x5120 : Shape := ⟨2, ![1, 5120]⟩

abbrev nBuf : Space → Nat
  | .hbm => 9
  | .vmem => 9
  | .smem => 0
  | _ => 0

abbrev bufTy : (tb : Table) → Fin (tcTables nBuf tb) → BufTy
  | .hbm, ⟨0, _⟩ => ⟨S4096x1280, .bf16⟩
  | .hbm, ⟨1, _⟩ => ⟨S1280, .f32⟩
  | .hbm, ⟨2, _⟩ => ⟨S5120x5120, .fp8e4m3⟩
  | .hbm, ⟨3, _⟩ => ⟨S5120, .f32⟩
  | .hbm, ⟨4, _⟩ => ⟨S5120, .f32⟩
  | .hbm, ⟨5, _⟩ => ⟨S1024x5120, .fp8e4m3⟩
  | .hbm, ⟨6, _⟩ => ⟨S4x1x256, .f32⟩
  | .hbm, ⟨7, _⟩ => ⟨S1024x5120, .fp8e4m3⟩
  | .hbm, ⟨8, _⟩ => ⟨S4x1x256, .f32⟩
  | .local _ .vmem, ⟨0, _⟩ => ⟨S4096x1280, .bf16⟩
  | .local _ .vmem, ⟨1, _⟩ => ⟨S1280, .f32⟩
  | .local _ .vmem, ⟨2, _⟩ => ⟨S5120x5120, .fp8e4m3⟩
  | .local _ .vmem, ⟨3, _⟩ => ⟨S5120, .f32⟩
  | .local _ .vmem, ⟨4, _⟩ => ⟨S5120, .f32⟩
  | .local _ .vmem, ⟨5, _⟩ => ⟨S1024x5120, .fp8e4m3⟩
  | .local _ .vmem, ⟨6, _⟩ => ⟨S4x1x256, .f32⟩
  | .local _ .vmem, ⟨7, _⟩ => ⟨S1024x5120, .fp8e4m3⟩
  | .local _ .vmem, ⟨8, _⟩ => ⟨S4x1x256, .f32⟩
  | _, _ => ⟨S4096x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S4096x1280 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1280 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x5120 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x5120 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Merge2.lean ====
abbrev S1024x5120 : Shape := ⟨2, ![1024, 5120]⟩
abbrev S1024 : Shape := ⟨1, ![1024]⟩
abbrev S5120x3584 : Shape := ⟨2, ![5120, 3584]⟩
abbrev S3584 : Shape := ⟨1, ![3584]⟩
abbrev S1024x1 : Shape := ⟨2, ![1024, 1]⟩
abbrev S1x3584 : Shape := ⟨2, ![1, 3584]⟩
abbrev S28672x128 : Shape := ⟨2, ![28672, 128]⟩
abbrev S5120x512 : Shape := ⟨2, ![5120, 512]⟩
abbrev S1x512 : Shape := ⟨2, ![1, 512]⟩
abbrev S256x5120 : Shape := ⟨2, ![256, 5120]⟩
abbrev S256x512 : Shape := ⟨2, ![256, 512]⟩
abbrev S256x1 : Shape := ⟨2, ![256, 1]⟩
abbrev S256x128 : Shape := ⟨2, ![256, 128]⟩

abbrev nBuf : Space → Nat
  | .hbm => 9
  | .vmem => 9
  | .smem => 0
  | _ => 0

abbrev bufTy : (tb : Table) → Fin (tcTables nBuf tb) → BufTy
  | .hbm, ⟨0, _⟩ => ⟨S1024x5120, .fp8e4m3⟩
  | .hbm, ⟨1, _⟩ => ⟨S1024, .f32⟩
  | .hbm, ⟨2, _⟩ => ⟨S5120x3584, .fp8e4m3⟩
  | .hbm, ⟨3, _⟩ => ⟨S3584, .f32⟩
  | .hbm, ⟨4, _⟩ => ⟨S3584, .f32⟩
  | .hbm, ⟨5, _⟩ => ⟨S1024x1, .f32⟩
  | .hbm, ⟨6, _⟩ => ⟨S1x3584, .f32⟩
  | .hbm, ⟨7, _⟩ => ⟨S1x3584, .f32⟩
  | .hbm, ⟨8, _⟩ => ⟨S28672x128, .f32⟩
  | .local _ .vmem, ⟨0, _⟩ => ⟨S1024x5120, .fp8e4m3⟩
  | .local _ .vmem, ⟨1, _⟩ => ⟨S1024x1, .f32⟩
  | .local _ .vmem, ⟨2, _⟩ => ⟨S5120x512, .fp8e4m3⟩
  | .local _ .vmem, ⟨3, _⟩ => ⟨S5120x512, .fp8e4m3⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S28672x128, .f32⟩
  | _, _ => ⟨S1024x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![7], ![false]⟩

@[reducible] def k0_t1_loop : Scf.Loop 32 :=
  let c0_i32 : BitVec 32 := 0#32
  let c4_i32 : BitVec 32 := 4#32
  let v0 : BitVec 32 := Scalar.addi c0_i32 c4_i32
  let c1_i32 : BitVec 32 := 1#32
  ⟨c0_i32, v0, c1_i32⟩
def k0_mult1 (k0_t1 : Fin k0_t1_loop.trips) : BitVec 32 :=
  let c0_i32_2 : BitVec 32 := 0#32
  let c0_i32 : BitVec 32 := 0#32
  let c1_i32 : BitVec 32 := 1#32
  let arg7 : BitVec 32 := Scf.iv c0_i32 c1_i32 k0_t1
  let c1_i32_1 : BitVec 32 := 1#32
  let v1 : BitVec 32 := Scalar.muli arg7 c1_i32_1
  let v2 : BitVec 32 := Scalar.addi c0_i32_2 v1
  let c256_i32 : BitVec 32 := 256#32
  let v3 : BitVec 32 := Scalar.muli v2 c256_i32
  v3
def k0_off1 (k0_t1 : Fin k0_t1_loop.trips) : Fin 2 → Nat :=
  let c0_i32_2 : BitVec 32 := 0#32
  let c0_i32 : BitVec 32 := 0#32
  let c1_i32 : BitVec 32 := 1#32
  let arg7 : BitVec 32 := Scf.iv c0_i32 c1_i32 k0_t1
  let c1_i32_1 : BitVec 32 := 1#32
  let v1 : BitVec 32 := Scalar.muli arg7 c1_i32_1
  let v2 : BitVec 32 := Scalar.addi c0_i32_2 v1
  let c256_i32 : BitVec 32 := 256#32
  let v3 : BitVec 32 := Scalar.muli v2 c256_i32
  let v4 : BitVec 32 := v3
  let v5 : Index := Scalar.indexCast v4
  let c0 : Index := 0#32
  ![v5.toNat, 0]
def k0_off2 (k0_t1 : Fin k0_t1_loop.trips) : Fin 2 → Nat :=
  let c0_i32_2 : BitVec 32 := 0#32
  let c0_i32 : BitVec 32 := 0#32
  let c1_i32 : BitVec 32 := 1#32
  let arg7 : BitVec 32 := Scf.iv c0_i32 c1_i32 k0_t1
  let c1_i32_1 : BitVec 32 := 1#32
  let v1 : BitVec 32 := Scalar.muli arg7 c1_i32_1
  let v2 : BitVec 32 := Scalar.addi c0_i32_2 v1
  let c256_i32 : BitVec 32 := 256#32
  let v3 : BitVec 32 := Scalar.muli v2 c256_i32
  let v4 : BitVec 32 := v3
  let v9 : Index := Scalar.indexCast v4
  let c0_5 : Index := 0#32
  ![v9.toNat, 0]
def k0_off3 (i : grid0.Coords) (k0_t1 : Fin k0_t1_loop.trips) (c0_i32_12 : BitVec 32) : Fin 2 → Nat :=
  let c0_i32_2 : BitVec 32 := 0#32
  let c0_i32 : BitVec 32 := 0#32
  let c1_i32 : BitVec 32 := 1#32
  let arg7 : BitVec 32 := Scf.iv c0_i32 c1_i32 k0_t1
  let c1_i32_1 : BitVec 32 := 1#32
  let v1 : BitVec 32 := Scalar.muli arg7 c1_i32_1
  let v2 : BitVec 32 := Scalar.addi c0_i32_2 v1
  let c256_i32_10 : BitVec 32 := 256#32
  let v22 : BitVec 32 := Scalar.muli v2 c256_i32_10
  let c28_i32 : BitVec 32 := 28#32
  let v23 : BitVec 32 := Scalar.muli v22 c28_i32
  let arg0 : BitVec 32 := BitVec.ofNat 32 (i 0).val
  let c4_i32_11 : BitVec 32 := 4#32
  let v24 : BitVec 32 := Scalar.muli arg0 c4_i32_11
  let v25 : BitVec 32 := Scalar.addi v23 v24
  let v26 : BitVec 32 := Scalar.addi v25 c0_i32_12
  let v28 : Index := Scalar.indexCast v26
  let c0_13 : Index := 0#32
  ![v28.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x5120 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5120x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S28672x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Ref2Ideal.lean ====
abbrev S1024x5120 : Shape := ⟨2, ![1024, 5120]⟩
abbrev S1024 : Shape := ⟨1, ![1024]⟩
abbrev S5120x3584 : Shape := ⟨2, ![5120, 3584]⟩
abbrev S3584 : Shape := ⟨1, ![3584]⟩
abbrev S28672x128 : Shape := ⟨2, ![28672, 128]⟩
abbrev S1024x3584 : Shape := ⟨2, ![1024, 3584]⟩
abbrev S1024x1 : Shape := ⟨2, ![1024, 1]⟩
abbrev S1x3584 : Shape := ⟨2, ![1, 3584]⟩

abbrev nBuf : Space → Nat
  | .hbm => 6
  | .vmem => 6
  | .smem => 0
  | _ => 0

abbrev bufTy : (tb : Table) → Fin (tcTables nBuf tb) → BufTy
  | .hbm, ⟨0, _⟩ => ⟨S1024x5120, .fp8e4m3⟩
  | .hbm, ⟨1, _⟩ => ⟨S1024, .f32⟩
  | .hbm, ⟨2, _⟩ => ⟨S5120x3584, .fp8e4m3⟩
  | .hbm, ⟨3, _⟩ => ⟨S3584, .f32⟩
  | .hbm, ⟨4, _⟩ => ⟨S3584, .f32⟩
  | .hbm, ⟨5, _⟩ => ⟨S28672x128, .f32⟩
  | .local _ .vmem, ⟨0, _⟩ => ⟨S1024x5120, .fp8e4m3⟩
  | .local _ .vmem, ⟨1, _⟩ => ⟨S1024, .f32⟩
  | .local _ .vmem, ⟨2, _⟩ => ⟨S5120x3584, .fp8e4m3⟩
  | .local _ .vmem, ⟨3, _⟩ => ⟨S3584, .f32⟩
  | .local _ .vmem, ⟨4, _⟩ => ⟨S3584, .f32⟩
  | .local _ .vmem, ⟨5, _⟩ => ⟨S28672x128, .f32⟩
  | _, _ => ⟨S1024x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1024x5120 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3584 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S28672x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Merge1.Run.lean ====
/- The first merge kernel's run: its launch under relational proof data, and the frame. -/
module

public import proofs.«01_k».proof.Proof.Gen.Merge1.Skeleton
public import proofs.«01_k».proof.Proof.Gen.Merge1.Frame
public import Idealize.ShloMosaic.Lib.Pipeline.ArrRel

@[expose] public section

set_option maxRecDepth 16384

noncomputable section

namespace Cert.Merge1.Body

open Cert.Merge1 Cert.Merge1.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Between the trips of each loop: the inputs' buffers as they are, every other one at something. -/
def inv (c : Dev nD) (arg1 : Memref sig .tc .vmem S1024x1280 .bf16) (harg1 : arg1.IsWhole) (arg2 : Memref sig .tc .vmem S1x1280 .f32) (harg2 : arg2.IsWhole) (arg3 : Memref sig .tc .vmem S5120x5120 .fp8e4m3) (harg3 : arg3.IsWhole) (arg4 : Memref sig .tc .vmem S1x5120 .f32) (harg4 : arg4.IsWhole) (arg5 : Memref sig .tc .vmem S1x5120 .f32) (harg5 : arg5.IsWhole)
    (arg6 : Memref sig .tc .vmem S256x5120 .fp8e4m3) (harg6 : arg6.IsWhole) (arg7 : Memref sig .tc .vmem S1x1x256 .f32) (harg7 : arg7.IsWhole) (arg8 : Memref sig .tc .vmem S256x5120 .fp8e4m3) (harg8 : arg8.IsWhole) (arg9 : Memref sig .tc .vmem S1x1x256 .f32) (harg9 : arg9.IsWhole)
    (arg10 : Memref sig .tc .vmem S256x5120 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S10x128x128 .f32) (harg13 : arg13.IsWhole) (arg14 : Memref sig .tc .vmem S128x128 .f32) (harg14 : arg14.IsWhole)
    (f1 : arg1.view.ty.Contents (Elt F)) (f2 : arg2.view.ty.Contents (Elt F)) (f3 : arg3.view.ty.Contents (Elt F)) (f4 : arg4.view.ty.Contents (Elt F)) (f5 : arg5.view.ty.Contents (Elt F)) (_ : ℕ) (_ : Unit) : sProp 𝕄 :=
  iprop((arg1.view.loc (c : Thread nD τ) ↦[arg1.view.set]{fullShare} f1)
    ∗ (arg2.view.loc (c : Thread nD τ) ↦[arg2.view.set]{fullShare} f2)
    ∗ (arg3.view.loc (c : Thread nD τ) ↦[arg3.view.set]{fullShare} f3)
    ∗ (arg4.view.loc (c : Thread nD τ) ↦[arg4.view.set]{fullShare} f4)
    ∗ (arg5.view.loc (c : Thread nD τ) ↦[arg5.view.set]{fullShare} f5)
    ∗ (∃ f, (arg6.view.loc (c : Thread nD τ) ↦[arg6.view.set]{fullShare} f))
    ∗ (∃ f, (arg7.view.loc (c : Thread nD τ) ↦[arg7.view.set]{fullShare} f))
    ∗ (∃ f, (arg8.view.loc (c : Thread nD τ) ↦[arg8.view.set]{fullShare} f))
    ∗ (∃ f, (arg9.view.loc (c : Thread nD τ) ↦[arg9.view.set]{fullShare} f))
    ∗ (∃ f, (arg10.view.loc (c : Thread nD τ) ↦[arg10.view.set]{fullShare} f))
    ∗ (∃ f, (arg11.view.loc (c : Thread nD τ) ↦[arg11.view.set]{fullShare} f))
    ∗ (∃ f, (arg12.view.loc (c : Thread nD τ) ↦[arg12.view.set]{fullShare} f))
    ∗ (∃ f, (arg13.view.loc (c : Thread nD τ) ↦[arg13.view.set]{fullShare} f))
    ∗ (∃ f, (arg14.view.loc (c : Thread nD τ) ↦[arg14.view.set]{fullShare} f)))

/-! One trip of each loop keeps it. -/

set_option maxHeartbeats 4000000 in
theorem trip1 (c : Dev nD) (i : grid0.Coords) (arg1 : Memref sig .tc .vmem S1024x1280 .bf16) (harg1 : arg1.IsWhole) (arg2 : Memref sig .tc .vmem S1x1280 .f32) (harg2 : arg2.IsWhole) (arg3 : Memref sig .tc .vmem S5120x5120 .fp8e4m3) (harg3 : arg3.IsWhole) (arg4 : Memref sig .tc .vmem S1x5120 .f32) (harg4 : arg4.IsWhole) (arg5 : Memref sig .tc .vmem S1x5120 .f32) (harg5 : arg5.IsWhole)
    (arg6 : Memref sig .tc .vmem S256x5120 .fp8e4m3) (harg6 : arg6.IsWhole) (arg7 : Memref sig .tc .vmem S1x1x256 .f32) (harg7 : arg7.IsWhole) (arg8 : Memref sig .tc .vmem S256x5120 .fp8e4m3) (harg8 : arg8.IsWhole) (arg9 : Memref sig .tc .vmem S1x1x256 .f32) (harg9 : arg9.IsWhole)
    (arg10 : Memref sig .tc .vmem S256x5120 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S10x128x128 .f32) (harg13 : arg13.IsWhole) (arg14 : Memref sig .tc .vmem S128x128 .f32) (harg14 : arg14.IsWhole)
    (f1 : arg1.view.ty.Contents (Elt F)) (f2 : arg2.view.ty.Contents (Elt F)) (f3 : arg3.view.ty.Contents (Elt F)) (f4 : arg4.view.ty.Contents (Elt F)) (f5 : arg5.view.ty.Contents (Elt F)) (k : Fin k0_t1_loop.trips) :
    inv c arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 k.val ()
      ⊢ wp frame (wpE (defs₀ (F := F)) Variants.none c none) Set.univ (k0_t1_body i arg1 harg1 arg2 harg2 arg3 harg3 arg4 harg4 arg5 harg5 arg6 harg6 arg7 harg7 arg8 harg8 arg9 harg9 arg10 harg10 arg11 harg11 arg12 harg12 arg13 harg13 arg14 harg14 k ())
        (inv c arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 (k.val + 1)) := by
  unfold k0_t1_body inv
  iintro ⟨H1, H2, H3, H4, H5, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩⟩
  sl_exec
  sl_step
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  iexists _; iexact H14

set_option maxHeartbeats 4000000 in
theorem trip2 (c : Dev nD) (i : grid0.Coords) (arg1 : Memref sig .tc .vmem S1024x1280 .bf16) (harg1 : arg1.IsWhole) (arg2 : Memref sig .tc .vmem S1x1280 .f32) (harg2 : arg2.IsWhole) (arg3 : Memref sig .tc .vmem S5120x5120 .fp8e4m3) (harg3 : arg3.IsWhole) (arg4 : Memref sig .tc .vmem S1x5120 .f32) (harg4 : arg4.IsWhole) (arg5 : Memref sig .tc .vmem S1x5120 .f32) (harg5 : arg5.IsWhole)
    (arg6 : Memref sig .tc .vmem S256x5120 .fp8e4m3) (harg6 : arg6.IsWhole) (arg7 : Memref sig .tc .vmem S1x1x256 .f32) (harg7 : arg7.IsWhole) (arg8 : Memref sig .tc .vmem S256x5120 .fp8e4m3) (harg8 : arg8.IsWhole) (arg9 : Memref sig .tc .vmem S1x1x256 .f32) (harg9 : arg9.IsWhole)
    (arg10 : Memref sig .tc .vmem S256x5120 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S10x128x128 .f32) (harg13 : arg13.IsWhole) (arg14 : Memref sig .tc .vmem S128x128 .f32) (harg14 : arg14.IsWhole)
    (f1 : arg1.view.ty.Contents (Elt F)) (f2 : arg2.view.ty.Contents (Elt F)) (f3 : arg3.view.ty.Contents (Elt F)) (f4 : arg4.view.ty.Contents (Elt F)) (f5 : arg5.view.ty.Contents (Elt F)) (k : Fin k0_t2_loop.trips) :
    inv c arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 k.val ()
      ⊢ wp frame (wpE (defs₀ (F := F)) Variants.none c none) Set.univ (k0_t2_body i arg1 harg1 arg2 harg2 arg3 harg3 arg4 harg4 arg5 harg5 arg6 harg6 arg7 harg7 arg8 harg8 arg9 harg9 arg10 harg10 arg11 harg11 arg12 harg12 arg13 harg13 arg14 harg14 k ())
        (inv c arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 (k.val + 1)) := by
  unfold k0_t2_body inv
  iintro ⟨H1, H2, H3, H4, H5, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩⟩
  sl_exec
  sl_step
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  iexists _; iexact H14

set_option maxHeartbeats 4000000 in
theorem trip3 (c : Dev nD) (i : grid0.Coords) (arg1 : Memref sig .tc .vmem S1024x1280 .bf16) (harg1 : arg1.IsWhole) (arg2 : Memref sig .tc .vmem S1x1280 .f32) (harg2 : arg2.IsWhole) (arg3 : Memref sig .tc .vmem S5120x5120 .fp8e4m3) (harg3 : arg3.IsWhole) (arg4 : Memref sig .tc .vmem S1x5120 .f32) (harg4 : arg4.IsWhole) (arg5 : Memref sig .tc .vmem S1x5120 .f32) (harg5 : arg5.IsWhole)
    (arg6 : Memref sig .tc .vmem S256x5120 .fp8e4m3) (harg6 : arg6.IsWhole) (arg7 : Memref sig .tc .vmem S1x1x256 .f32) (harg7 : arg7.IsWhole) (arg8 : Memref sig .tc .vmem S256x5120 .fp8e4m3) (harg8 : arg8.IsWhole) (arg9 : Memref sig .tc .vmem S1x1x256 .f32) (harg9 : arg9.IsWhole)
    (arg10 : Memref sig .tc .vmem S256x5120 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S10x128x128 .f32) (harg13 : arg13.IsWhole) (arg14 : Memref sig .tc .vmem S128x128 .f32) (harg14 : arg14.IsWhole)
    (f1 : arg1.view.ty.Contents (Elt F)) (f2 : arg2.view.ty.Contents (Elt F)) (f3 : arg3.view.ty.Contents (Elt F)) (f4 : arg4.view.ty.Contents (Elt F)) (f5 : arg5.view.ty.Contents (Elt F)) (k : Fin k0_t3_loop.trips) :
    inv c arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 k.val ()
      ⊢ wp frame (wpE (defs₀ (F := F)) Variants.none c none) Set.univ (k0_t3_body i arg1 harg1 arg2 harg2 arg3 harg3 arg4 harg4 arg5 harg5 arg6 harg6 arg7 harg7 arg8 harg8 arg9 harg9 arg10 harg10 arg11 harg11 arg12 harg12 arg13 harg13 arg14 harg14 k ())
        (inv c arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 (k.val + 1)) := by
  unfold k0_t3_body inv
  iintro ⟨H1, H2, H3, H4, H5, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩⟩
  sl_exec
  sl_step
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  iexists _; iexact H14

set_option maxHeartbeats 4000000 in
/-- The body on whole buffers, the inputs' at `xW`, the outputs' and the scratch buffers' at anything: the inputs' as
    they were, the others' at something. -/
theorem sound_kernel (c : Dev nD) (i : grid0.Coords) (arg1 : Memref sig .tc .vmem S1024x1280 .bf16) (harg1 : arg1.IsWhole) (arg2 : Memref sig .tc .vmem S1x1280 .f32) (harg2 : arg2.IsWhole) (arg3 : Memref sig .tc .vmem S5120x5120 .fp8e4m3) (harg3 : arg3.IsWhole) (arg4 : Memref sig .tc .vmem S1x5120 .f32) (harg4 : arg4.IsWhole) (arg5 : Memref sig .tc .vmem S1x5120 .f32) (harg5 : arg5.IsWhole)
    (arg6 : Memref sig .tc .vmem S256x5120 .fp8e4m3) (harg6 : arg6.IsWhole) (arg7 : Memref sig .tc .vmem S1x1x256 .f32) (harg7 : arg7.IsWhole) (arg8 : Memref sig .tc .vmem S256x5120 .fp8e4m3) (harg8 : arg8.IsWhole) (arg9 : Memref sig .tc .vmem S1x1x256 .f32) (harg9 : arg9.IsWhole)
    (arg10 : Memref sig .tc .vmem S256x5120 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S10x128x128 .f32) (harg13 : arg13.IsWhole) (arg14 : Memref sig .tc .vmem S128x128 .f32) (harg14 : arg14.IsWhole)
    (x1 : Vec F S1024x1280 .bf16) (x2 : Vec F S1x1280 .f32) (x3 : Vec F S5120x5120 .fp8e4m3) (x4 x5 : Vec F S1x5120 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ (∃ X, owns (c : Thread nD τ) arg6 fullShare X) ∗ (∃ X, owns (c : Thread nD τ) arg7 fullShare X) ∗ (∃ X, owns (c : Thread nD τ) arg8 fullShare X) ∗ (∃ X, owns (c : Thread nD τ) arg9 fullShare X) ∗ (∃ X, owns (c : Thread nD τ) arg10 fullShare X) ∗ (∃ X, owns (c : Thread nD τ) arg11 fullShare X) ∗ (∃ X, owns (c : Thread nD τ) arg12 fullShare X) ∗ (∃ X, owns (c : Thread nD τ) arg13 fullShare X) ∗ (∃ X, owns (c : Thread nD τ) arg14 fullShare X)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ (∃ X, owns (c : Thread nD τ) arg6 fullShare X) ∗ (∃ X, owns (c : Thread nD τ) arg7 fullShare X) ∗ (∃ X, owns (c : Thread nD τ) arg8 fullShare X) ∗ (∃ X, owns (c : Thread nD τ) arg9 fullShare X) ∗ (∃ X, owns (c : Thread nD τ) arg10 fullShare X) ∗ (∃ X, owns (c : Thread nD τ) arg11 fullShare X) ∗ (∃ X, owns (c : Thread nD τ) arg12 fullShare X) ∗ (∃ X, owns (c : Thread nD τ) arg13 fullShare X) ∗ (∃ X, owns (c : Thread nD τ) arg14 fullShare X)) -∗ K ⟨⟩))
      ⊢ wp frame (wpE (defs₀ (F := F)) Variants.none c none) Set.univ (cc0_merge1 i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_merge1_eq_skeleton]; unfold cc0_merge1_skel
  simp only [k0_part30_eq_skeleton]; unfold k0_part30_skel
  simp only [LawfulMonad.bind_assoc]
  unfold owns
  iintro ⟨⟨%f1, %hf1, H1⟩, ⟨%f2, %hf2, H2⟩, ⟨%f3, %hf3, H3⟩, ⟨%f4, %hf4, H4⟩, ⟨%f5, %hf5, H5⟩, ⟨%y6, %f6, %hf6, H6⟩, ⟨%y7, %f7, %hf7, H7⟩, ⟨%y8, %f8, %hf8, H8⟩, ⟨%y9, %f9, %hf9, H9⟩, ⟨%y10, %f10, %hf10, H10⟩, ⟨%y11, %f11, %hf11, H11⟩, ⟨%y12, %f12, %hf12, H12⟩, ⟨%y13, %f13, %hf13, H13⟩, ⟨%y14, %f14, %hf14, H14⟩, Hk⟩
  subst hf1 hf2 hf3 hf4 hf5 hf6 hf7 hf8 hf9 hf10 hf11 hf12 hf13 hf14
  try sl_exec

  sl_for (inv c arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5) $$ [H1 H2 H3 H4 H5 H6 H7 H8 H9 H10 H11 H12 H13 H14]
  · intro k acc
    exact trip1 c i arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 k
  · unfold inv
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    iexists _; iexact H14
  unfold inv
  iintro %acc ⟨H1, H2, H3, H4, H5, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩⟩
  sl_exec
  sl_for (inv c arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5) $$ [H1 H2 H3 H4 H5 H6 H7 H8 H9 H10 H11 H12 H13 H14]
  · intro k acc
    exact trip2 c i arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 k
  · unfold inv
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    iexists _; iexact H14
  unfold inv
  iintro %acc ⟨H1, H2, H3, H4, H5, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩⟩
  sl_exec
  sl_for (inv c arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5) $$ [H1 H2 H3 H4 H5 H6 H7 H8 H9 H10 H11 H12 H13 H14]
  · intro k acc
    exact trip3 c i arg1 harg1 arg2 harg2 arg3 harg3 arg4 harg4 arg5 harg5 arg6 harg6 arg7 harg7 arg8 harg8 arg9 harg9 arg10 harg10 arg11 harg11 arg12 harg12 arg13 harg13 arg14 harg14 f1 f2 f3 f4 f5 k
  · unfold inv
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    iexists _; iexact H14
  unfold inv
  iintro %acc ⟨H1, H2, H3, H4, H5, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩⟩
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists _; iexists f6; isplitr; · ipureintro; rfl
                  iexact H6
  isplitl [H7]; · iexists _; iexists f7; isplitr; · ipureintro; rfl
                  iexact H7
  isplitl [H8]; · iexists _; iexists f8; isplitr; · ipureintro; rfl
                  iexact H8
  isplitl [H9]; · iexists _; iexists f9; isplitr; · ipureintro; rfl
                  iexact H9
  isplitl [H10]; · iexists _; iexists f10; isplitr; · ipureintro; rfl
                   iexact H10
  isplitl [H11]; · iexists _; iexists f11; isplitr; · ipureintro; rfl
                   iexact H11
  isplitl [H12]; · iexists _; iexists f12; isplitr; · ipureintro; rfl
                   iexact H12
  isplitl [H13]; · iexists _; iexists f13; isplitr; · ipureintro; rfl
                   iexact H13
  iexists _; iexists f14; isplitr; · ipureintro; rfl
  iexact H14

/-! ## The launch -/

/-- What the run's data constrain: an input's buffer is left as found; an output's buffer holds anything. -/
def rdat (c : Dev nD) : RDat τ (Elt F) Unit ℕ (UR sig nD τ) ℕ cfg0 c where
  A w := V m c (Pipeline.arrRef spec0 w)
  after := fun w t => match w with
    | 0 => fun Y X => X = Y
    | 1 => fun Y X => X = Y
    | 2 => fun Y X => X = Y
    | 3 => fun Y X => X = Y
    | 4 => fun Y X => X = Y
    | 5 => fun _ _ => True
    | 6 => fun _ _ => True
    | 7 => fun _ _ => True
    | 8 => fun _ _ => True
  Φ _ := Pipeline.ΦA spec0 c
  q _ := fullShare
  owed _ := 0

/-! Every input's buffer is found at its block. -/

theorem finds_0 (c : Dev nD) (t : Fin cfg0.N) (Y) (h : (rdat m c).Finds 0 t Y) : Y = iblk m c 0 t := by
  obtain ⟨d, rfl⟩ := (rdat m c).finds_in_eq_fetched 0 rfl (fun _ _ _ => rfl) (fun _ _ _ h => h) t Y h
  rfl
theorem finds_1 (c : Dev nD) (t : Fin cfg0.N) (Y) (h : (rdat m c).Finds 1 t Y) : Y = iblk m c 1 t := by
  obtain ⟨d, rfl⟩ := (rdat m c).finds_in_eq_fetched 1 rfl (fun _ _ _ => rfl) (fun _ _ _ h => h) t Y h
  rfl
theorem finds_2 (c : Dev nD) (t : Fin cfg0.N) (Y) (h : (rdat m c).Finds 2 t Y) : Y = iblk m c 2 t := by
  obtain ⟨d, rfl⟩ := (rdat m c).finds_in_eq_fetched 2 rfl (fun _ _ _ => rfl) (fun _ _ _ h => h) t Y h
  rfl
theorem finds_3 (c : Dev nD) (t : Fin cfg0.N) (Y) (h : (rdat m c).Finds 3 t Y) : Y = iblk m c 3 t := by
  obtain ⟨d, rfl⟩ := (rdat m c).finds_in_eq_fetched 3 rfl (fun _ _ _ => rfl) (fun _ _ _ h => h) t Y h
  rfl
theorem finds_4 (c : Dev nD) (t : Fin cfg0.N) (Y) (h : (rdat m c).Finds 4 t Y) : Y = iblk m c 4 t := by
  obtain ⟨d, rfl⟩ := (rdat m c).finds_in_eq_fetched 4 rfl (fun _ _ _ => rfl) (fun _ _ _ h => h) t Y h
  rfl

theorem defs₀_row (t : Fin cfg0.N) : defs₀ (F := F) .tc cfg0.body (cfg0.bodyArgs t (cfg0.slots t)) = bodyAt0 t := by
  unfold defs₀; rw [Defs.onTc_tc]

set_option maxHeartbeats 4000000 in
/-- At every point, from buffers the run may be found with, the body runs and leaves what `rdat` says. -/
theorem body_obligation (c : Dev nD) : (rdat m c).BodyObligation (defs₀ (F := F)) Variants.none () Set.univ := fun t Y hY => by
  have h0 := finds_0 m c t _ (hY 0)
  have h1 := finds_1 m c t _ (hY 1)
  have h2 := finds_2 m c t _ (hY 2)
  have h3 := finds_3 m c t _ (hY 3)
  have h4 := finds_4 m c t _ (hY 4)
  rw [bigSep_W0, bigSep_W0, defs₀_row, h0, h1, h2, h3, h4]
  unfold bodyAt0
  rw [show (rdat m c).Φ t.succ = Pipeline.ΦA spec0 c from rfl, show (rdat m c).Φ t.castSucc = Pipeline.ΦA spec0 c from rfl,
    show (rdat m c).owesAt () t.succ = (rdat m c).owesAt () t.castSucc from rfl]
  unfold Pipeline.ΦA
  rw [scopedRest0_eq]
  simp only [← owns_whole]
  iintro ⟨⟨⟨HS0, HS1, HS2, HS3, HS4⟩, HR⟩, Ho, H0, H1, H2, H3, H4, H5, H6, H7, H8⟩
  iapply (sound_kernel c (cfg0.grid.coords t) _ _ _ _ _ _ _ _ _ _ _ _ _ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists Y 5; iexact H5
  isplitl [H6]; · iexists Y 6; iexact H6
  isplitl [H7]; · iexists Y 7; iexact H7
  isplitl [H8]; · iexists Y 8; iexact H8
  isplitl [HS0]; · iexact HS0
  isplitl [HS1]; · iexact HS1
  isplitl [HS2]; · iexact HS2
  isplitl [HS3]; · iexact HS3
  isplitl [HS4]; · iexact HS4
  iintro ⟨H0, H1, H2, H3, H4, ⟨%X5, H5⟩, ⟨%X6, H6⟩, ⟨%X7, H7⟩, ⟨%X8, H8⟩, HS0, HS1, HS2, HS3, HS4⟩
  isplitl [HS0 HS1 HS2 HS3 HS4 HR]
  · isplitl [HS0 HS1 HS2 HS3 HS4]
    · isplitl [HS0]; · iexact HS0
      isplitl [HS1]; · iexact HS1
      isplitl [HS2]; · iexact HS2
      isplitl [HS3]; · iexact HS3
      iexact HS4
    iexact HR
  isplitl [Ho]; · iexact Ho
  isplitl [H0]; · iexists iblk m c 0 t; isplitr; · ipureintro; rfl
                  iexact H0
  isplitl [H1]; · iexists iblk m c 1 t; isplitr; · ipureintro; rfl
                  iexact H1
  isplitl [H2]; · iexists iblk m c 2 t; isplitr; · ipureintro; rfl
                  iexact H2
  isplitl [H3]; · iexists iblk m c 3 t; isplitr; · ipureintro; rfl
                  iexact H3
  isplitl [H4]; · iexists iblk m c 4 t; isplitr; · ipureintro; rfl
                  iexact H4
  isplitl [H5]; · iexists X5; isplitr; · ipureintro; trivial
                  iexact H5
  isplitl [H6]; · iexists X6; isplitr; · ipureintro; trivial
                  iexact H6
  isplitl [H7]; · iexists X7; isplitr; · ipureintro; trivial
                  iexact H7
  iexists X8
  isplitr; · ipureintro; trivial
  iexact H8

set_option backward.isDefEq.respectTransparency.types false in
set_option maxHeartbeats 800000 in
/-- The run: every array at something the data allow, every other buffer as the region found it, every counter zero. -/
theorem run_main_quiescent : θ_run defs (onTc (τ := τ) (main (F := F))) (s₀ m ρ)
    (fun r => RDat.FramePost cfg0 (rdat m) (V m) r ∧ r.2.sem = fun _ => 0) :=
  Pipeline.RDat.θ_run_frame (Q' := _) cfgs (0 : Fin 1) launch0 defs₀ Variants.none (rdat m) m ρ main
    (hbody := body_obligation m) (hshare := fun c => (rdat m c).share_full fun _ => rfl)
    (howed := fun _ _ => rfl) (V := V m) (hmain := hmain m Variants.none) (hA := fun _ _ => rfl) (hΦ := fun _ _ => rfl)

/-- The argument arrays end unchanged. -/
theorem unchanged_of (r : PUnit × MemSt nD τ sig (Elt F)) (h : RDat.FramePost cfg0 (rdat m) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(h.arr_in c 0 rfl).trans (V_main_arg0 m c),
    ((h c).2 main_arg1 (Pipeline.mem_restRefs_of main_arg1 (by decide) (by decide))).trans (V_main_arg1 m c),
    (h.arr_in c 2 rfl).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩

/-- The frame: the kernel runs, its arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨unchanged_of m r h.1, h.2⟩) (run_main_quiescent m ρ)

end Cert.Merge1.Body
-- ==== Proof.Merge1Math.lean ====
/- The first merge product as mathematics: four normalised rows side by side, their codes and scale, and the codes and
   scale of the activated product. -/
module

public import Idealize.ShloMosaic.Lib.Pointwise
public import Idealize.ShloMosaic.Lib.IdealHost

@[expose] public section

noncomputable section

namespace Cert.Merge1Math

open Idealize.ShloMosaic

/-- The constants of the computation: 448 and its negative, the row length 1280, the shift under the root, one half and
    the root of one half. -/
def c448 : EReal := Ideal.ofBits .f32 0x43E00000#32
def cneg : EReal := Ideal.ofBits .f32 0xC3E00000#32
def cdim : EReal := Ideal.ofBits .f32 0x44A00000#32
def ceps : EReal := Ideal.ofBits .f32 0x358637BD#32
def chalf : EReal := Ideal.ofBits .f32 0x3F000000#32
def croot : EReal := Ideal.ofBits .f32 0x3F3504F3#32

/-- The root of a row's mean square, shifted. -/
def rms (v : Fin 1280 → EReal) : EReal := Ideal.sqrt (Ideal.div (∑ q, v q * v q) cdim + ceps)

/-- A row divided by its root mean square, times the gain. -/
def nrm (v gain : Fin 1280 → EReal) (q : Fin 1280) : EReal := Ideal.div (v q) (rms v) * gain q

/-- Four normalised rows side by side. -/
def mrow (v : Fin 4 → Fin 1280 → EReal) (gain : Fin 1280 → EReal) (k : Fin 5120) : EReal :=
  nrm (v ⟨k.val / 1280, by omega⟩) gain ⟨k.val % 1280, by omega⟩

/-- The largest absolute value. -/
def amax (f : Fin 5120 → EReal) : EReal := Finset.univ.fold max ⊥ fun k => max (f k) (-(f k))

/-- The scale of a row of given largest absolute value. -/
def scaleOf (a : EReal) : EReal := if a = 0 then 1 else Ideal.div a c448

/-- The code of a value at a scale. -/
def codeOf (x s : EReal) : EReal := min c448 (max cneg (Ideal.div x s))

/-- Half a value times one plus the error function of the value over the root of two. -/
def gelu (z : EReal) : EReal := chalf * z * (1 + FloatOps.erf (F := Ideal) (φ := .f32) (z * croot))

/-- One element of the activated product of a row's codes and the weights. -/
def hid (f : Fin 5120 → EReal) (w : Fin 5120 → Fin 5120 → EReal) (s b : Fin 5120 → EReal) (n : Fin 5120) : EReal :=
  gelu ((∑ k, codeOf (f k) (scaleOf (amax f)) * w k n) * scaleOf (amax f) * s n + b n)

theorem c448_eq : c448 = ((448 : ℝ) : EReal) := by
  unfold c448; simp [Ideal.ofBits, Ideal.ieee, -EReal.coe_mul]; norm_num

theorem cdim_eq : cdim = ((1280 : ℝ) : EReal) := by
  unfold cdim; simp [Ideal.ofBits, Ideal.ieee, -EReal.coe_mul]; norm_num

theorem ceps_pos : 0 < ceps := by
  unfold ceps; simp [Ideal.ofBits, Ideal.ieee, -EReal.coe_mul]

theorem neg_inf : Ideal.ofBits .f32 0xFF800000#32 = ⊥ := by
  simp [Ideal.ofBits, Ideal.ieee]

theorem abs_nonneg' (x : EReal) : 0 ≤ max x (-x) := by
  rcases le_total 0 x with h | h
  · exact le_max_of_le_left h
  · exact le_max_of_le_right (by simpa using EReal.neg_le_neg_iff.mpr h)

theorem sq_nonneg' (x : EReal) : 0 ≤ x * x := by
  rcases le_total 0 x with h | h
  · exact EReal.mul_nonneg h h
  · have h' : 0 ≤ -x := by simpa using EReal.neg_le_neg_iff.mpr h
    have := EReal.mul_nonneg h' h'
    rwa [EReal.neg_mul, mul_comm, EReal.neg_mul, neg_neg] at this

/-- The least bound of the absolute values. -/
theorem amax_le {f : Fin 5120 → EReal} {b : EReal} : amax f ≤ b ↔ ∀ k, max (f k) (-(f k)) ≤ b := by
  unfold amax; rw [Finset.fold_max_le]; simp

/-- A number with that property is the largest absolute value. -/
theorem eq_amax {f : Fin 5120 → EReal} {a : EReal} (h : ∀ b, a ≤ b ↔ 0 ≤ b ∧ ∀ k, max (f k) (-(f k)) ≤ b) : a = amax f :=
  le_antisymm ((h _).mpr ⟨(abs_nonneg' _).trans (amax_le.mp le_rfl 0), amax_le.mp le_rfl⟩)
    (amax_le.mpr ((h _).mp le_rfl).2)

theorem amax_nonneg (f : Fin 5120 → EReal) : 0 ≤ amax f := (abs_nonneg' _).trans (amax_le.mp le_rfl 0)

/-- The scale is not zero. -/
theorem scaleOf_ne_zero (a : EReal) : scaleOf a ≠ 0 := by
  unfold scaleOf
  split
  · exact one_ne_zero
  · rename_i h
    have hc : c448 ≠ 0 := by rw [c448_eq]; simp
    unfold Ideal.div
    rw [if_neg hc, c448_eq, ← EReal.coe_inv]
    exact mul_ne_zero h (by simp)

/-- Nor is the root mean square. -/
theorem rms_ne_zero (v : Fin 1280 → EReal) : rms v ≠ 0 := by
  have h0 : 0 ≤ Ideal.div (∑ q, v q * v q) cdim := by
    unfold Ideal.div
    rw [if_neg (by rw [cdim_eq]; simp), cdim_eq, ← EReal.coe_inv]
    exact EReal.mul_nonneg (Finset.sum_nonneg fun q _ => sq_nonneg' _) (by exact_mod_cast (by norm_num))
  have h1 : 0 < Ideal.div (∑ q, v q * v q) cdim + ceps := lt_of_lt_of_le ceps_pos (le_add_of_nonneg_left h0)
  unfold rms
  generalize Ideal.div (∑ q, v q * v q) cdim + ceps = t at h1
  induction t with
  | bot => exact absurd h1 (by simp)
  | top => exact (show (⊤ : EReal) ≠ 0 by simp)
  | coe r =>
    have hr : 0 < r := by exact_mod_cast h1
    have : Ideal.sqrt (r : EReal) = ((Real.sqrt r : ℝ) : EReal) := if_neg (not_lt.mpr hr.le)
    rw [this]
    exact_mod_cast (Real.sqrt_pos.mpr hr).ne'

end Cert.Merge1Math
-- ==== Proof.Merge1Ideal.Rows.lean ====
/- What one trip of the first merge kernel's first loop keeps in its scratch: 128 normalised rows, in ten pieces of 128
   columns, and the column-wise maximum of their absolute values. -/
module

public import proofs.«01_k».proof.Proof.Gen.Merge1Ideal.Skeleton
public import proofs.«01_k».proof.Proof.Merge1Math
public import Idealize.ShloMosaic.Lib.Pipeline.ArrRel
public import Idealize.ShloMosaic.Lib.Pipeline.ValueKit
public import Idealize.ShloMosaic.Lib.Pointwise.Index

@[expose] public section

set_option maxRecDepth 16384

noncomputable section

namespace Cert.Merge1Ideal.Body

open Cert.Merge1Ideal Cert.Merge1Ideal.Gen Cert.Merge1Math
open Idealize.ShloMosaic Idealize.ShloMosaic.TcCoe Idealize.ShloMosaic.Tactic

variable (x1 : Vec Ideal S1024x1280 .bf16) (x2 : Vec Ideal S1x1280 .f32)

/-- Row `P` of the block of rows, and the gain. -/
def prow (P : ℕ) (q : Fin 1280) : EReal := x1 (ix2 (n0 := 1024) (n1 := 1280) ⟨P % 1024, by omega⟩ q)
def gain (q : Fin 1280) : EReal := x2 (ix2 (n0 := 1) (n1 := 1280) 0 q)

theorem trips1 : k0_t1_loop.trips = 8 := by decide +kernel

/-- Trip `k` reads the rows from `128 k`. -/
theorem off1_eq : ∀ k, k0_off1 k 0 = 128 * k.val := by decide +kernel

variable (k : Fin k0_t1_loop.trips)

theorem k_lt : k.val < 8 := lt_of_lt_of_eq k.isLt trips1

/-- Piece `c` of the trip's rows, and of the gain. -/
def XA (c : ℕ) : Vec Ideal S128x128 .bf16 :=
  View.ld x1 (Rect.unit (s := S1024x1280) ![k0_off1 k 0, 128 * (c % 10)] S128x128.size (by
    have := off1_eq k; have := k_lt k
    rw [Fin.forall_fin_two]; constructor <;> simp [S1024x1280, S128x128] <;> omega))
def XB (c : ℕ) : Vec Ideal S1x128 .f32 :=
  View.ld x2 (Rect.unit (s := S1x1280) ![0, 128 * (c % 10)] S1x128.size (by
    rw [Fin.forall_fin_two]; constructor <;> simp [S1x1280, S1x128] <;> omega))

theorem XA_apply (c : ℕ) (p l : Fin 128) :
    XA x1 k c (ix2 p l) = prow x1 (128 * k.val + p.val) ⟨128 * (c % 10) + l.val, by omega⟩ := by
  have := off1_eq k; have := k_lt k
  refine View.ld_unit_apply_of _ _ _ _ _ _ ?_
  rw [Fin.forall_fin_two]
  constructor
  · show (128 * k.val + p.val) % 1024 = k0_off1 k 0 + p.val
    omega
  · rfl

theorem XB_apply (c : ℕ) (l : Fin 128) : XB x2 c (ix2 0 l) = gain x2 ⟨128 * (c % 10) + l.val, by omega⟩ := by
  refine View.ld_unit_apply_of _ _ _ _ _ _ ?_
  rw [Fin.forall_fin_two]
  constructor <;> rfl

/-- One over the root mean square of each row. -/
def xinv : FVec Ideal S128x1 .f32 :=
  k0_pay4 (k0_pay2 (XA x1 k 0) (XA x1 k 1) (XA x1 k 2) (XA x1 k 3) (XA x1 k 4) (XA x1 k 5) (XA x1 k 6)) (k0_pay3 (XA x1 k 7))
    (XA x1 k 8) (XA x1 k 9)

/-- A sum over a row of 1280, column by column of its ten pieces. -/
theorem sum_pieces (f : Fin 1280 → EReal) :
    (∑ l : Fin 128, (f ⟨l.val, by omega⟩ + f ⟨128 + l.val, by omega⟩ + f ⟨256 + l.val, by omega⟩ + f ⟨384 + l.val, by omega⟩
      + f ⟨512 + l.val, by omega⟩ + f ⟨640 + l.val, by omega⟩ + f ⟨768 + l.val, by omega⟩ + f ⟨896 + l.val, by omega⟩
      + f ⟨1024 + l.val, by omega⟩ + f ⟨1152 + l.val, by omega⟩)) = ∑ q, f q := by
  have h : ∑ q, f q = ∑ x : Fin 10 × Fin 128, f ⟨128 * x.1.val + x.2.val, by omega⟩ := by
    refine (Fintype.sum_equiv (finProdFinEquiv (m := 10) (n := 128)) _ _ fun x => ?_).symm
    congr 1
    exact Fin.ext (Nat.add_comm _ _)
  rw [h, Fintype.sum_prod_type_right]
  refine Finset.sum_congr rfl fun l _ => ?_
  simp [Fin.sum_univ_succ, add_assoc]

theorem xinv_apply (p : Fin 128) : xinv x1 k (ix2 p 0) = Ideal.div 1 (rms (prow x1 (128 * k.val + p.val))) := by
  unfold xinv rms
  rw [← sum_pieces]
  pointwise [k0_pay4, k0_pay3, k0_pay2]
  simp only [XA_apply]
  rfl

/-- Element `(p, q)` of the trip's normalised rows. -/
def xn (p : ℕ) (q : Fin 1280) : EReal := nrm (prow x1 (128 * k.val + p)) (gain x2) q

/-- A piece of them. -/
def xpiece (c : ℕ) : FVec Ideal S1x128x128 .f32 := k0_pay13 (xinv x1 k) (XA x1 k c) (XB x2 c)

theorem piece_apply (c : ℕ) (p l : Fin 128) :
    k0_pay12 (xinv x1 k) (XA x1 k c) (XB x2 c) (ix2 p l) = xn x1 x2 k p.val ⟨128 * (c % 10) + l.val, by omega⟩ := by
  pointwise [k0_pay12]
  rw [XA_apply, XB_apply, xinv_apply]
  exact congrArg (· * gain x2 _) (Ideal.mul_one_div (rms_ne_zero _))

theorem xpiece_apply (c : ℕ) (p l : Fin 128) :
    xpiece x1 x2 k c (ix3 0 p l) = xn x1 x2 k p.val ⟨128 * (c % 10) + l.val, by omega⟩ := by
  rw [← piece_apply]
  unfold xpiece
  pointwise [k0_pay13, k0_pay12]

/-- The column-wise maximum of the absolute values, after the first `n` pieces. -/
def xmax : ℕ → FVec Ideal S128x128 .f32
  | 0 => broadcast S128x128 (Scalar.ofBits .f32 0x00000000#32)
  | n + 1 => maximumf (xmax n) (absf (k0_pay12 (xinv x1 k) (XA x1 k n) (XB x2 n)))

theorem xmax_le (p l : Fin 128) (b : EReal) : ∀ n, n ≤ 10 → (xmax x1 x2 k n (ix2 p l) ≤ b ↔ 0 ≤ b ∧ ∀ c : Fin 10, c.val < n →
    max (xn x1 x2 k p.val ⟨128 * c.val + l.val, by omega⟩) (-(xn x1 x2 k p.val ⟨128 * c.val + l.val, by omega⟩)) ≤ b)
  | 0, _ => by
    have : xmax x1 x2 k 0 (ix2 p l) = 0 := by unfold xmax; pointwise []
    rw [this]; simp
  | n + 1, hn => by
    have : xmax x1 x2 k (n + 1) (ix2 p l) = max (xmax x1 x2 k n (ix2 p l)) (max (xn x1 x2 k p.val ⟨128 * (n % 10) + l.val, by omega⟩)
        (-(xn x1 x2 k p.val ⟨128 * (n % 10) + l.val, by omega⟩))) := by
      rw [← piece_apply]; rfl
    rw [this, max_le_iff, xmax_le p l b n (by omega)]
    constructor
    · rintro ⟨⟨h0, h⟩, h'⟩
      refine ⟨h0, fun c hc => ?_⟩
      by_cases e : c.val = n
      · subst e; simpa only [Nat.mod_eq_of_lt c.isLt] using h'
      · exact h c (by omega)
    · rintro ⟨h0, h⟩
      refine ⟨⟨h0, fun c hc => h c (by omega)⟩, ?_⟩
      have := h ⟨n, by omega⟩ (by simp)
      simpa only [Nat.mod_eq_of_lt (show n < 10 by omega)] using this

end Cert.Merge1Ideal.Body
-- ==== Proof.Merge1Ideal.Codes.lean ====
/- The codes and the scales one trip of the first merge kernel's first loop stores: 32 merged rows. -/
module

public import proofs.«01_k».proof.Proof.Merge1Ideal.Rows
public import Idealize.ShloMosaic.Lib.Pipeline.CanonAppend

@[expose] public section

set_option maxRecDepth 16384

noncomputable section

namespace Cert.Merge1Ideal.Body

open Cert.Merge1Ideal Cert.Merge1Ideal.Gen Cert.Merge1Math
open Idealize.ShloMosaic Idealize.ShloMosaic.TcCoe Idealize.ShloMosaic.Tactic

variable (x1 : Vec Ideal S1024x1280 .bf16) (x2 : Vec Ideal S1x1280 .f32)

/-- Merged row `R` of the block: four normalised rows side by side. -/
def xrow (R : ℕ) : Fin 5120 → EReal := mrow (fun j => prow x1 (4 * R + j.val)) (gain x2)

/-- The block's scales, and its codes. -/
def mS (R : ℕ) : EReal := scaleOf (amax (xrow x1 x2 R))
def mC (R : ℕ) (q : Fin 5120) : EReal := codeOf (xrow x1 x2 R q) (mS x1 x2 R)

variable (k : Fin k0_t1_loop.trips)

/-- The trip's rows are the block's. -/
theorem xrow_eq (g : Fin 32) (j : ℕ) (hj : j < 4) (q : Fin 1280) :
    xn x1 x2 k (4 * g.val + j) q = xrow x1 x2 (32 * k.val + g.val) ⟨1280 * j + q.val, by omega⟩ := by
  unfold xn xrow mrow
  rw [show 128 * k.val + (4 * g.val + j) = 4 * (32 * k.val + g.val) + (1280 * j + q.val) / 1280 by omega]
  congr 1
  exact Fin.ext (by show q.val = (1280 * j + q.val) % 1280; omega)

/-- The ten stores of pieces, and what they leave. -/
def p13 (c : ℕ) : View.Piece (Elt Ideal) S10x128x128 .f32 :=
  ⟨Rect.unit (s := S10x128x128) ![c % 10, 0, 0] S1x128x128.size (by
    intro a; fin_cases a <;> simp [S10x128x128, S1x128x128] <;> omega), xpiece x1 x2 k c⟩
def L13 : List (View.Piece (Elt Ideal) S10x128x128 .f32) := [9, 8, 7, 6, 5, 4, 3, 2, 1, 0].map (p13 x1 x2 k)

def G13 (y : S10x128x128.Idx) : EReal :=
  xn x1 x2 k (y 1).val ⟨(128 * (y 0).val + (y 2).val) % 1280, by omega⟩

theorem p13_ok (c : ℕ) (x : S1x128x128.Idx) : (p13 x1 x2 k c).2 x = G13 x1 x2 k ((p13 x1 x2 k c).1.emb x) := by
  obtain ⟨a, p, l, rfl⟩ : ∃ (a : Fin 1) (p l : Fin 128), x = ix3 a p l := ⟨x 0, x 1, x 2, by funext i; fin_cases i <;> rfl⟩
  obtain rfl : a = 0 := Subsingleton.elim _ _
  refine (xpiece_apply x1 x2 k c p l).trans ?_
  have h1 : ((p13 x1 x2 k c).1.emb (ix3 0 p l) 1).val = p.val := by
    show 0 + 1 * p.val = p.val; omega
  unfold G13
  rw [h1]
  congr 1
  exact Fin.ext (by show 128 * (c % 10) + l.val = (128 * (c % 10 + 1 * 0) + (0 + 1 * l.val)) % 1280; omega)

theorem canon13 (y : S10x128x128.Idx) : View.canon (L13 x1 x2 k) y = G13 x1 x2 k y := by
  rw [← List.append_nil (L13 x1 x2 k)]
  refine View.canon_append_of_pieces (Val := Elt Ideal) (e := .f32) (G13 x1 x2 k) [] _ (fun p hp => ?_) y ?_
  · obtain ⟨c, -, rfl⟩ := List.mem_map.mp hp
    exact p13_ok x1 x2 k c
  · have h0 : (y 0).val < 10 := (y 0).isLt
    have h1 : (y 1).val < 128 := (y 1).isLt
    have h2 : (y 2).val < 128 := (y 2).isLt
    refine ⟨p13 x1 x2 k (y 0).val, List.mem_map.mpr ⟨(y 0).val, by simp; omega, rfl⟩, ?_⟩
    dsimp only [p13]
    rw [Rect.mem_set_unit]
    intro a
    fin_cases a
    · show (y 0).val % 10 ≤ (y 0).val ∧ (y 0).val < (y 0).val % 10 + 1
      omega
    · show 0 ≤ (y 1).val ∧ (y 1).val < 0 + 128
      omega
    · show 0 ≤ (y 2).val ∧ (y 2).val < 0 + 128
      omega

variable (arg13 : Memref sig .tc .vmem S10x128x128 .f32) (arg14 : Memref sig .tc .vmem S128x128 .f32)

/-- Every fourth row of a piece, from row `j`. -/
def XT (c j : ℕ) : Vec Ideal S1x32x128 .f32 :=
  arg13.view.readCov (L13 x1 x2 k) ⟨![c % 10, j % 4, 0], S1x32x128.size, ![1, 4, 1], by
    intro a; right; fin_cases a <;> simp [S10x128x128, S1x32x128] <;> omega⟩

theorem XT_apply (c j : ℕ) (g : Fin 32) (l : Fin 128) : XT x1 x2 k arg13 c j (ix3 0 g l)
    = xrow x1 x2 (32 * k.val + g.val) ⟨1280 * (j % 4) + 128 * (c % 10) + l.val, by omega⟩ := by
  unfold XT
  rw [View.readCov_eq_canon']
  show View.canon _ _ = _
  rw [canon13]
  unfold G13
  show xn x1 x2 k (j % 4 + 4 * g.val) ⟨(128 * (c % 10 + 1 * 0) + (0 + 1 * l.val)) % 1280, _⟩ = _
  simp only [Nat.add_comm (j % 4) (4 * g.val)]
  rw [xrow_eq x1 x2 k g (j % 4) (by omega)]
  congr 1
  exact Fin.ext (by show 1280 * (j % 4) + (128 * (c % 10 + 1 * 0) + (0 + 1 * l.val)) % 1280 = 1280 * (j % 4) + 128 * (c % 10) + l.val; omega)

/-- Every fourth row of the maxima, from row `j`. -/
def XM (j : ℕ) : Vec Ideal S32x128 .f32 :=
  arg14.view.readCov [⟨Rect.unit (s := S128x128) ![0, 0] S128x128.size (by
      intro a; fin_cases a <;> simp [S128x128]), k0_pay34 (xmax x1 x2 k 10)⟩]
    ⟨![j % 4, 0], S32x128.size, ![4, 1], by
      intro a; right; fin_cases a <;> simp [S128x128, S32x128] <;> omega⟩

theorem XM_apply (j : ℕ) (g : Fin 32) (l : Fin 128) :
    XM x1 x2 k arg14 j (ix2 g l) = xmax x1 x2 k 10 (ix2 ⟨4 * g.val + j % 4, by omega⟩ l) := by
  unfold XM
  rw [View.readCov_eq_canon', View.canon_cons_unit_lit _ _ _ (by rw [Fin.forall_fin_two]; constructor <;> rfl)]
  have h : k0_pay34 (xmax x1 x2 k 10) = xmax x1 x2 k 10 := by
    funext y
    obtain ⟨p, l, rfl⟩ : ∃ (p l : Fin 128), y = ix2 p l := ⟨y 0, y 1, by funext i; fin_cases i <;> rfl⟩
    pointwise [k0_pay34]
  rw [h]
  refine congrArg (xmax x1 x2 k 10) ?_
  funext a
  fin_cases a
  · exact Fin.ext (by show j % 4 + 4 * g.val = 4 * g.val + j % 4; omega)
  · exact Fin.ext (by show 0 + 1 * l.val = l.val; omega)

theorem XM_le (j : ℕ) (hj : j < 4) (g : Fin 32) (l : Fin 128) (b : EReal) : XM x1 x2 k arg14 j (ix2 g l) ≤ b ↔ 0 ≤ b ∧ ∀ c : Fin 10,
    max (xrow x1 x2 (32 * k.val + g.val) ⟨1280 * j + (128 * c.val + l.val), by omega⟩)
      (-(xrow x1 x2 (32 * k.val + g.val) ⟨1280 * j + (128 * c.val + l.val), by omega⟩)) ≤ b := by
  rw [XM_apply, xmax_le x1 x2 k _ _ b 10 le_rfl]
  simp only [Fin.is_lt, forall_const, Nat.mod_eq_of_lt hj, xrow_eq x1 x2 k g j hj]

/-- The trip's scales. -/
theorem scale_apply (g : Fin 32) : k0_pay35 (XM x1 x2 k arg14 0) (XM x1 x2 k arg14 1) (XM x1 x2 k arg14 2) (XM x1 x2 k arg14 3) (ix2 g 0)
    = mS x1 x2 (32 * k.val + g.val) := by
  have h : Finset.fold max (Ideal.ofBits .f32 4286578688#32) (fun l : Fin 128 => max (max (max (XM x1 x2 k arg14 0 (ix2 g l))
      (XM x1 x2 k arg14 1 (ix2 g l))) (XM x1 x2 k arg14 2 (ix2 g l))) (XM x1 x2 k arg14 3 (ix2 g l))) Finset.univ
      = amax (xrow x1 x2 (32 * k.val + g.val)) := by
    refine eq_amax fun b => ?_
    rw [Finset.fold_max_le, show (4286578688#32) = (0xFF800000#32) from rfl, neg_inf]
    simp only [bot_le, true_and, Finset.mem_univ, forall_const, max_le_iff (c := b) (a := max _ _), max_le_iff (b := XM x1 x2 k arg14 1 _),
      XM_le x1 x2 k arg14 0 (by omega), XM_le x1 x2 k arg14 1 (by omega), XM_le x1 x2 k arg14 2 (by omega), XM_le x1 x2 k arg14 3 (by omega)]
    constructor
    · intro h
      refine ⟨(h 0).2.1, fun q => ?_⟩
      obtain ⟨⟨⟨⟨-, e0⟩, -, e1⟩, -, e2⟩, -, e3⟩ := h ⟨q.val % 128, by omega⟩
      have hq : q.val = 1280 * (q.val / 1280) + (128 * (q.val % 1280 / 128) + q.val % 128) := by omega
      have hj : q.val / 1280 < 4 := by omega
      have key : ∀ j, j < 4 → (∀ c : Fin 10, max (xrow x1 x2 (32 * k.val + g.val) ⟨(1280 * j + (128 * c.val + q.val % 128)) % 5120, by omega⟩)
          (-(xrow x1 x2 (32 * k.val + g.val) ⟨(1280 * j + (128 * c.val + q.val % 128)) % 5120, by omega⟩)) ≤ b) := by
        intro j hj c
        have hm : (1280 * j + (128 * c.val + q.val % 128)) % 5120 = 1280 * j + (128 * c.val + q.val % 128) := Nat.mod_eq_of_lt (by omega)
        simp only [hm]
        interval_cases j
        exacts [e0 c, e1 c, e2 c, e3 c]
      have := key _ hj ⟨q.val % 1280 / 128, by omega⟩
      have hm : (1280 * (q.val / 1280) + (128 * (q.val % 1280 / 128) + q.val % 128)) % 5120 = q.val := by omega
      simpa only [hm] using this
    · rintro ⟨h0, h⟩ l
      exact ⟨⟨⟨⟨h0, fun c => h _⟩, h0, fun c => h _⟩, h0, fun c => h _⟩, h0, fun c => h _⟩
  unfold mS scaleOf
  pointwise [k0_pay35]
  rw [h]
  rfl

theorem rs_apply (g : Fin 32) : k0_pay37 (XM x1 x2 k arg14 0) (XM x1 x2 k arg14 1) (XM x1 x2 k arg14 2) (XM x1 x2 k arg14 3) (ix2 g 0)
    = Ideal.div 1 (mS x1 x2 (32 * k.val + g.val)) := by
  rw [← scale_apply x1 x2 k arg14]
  pointwise [k0_pay37]

theorem off12_eq : ∀ k, k0_off12 k 0 = 32 * k.val := by decide +kernel
theorem off11_eq : ∀ k, k0_off11 k 0 = 32 * k.val := by decide +kernel

/-- The forty stores of codes, tile `n` of 128 columns. -/
def p6 (n : ℕ) : View.Piece (Elt Ideal) S256x5120 .fp8e4m3 :=
  ⟨Rect.unit (s := S256x5120) ![k0_off12 k 0, 128 * (n % 40)] S32x128.size (by
    have := off12_eq k; have := k_lt k
    intro a; fin_cases a <;> simp [S256x5120, S32x128] <;> omega),
    k0_pay39 (k0_pay37 (XM x1 x2 k arg14 0) (XM x1 x2 k arg14 1) (XM x1 x2 k arg14 2) (XM x1 x2 k arg14 3)) (XT x1 x2 k arg13 (n % 10) (n / 10))⟩
def tiles : List ℕ := [39, 38, 37, 36, 35, 34, 33, 32, 31, 30, 29, 28, 27, 26, 25, 24, 23, 22, 21, 20, 19, 18, 17, 16, 15, 14, 13, 12, 11, 10, 9, 8, 7, 6, 5, 4, 3, 2, 1, 0]
def L6 : List (View.Piece (Elt Ideal) S256x5120 .fp8e4m3) := tiles.map (p6 x1 x2 k arg13 arg14)

theorem tiles_mem {n : ℕ} : n ∈ tiles ↔ n < 40 := by
  constructor
  · intro h; revert n; decide
  · intro h; interval_cases n <;> decide

/-- The block's codes. -/
def valM (y : S256x5120.Idx) : EReal := mC x1 x2 (y 0).val (y 1)

theorem p6_ok (n : ℕ) (hn : n < 40) (x : S32x128.Idx) :
    (p6 x1 x2 k arg13 arg14 n).2 x = valM x1 x2 ((p6 x1 x2 k arg13 arg14 n).1.emb x) := by
  obtain ⟨g, l, rfl⟩ : ∃ (g : Fin 32) (l : Fin 128), x = ix2 g l := ⟨x 0, x 1, by funext i; fin_cases i <;> rfl⟩
  have e : k0_pay39 (k0_pay37 (XM x1 x2 k arg14 0) (XM x1 x2 k arg14 1) (XM x1 x2 k arg14 2) (XM x1 x2 k arg14 3)) (XT x1 x2 k arg13 (n % 10) (n / 10)) (ix2 g l)
      = mC x1 x2 (32 * k.val + g.val) ⟨(128 * n + l.val) % 5120, by omega⟩ := by
    pointwise [k0_pay39]
    rw [rs_apply, XT_apply]
    unfold mC codeOf c448 cneg
    rw [show xrow x1 x2 (32 * k.val + g.val) ⟨1280 * (n / 10 % 4) + 128 * (n % 10 % 10) + l.val, by omega⟩ = xrow x1 x2 (32 * k.val + g.val) ⟨(128 * n + l.val) % 5120, by omega⟩
      from congrArg _ (Fin.ext (by show 1280 * (n / 10 % 4) + 128 * (n % 10 % 10) + l.val = (128 * n + l.val) % 5120; omega))]
    exact congrArg (fun t => min _ (max _ t)) (Ideal.mul_one_div (scaleOf_ne_zero _))
  refine e.trans ?_
  unfold valM
  have h0 : ((p6 x1 x2 k arg13 arg14 n).1.emb (ix2 g l) 0).val = 32 * k.val + g.val := by
    show k0_off12 k 0 + 1 * g.val = _; rw [off12_eq]; omega
  rw [h0]
  congr 1
  exact Fin.ext (by show (128 * n + l.val) % 5120 = 128 * (n % 40) + 1 * l.val; omega)

/-- After the trip the codes of the rows up to `32 (k + 1)` are there. -/
theorem codes_step (arg6 : Memref sig .tc .vmem S256x5120 .fp8e4m3) (f6 : arg6.view.ty.Contents (Elt Ideal))
    (h : ∀ y : S256x5120.Idx, (y 0).val < 32 * k.val → arg6.view.read (Elt Ideal) f6 y = valM x1 x2 y) :
    ∀ y : S256x5120.Idx, (y 0).val < 32 * (k.val + 1) →
      arg6.view.read (Elt Ideal) (arg6.view.writes (Elt Ideal) f6 (L6 x1 x2 k arg13 arg14)) y = valM x1 x2 y := by
  intro y hy
  have hoff := off12_eq k
  have h1 : (y 1).val < 5120 := (y 1).isLt
  by_cases hlt : (y 0).val < 32 * k.val
  · rw [View.read_writes_apply_of_forall_not_mem (Val := Elt Ideal), h y hlt]
    intro p hp
    obtain ⟨n, -, rfl⟩ := List.mem_map.mp hp
    intro hm
    dsimp only [p6] at hm
    rw [Rect.mem_set_unit] at hm
    have : k0_off12 k 0 ≤ (y 0).val := (hm 0).1
    omega
  · refine View.read_writes_apply_of_pieces (Val := Elt Ideal) _ _ (valM x1 x2) _ (fun p hp => ?_) y
      ⟨p6 x1 x2 k arg13 arg14 ((y 1).val / 128), List.mem_map.mpr ⟨_, tiles_mem.mpr (by omega), rfl⟩, ?_⟩
    · obtain ⟨n, hn, rfl⟩ := List.mem_map.mp hp
      exact p6_ok x1 x2 k arg13 arg14 n (tiles_mem.mp hn)
    · dsimp only [p6]
      rw [Rect.mem_set_unit]
      intro a
      fin_cases a
      · show k0_off12 k 0 ≤ (y 0).val ∧ (y 0).val < k0_off12 k 0 + 32
        omega
      · show 128 * ((y 1).val / 128 % 40) ≤ (y 1).val ∧ (y 1).val < 128 * ((y 1).val / 128 % 40) + 128
        omega

/-- The store of the scales. -/
def p11 : View.Piece (Elt Ideal) S256x128 .f32 :=
  ⟨Rect.unit (s := S256x128) (k0_off11 k) S32x128.size (k0_off11_inb k), k0_pay36 (XM x1 x2 k arg14 0) (XM x1 x2 k arg14 1) (XM x1 x2 k arg14 2) (XM x1 x2 k arg14 3)⟩

/-- After the trip so are their scales. -/
theorem scale_step (arg11 : Memref sig .tc .vmem S256x128 .f32) (f11 : arg11.view.ty.Contents (Elt Ideal))
    (h : ∀ y : S256x128.Idx, (y 0).val < 32 * k.val → arg11.view.read (Elt Ideal) f11 y = mS x1 x2 (y 0).val) :
    ∀ y : S256x128.Idx, (y 0).val < 32 * (k.val + 1) →
      arg11.view.read (Elt Ideal) (arg11.view.writes (Elt Ideal) f11 [p11 x1 x2 k arg14]) y = mS x1 x2 (y 0).val := by
  intro y hy
  have hoff := off11_eq k
  have h1 : (y 1).val < 128 := (y 1).isLt
  by_cases hlt : (y 0).val < 32 * k.val
  · rw [View.read_writes_apply_of_forall_not_mem (Val := Elt Ideal), h y hlt]
    intro p hp
    obtain rfl := List.mem_singleton.mp hp
    intro hm
    dsimp only [p11] at hm
    rw [Rect.mem_set_unit] at hm
    have := (hm 0).1
    omega
  · refine View.read_writes_apply_of_pieces (Val := Elt Ideal) _ _ (fun y => mS x1 x2 (y 0).val) _ (fun p hp => ?_) y
      ⟨p11 x1 x2 k arg14, List.mem_singleton.mpr rfl, ?_⟩
    · obtain rfl := List.mem_singleton.mp hp
      intro x
      obtain ⟨g, l, rfl⟩ : ∃ (g : Fin 32) (l : Fin 128), x = ix2 g l := ⟨x 0, x 1, by funext i; fin_cases i <;> rfl⟩
      have e : k0_pay36 (XM x1 x2 k arg14 0) (XM x1 x2 k arg14 1) (XM x1 x2 k arg14 2) (XM x1 x2 k arg14 3) (ix2 g l) = mS x1 x2 (32 * k.val + g.val) := by
        rw [← scale_apply x1 x2 k arg14]
        pointwise [k0_pay36]
      refine e.trans ?_
      show _ = mS x1 x2 (k0_off11 k 0 + 1 * g.val)
      rw [hoff, Nat.one_mul]
    · dsimp only [p11]
      rw [Rect.mem_set_unit]
      intro a
      fin_cases a
      · show k0_off11 k 0 ≤ (y 0).val ∧ (y 0).val < k0_off11 k 0 + 32
        omega
      · show 0 ≤ (y 1).val ∧ (y 1).val < 0 + 128
        omega

end Cert.Merge1Ideal.Body
-- ==== Proof.Merge1Ideal.Trip1.lean ====
/- One trip of the first loop keeps its invariant. -/
module

public import proofs.«01_k».proof.Proof.Gen.Merge1Ideal.Frame
public import proofs.«01_k».proof.Proof.Merge1Ideal.Codes

@[expose] public section

set_option maxRecDepth 16384

noncomputable section

namespace Cert.Merge1Ideal.Body

open Cert.Merge1Ideal Cert.Merge1Ideal.Gen Cert.Merge1Math
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window cellOf)

local notation "𝕄" => MT nD τ sig Unit (Elt Ideal) ℕ (UR sig nD τ) ℕ

/-- Before trip `n` of the first loop: the codes and the scales of the first `32 n` merged rows are there. -/
def inv1 (c : Dev nD) (arg1 : Memref sig .tc .vmem S1024x1280 .bf16) (arg2 : Memref sig .tc .vmem S1x1280 .f32) (arg6 : Memref sig .tc .vmem S256x5120 .fp8e4m3) (arg11 : Memref sig .tc .vmem S256x128 .f32) (arg13 : Memref sig .tc .vmem S10x128x128 .f32) (arg14 : Memref sig .tc .vmem S128x128 .f32)
    (f1 : arg1.view.ty.Contents (Elt Ideal)) (f2 : arg2.view.ty.Contents (Elt Ideal)) (n : ℕ) (_ : Unit) : sProp 𝕄 :=
  iprop((arg1.view.loc (c : Thread nD τ) ↦[arg1.view.set]{fullShare} f1) ∗ (arg2.view.loc (c : Thread nD τ) ↦[arg2.view.set]{fullShare} f2)
    ∗ (∃ f, (arg6.view.loc (c : Thread nD τ) ↦[arg6.view.set]{fullShare} f) ∗ ⌜∀ y : S256x5120.Idx, (y 0).val < 32 * n → arg6.view.read (Elt Ideal) f y = valM (arg1.view.read (Elt Ideal) f1) (arg2.view.read (Elt Ideal) f2) y⌝)
    ∗ (∃ f, (arg11.view.loc (c : Thread nD τ) ↦[arg11.view.set]{fullShare} f) ∗ ⌜∀ y : S256x128.Idx, (y 0).val < 32 * n → arg11.view.read (Elt Ideal) f y = mS (arg1.view.read (Elt Ideal) f1) (arg2.view.read (Elt Ideal) f2) (y 0).val⌝)
    ∗ (∃ f, (arg13.view.loc (c : Thread nD τ) ↦[arg13.view.set]{fullShare} f)) ∗ (∃ f, (arg14.view.loc (c : Thread nD τ) ↦[arg14.view.set]{fullShare} f)))

set_option maxHeartbeats 4000000 in
theorem trip1 (c : Dev nD) (i : grid0.Coords) (arg1 : Memref sig .tc .vmem S1024x1280 .bf16) (harg1 : arg1.IsWhole) (arg2 : Memref sig .tc .vmem S1x1280 .f32) (harg2 : arg2.IsWhole) (arg3 : Memref sig .tc .vmem S5120x5120 .fp8e4m3) (harg3 : arg3.IsWhole) (arg4 : Memref sig .tc .vmem S1x5120 .f32) (harg4 : arg4.IsWhole) (arg5 : Memref sig .tc .vmem S1x5120 .f32) (harg5 : arg5.IsWhole)
    (arg6 : Memref sig .tc .vmem S256x5120 .fp8e4m3) (harg6 : arg6.IsWhole) (arg7 : Memref sig .tc .vmem S1x1x256 .f32) (harg7 : arg7.IsWhole) (arg8 : Memref sig .tc .vmem S256x5120 .fp8e4m3) (harg8 : arg8.IsWhole) (arg9 : Memref sig .tc .vmem S1x1x256 .f32) (harg9 : arg9.IsWhole)
    (arg10 : Memref sig .tc .vmem S256x5120 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S10x128x128 .f32) (harg13 : arg13.IsWhole) (arg14 : Memref sig .tc .vmem S128x128 .f32) (harg14 : arg14.IsWhole)
    (f1 : arg1.view.ty.Contents (Elt Ideal)) (f2 : arg2.view.ty.Contents (Elt Ideal)) (k : Fin k0_t1_loop.trips) :
    inv1 c arg1 arg2 arg6 arg11 arg13 arg14 f1 f2 k.val ()
      ⊢ wp frame (wpE (defs₀ (F := Ideal)) Variants.none c none) Set.univ (k0_t1_body i arg1 harg1 arg2 harg2 arg3 harg3 arg4 harg4 arg5 harg5 arg6 harg6 arg7 harg7 arg8 harg8 arg9 harg9 arg10 harg10 arg11 harg11 arg12 harg12 arg13 harg13 arg14 harg14 k ())
        (inv1 c arg1 arg2 arg6 arg11 arg13 arg14 f1 f2 (k.val + 1)) := by
  unfold k0_t1_body inv1
  iintro ⟨H1, H2, ⟨%f6, H6, %h6⟩, ⟨%f11, H11, %h11⟩, ⟨%f13, H13⟩, ⟨%f14, H14⟩⟩
  sl_exec
  sl_step
  isplitl [H1]; · iexact H1
  isplitl [H2]; · iexact H2
  isplitl [H6]
  · iexists _; isplitl [H6]; · iexact H6
    ipureintro
    exact codes_step (arg1.view.read (Elt Ideal) f1) (arg2.view.read (Elt Ideal) f2) k arg13 arg14 arg6 f6 h6
  isplitl [H11]
  · iexists _; isplitl [H11]; · iexact H11
    ipureintro
    exact scale_step (arg1.view.read (Elt Ideal) f1) (arg2.view.read (Elt Ideal) f2) k arg14 arg11 f11 h11
  isplitl [H13]; · iexists _; iexact H13
  iexists _; iexact H14

end Cert.Merge1Ideal.Body
-- ==== Proof.Merge1Ideal.Hidden.lean ====
/- What one trip of the first merge kernel's second loop keeps: 512 columns of the activated product, and the running
   maximum of its absolute values, lane by lane. -/
module

public import proofs.«01_k».proof.Proof.Merge1Ideal.Codes

@[expose] public section

set_option maxRecDepth 16384

noncomputable section

namespace Cert.Merge1Ideal.Body

open Cert.Merge1Ideal Cert.Merge1Ideal.Gen Cert.Merge1Math
open Idealize.ShloMosaic Idealize.ShloMosaic.TcCoe Idealize.ShloMosaic.Tactic

variable (x1 : Vec Ideal S1024x1280 .bf16) (x2 : Vec Ideal S1x1280 .f32) (x3 : Vec Ideal S5120x5120 .fp8e4m3) (x4 x5 : Vec Ideal S1x5120 .f32)

/-- Element `(R, n)` of the block's activated product. -/
def hv (R : ℕ) (n : Fin 5120) : EReal :=
  hid (xrow x1 x2 R) (fun k n => x3 (ix2 (n0 := 5120) (n1 := 5120) k n)) (fun n => x4 (ix2 (n0 := 1) (n1 := 5120) 0 n)) (fun n => x5 (ix2 (n0 := 1) (n1 := 5120) 0 n)) n

/-- Its absolute value. -/
def hva (R : ℕ) (n : Fin 5120) : EReal := max (hv x1 x2 x3 x4 x5 R n) (-(hv x1 x2 x3 x4 x5 R n))

/-- Its scales, and its codes. -/
def gS (R : ℕ) : EReal := scaleOf (amax (hv x1 x2 x3 x4 x5 R))
def gC (R : ℕ) (n : Fin 5120) : EReal := codeOf (hv x1 x2 x3 x4 x5 R n) (gS x1 x2 x3 x4 x5 R)

theorem trips2 : k0_t2_loop.trips = 10 := by decide +kernel
theorem off52_eq : ∀ k, k0_off52 k 0 = 0 ∧ k0_off52 k 1 = 512 * k.val := by decide +kernel
theorem off53_eq : ∀ k, k0_off53 k 0 = 0 ∧ k0_off53 k 1 = 512 * k.val := by decide +kernel
theorem off54_eq : ∀ k, k0_off54 k 0 = 0 ∧ k0_off54 k 1 = 512 * k.val := by decide +kernel

variable (k : Fin k0_t2_loop.trips)

theorem k2_lt : k.val < 10 := lt_of_lt_of_eq k.isLt trips2

/-- The trip's columns, from the codes and the scales the first loop left. -/
def hblk (x6 : Vec Ideal S256x5120 .fp8e4m3) (x11 : Vec Ideal S256x128 .f32) : FVec Ideal S256x512 .f32 :=
  k0_pay91 (View.ld x6 (Rect.unit (s := S256x5120) ![0, 0] S256x5120.size inb_S256x5120_S256x5120_0_0))
    (View.ld x3 (Rect.unit (s := S5120x5120) (k0_off52 k) S5120x512.size (k0_off52_inb k)))
    (View.ld x11 (Rect.unit (s := S256x128) ![0, 0] S256x1.size inb_S256x128_S256x1_0_0))
    (View.ld x4 (Rect.unit (s := S1x5120) (k0_off53 k) S1x512.size (k0_off53_inb k)))
    (View.ld x5 (Rect.unit (s := S1x5120) (k0_off53 k) S1x512.size (k0_off53_inb k)))

theorem pay91_apply (v37 : Vec Ideal S256x5120 .fp8e4m3) (v40 : Vec Ideal S5120x512 .fp8e4m3) (v42 : Vec Ideal S256x1 .f32)
    (v46 v51 : Vec Ideal S1x512 .f32) (R : Fin 256) (l : Fin 512) : k0_pay91 v37 v40 v42 v46 v51 (ix2 R l)
      = gelu ((∑ j : Fin 5120, v37 (ix2 R j) * v40 (ix2 j l)) * v42 (ix2 R 0) * v46 (ix2 0 l) + v51 (ix2 0 l)) := by
  pointwise [k0_pay91]
  rfl

theorem pay92_apply (v37 : Vec Ideal S256x5120 .fp8e4m3) (v40 : Vec Ideal S5120x512 .fp8e4m3) (v42 : Vec Ideal S256x1 .f32)
    (v46 v51 : Vec Ideal S1x512 .f32) (R : Fin 256) (l : Fin 512) :
    k0_pay92 v37 v40 v42 v46 v51 (ix2 R l) = k0_pay91 v37 v40 v42 v46 v51 (ix2 R l) := by
  unfold k0_pay92
  generalize k0_pay91 v37 v40 v42 v46 v51 = X
  pointwise []

variable (x6 : Vec Ideal S256x5120 .fp8e4m3) (x11 : Vec Ideal S256x128 .f32)
  (h6 : ∀ y, x6 y = valM x1 x2 y) (h11 : ∀ y, x11 y = mS x1 x2 (y 0).val)

include h6 h11

theorem hblk_apply (R : Fin 256) (l : Fin 512) :
    hblk x3 x4 x5 k x6 x11 (ix2 R l) = hv x1 x2 x3 x4 x5 R.val ⟨(512 * k.val + l.val) % 5120, by omega⟩ := by
  have hk := k2_lt k
  have e52 := off52_eq k
  have e53 := off53_eq k
  have hm : (512 * k.val + l.val) % 5120 = 512 * k.val + l.val := Nat.mod_eq_of_lt (by omega)
  have a6 : ∀ j : Fin 5120, View.ld x6 (Rect.unit (s := S256x5120) ![0, 0] S256x5120.size inb_S256x5120_S256x5120_0_0) (ix2 R j)
      = mC x1 x2 R.val j := fun j => by
    rw [View.ld_unit_apply_of _ _ _ _ _ (ix2 R j) (by rw [Fin.forall_fin_two]; exact ⟨(Nat.zero_add _).symm, (Nat.zero_add _).symm⟩), h6]
    rfl
  have a3 : ∀ j : Fin 5120, View.ld x3 (Rect.unit (s := S5120x5120) (k0_off52 k) S5120x512.size (k0_off52_inb k)) (ix2 j l)
      = x3 (ix2 (n0 := 5120) (n1 := 5120) j ⟨(512 * k.val + l.val) % 5120, by omega⟩) := fun j =>
    View.ld_unit_apply_of _ _ _ _ _ _ (by
      rw [Fin.forall_fin_two]
      exact ⟨by show j.val = k0_off52 k 0 + j.val; omega, by show (512 * k.val + l.val) % 5120 = k0_off52 k 1 + l.val; omega⟩)
  have a11 : View.ld x11 (Rect.unit (s := S256x128) ![0, 0] S256x1.size inb_S256x128_S256x1_0_0) (ix2 R 0) = mS x1 x2 R.val := by
    rw [View.ld_unit_apply_of _ _ _ _ _ (ix2 (n0 := 256) (n1 := 128) R 0) (by rw [Fin.forall_fin_two]; exact ⟨(Nat.zero_add _).symm, rfl⟩), h11]
    rfl
  have a45 : ∀ x : Vec Ideal S1x5120 .f32, View.ld x (Rect.unit (s := S1x5120) (k0_off53 k) S1x512.size (k0_off53_inb k)) (ix2 0 l)
      = x (ix2 (n0 := 1) (n1 := 5120) 0 ⟨(512 * k.val + l.val) % 5120, by omega⟩) := fun x =>
    View.ld_unit_apply_of _ _ _ _ _ _ (by
      rw [Fin.forall_fin_two]
      exact ⟨by show 0 = k0_off53 k 0 + 0; omega, by show (512 * k.val + l.val) % 5120 = k0_off53 k 1 + l.val; omega⟩)
  unfold hblk
  rw [pay91_apply]
  simp only [a6, a3]
  rw [a11, a45, a45]
  rfl

/-- The store of the trip's columns. -/
def p10 : View.Piece (Elt Ideal) S256x5120 .f32 :=
  ⟨Rect.unit (s := S256x5120) (k0_off54 k) S256x512.size (k0_off54_inb k),
    k0_pay92 (View.ld x6 (Rect.unit (s := S256x5120) ![0, 0] S256x5120.size inb_S256x5120_S256x5120_0_0))
    (View.ld x3 (Rect.unit (s := S5120x5120) (k0_off52 k) S5120x512.size (k0_off52_inb k)))
    (View.ld x11 (Rect.unit (s := S256x128) ![0, 0] S256x1.size inb_S256x128_S256x1_0_0))
    (View.ld x4 (Rect.unit (s := S1x5120) (k0_off53 k) S1x512.size (k0_off53_inb k)))
    (View.ld x5 (Rect.unit (s := S1x5120) (k0_off53 k) S1x512.size (k0_off53_inb k)))⟩

/-- After the trip the columns up to `512 (k + 1)` are there. -/
theorem hidden_step (arg10 : Memref sig .tc .vmem S256x5120 .f32) (f10 : arg10.view.ty.Contents (Elt Ideal))
    (h : ∀ y : S256x5120.Idx, (y 1).val < 512 * k.val → arg10.view.read (Elt Ideal) f10 y = hv x1 x2 x3 x4 x5 (y 0).val (y 1)) :
    ∀ y : S256x5120.Idx, (y 1).val < 512 * (k.val + 1) →
      arg10.view.read (Elt Ideal) (arg10.view.writes (Elt Ideal) f10 [p10 x3 x4 x5 k x6 x11]) y = hv x1 x2 x3 x4 x5 (y 0).val (y 1) := by
  intro y hy
  have hk := k2_lt k
  have hoff := off54_eq k
  have h0 : (y 0).val < 256 := (y 0).isLt
  by_cases hlt : (y 1).val < 512 * k.val
  · rw [View.read_writes_apply_of_forall_not_mem (Val := Elt Ideal), h y hlt]
    intro p hp
    obtain rfl := List.mem_singleton.mp hp
    intro hm
    dsimp only [p10] at hm
    rw [Rect.mem_set_unit] at hm
    have := (hm 1).1
    omega
  · refine View.read_writes_apply_of_pieces (Val := Elt Ideal) _ _ (fun y => hv x1 x2 x3 x4 x5 (y 0).val (y 1)) _ (fun p hp => ?_) y
      ⟨p10 x3 x4 x5 k x6 x11, List.mem_singleton.mpr rfl, ?_⟩
    · obtain rfl := List.mem_singleton.mp hp
      intro x
      obtain ⟨R, l, rfl⟩ : ∃ (R : Fin 256) (l : Fin 512), x = ix2 R l := ⟨x 0, x 1, by funext i; fin_cases i <;> rfl⟩
      have e : (p10 x3 x4 x5 k x6 x11).2 (ix2 R l) = hblk x3 x4 x5 k x6 x11 (ix2 R l) := pay92_apply _ _ _ _ _ R l
      refine e.trans ((hblk_apply x1 x2 x3 x4 x5 k x6 x11 h6 h11 R l).trans ?_)
      have e0 : ((p10 x3 x4 x5 k x6 x11).1.emb (ix2 R l) 0).val = R.val := by
        show k0_off54 k 0 + 1 * R.val = R.val; omega
      show _ = hv x1 x2 x3 x4 x5 ((p10 x3 x4 x5 k x6 x11).1.emb (ix2 R l) 0).val _
      rw [e0]
      congr 1
      exact Fin.ext (by show (512 * k.val + l.val) % 5120 = k0_off54 k 1 + 1 * l.val; omega)
    · dsimp only [p10]
      rw [Rect.mem_set_unit]
      intro a
      fin_cases a
      · show k0_off54 k 0 ≤ (y 0).val ∧ (y 0).val < k0_off54 k 0 + 256
        omega
      · show k0_off54 k 1 ≤ (y 1).val ∧ (y 1).val < k0_off54 k 1 + 512
        omega

/-- The running maximum after `n` trips, of the columns below `512 n`. -/
def Top (n : ℕ) (M : S256x128.Idx → EReal) : Prop := ∀ (R : Fin 256) (l : Fin 128) (b : EReal),
  M (ix2 R l) ≤ b ↔ 0 ≤ b ∧ ∀ q : Fin 5120, q.val < 512 * n → q.val % 128 = l.val → hva x1 x2 x3 x4 x5 R.val q ≤ b

omit h6 h11 in
theorem top_zero (M : S256x128.Idx → EReal) (h : ∀ y, M y = 0) : Top x1 x2 x3 x4 x5 0 M := by
  intro R l b
  rw [h]; simp

/-- The store of the running maximum. -/
def p12 (M : Vec Ideal S256x128 .f32) : View.Piece (Elt Ideal) S256x128 .f32 :=
  ⟨Rect.unit (s := S256x128) ![0, 0] S256x128.size inb_S256x128_S256x128_0_0,
    k0_pay149 (absf (hblk x3 x4 x5 k x6 x11))
      (maximumf (maximumf (View.ld M (Rect.unit (s := S256x128) ![0, 0] S256x128.size inb_S256x128_S256x128_0_0))
          (extractStridedSlice S256x128 ![0, 0] (absf (hblk x3 x4 x5 k x6 x11)) slices_S256x512_o0_0_S256x128))
        (extractStridedSlice S256x128 ![0, 128] (absf (hblk x3 x4 x5 k x6 x11)) slices_S256x512_o0_128_S256x128))
      (extractStridedSlice S256x128 ![0, 256] (absf (hblk x3 x4 x5 k x6 x11)) slices_S256x512_o0_256_S256x128)⟩

theorem p12_apply (M : Vec Ideal S256x128 .f32) (R : Fin 256) (l : Fin 128) : (p12 x3 x4 x5 k x6 x11 M).2 (ix2 R l)
    = max (max (max (max (M (ix2 R l)) (hva x1 x2 x3 x4 x5 R.val ⟨(512 * k.val + l.val) % 5120, by omega⟩))
        (hva x1 x2 x3 x4 x5 R.val ⟨(512 * k.val + (128 + l.val)) % 5120, by omega⟩))
        (hva x1 x2 x3 x4 x5 R.val ⟨(512 * k.val + (256 + l.val)) % 5120, by omega⟩))
        (hva x1 x2 x3 x4 x5 R.val ⟨(512 * k.val + (384 + l.val)) % 5120, by omega⟩) := by
  have hM : View.ld M (Rect.unit (s := S256x128) ![0, 0] S256x128.size inb_S256x128_S256x128_0_0) = M :=
    View.ld_unit_lit _ _ (by rw [Fin.forall_fin_two]; exact ⟨rfl, rfl⟩)
  unfold hva
  have hb := hblk_apply x1 x2 x3 x4 x5 k x6 x11 h6 h11
  rw [← hb R ⟨l.val, by omega⟩, ← hb R ⟨128 + l.val, by omega⟩, ← hb R ⟨256 + l.val, by omega⟩, ← hb R ⟨384 + l.val, by omega⟩]
  unfold p12
  rw [hM]
  generalize hblk x3 x4 x5 k x6 x11 = H
  pointwise [k0_pay149]
  rfl

theorem top_step (arg12 : Memref sig .tc .vmem S256x128 .f32) (f12 : arg12.view.ty.Contents (Elt Ideal))
    (h : Top x1 x2 x3 x4 x5 k.val (arg12.view.read (Elt Ideal) f12)) :
    Top x1 x2 x3 x4 x5 (k.val + 1) (arg12.view.read (Elt Ideal)
      (arg12.view.writes (Elt Ideal) f12 [p12 x3 x4 x5 k x6 x11 (arg12.view.read (Elt Ideal) f12)])) := by
  have hk := k2_lt k
  intro R l b
  have e : arg12.view.read (Elt Ideal) (arg12.view.writes (Elt Ideal) f12 [p12 x3 x4 x5 k x6 x11 (arg12.view.read (Elt Ideal) f12)]) (ix2 R l)
      = (p12 x3 x4 x5 k x6 x11 (arg12.view.read (Elt Ideal) f12)).2 (ix2 R l) :=
    View.read_writes_apply_of_pieces (Val := Elt Ideal) _ _ (p12 x3 x4 x5 k x6 x11 (arg12.view.read (Elt Ideal) f12)).2 _ (fun p hp x => by
      obtain rfl := List.mem_singleton.mp hp
      refine congrArg (p12 x3 x4 x5 k x6 x11 (arg12.view.read (Elt Ideal) f12)).2 ?_
      funext a
      fin_cases a
      · exact Fin.ext (by show (x 0).val = 0 + 1 * (x 0).val; omega)
      · exact Fin.ext (by show (x 1).val = 0 + 1 * (x 1).val; omega)) _ ⟨_, List.mem_singleton.mpr rfl, by
        show (ix2 R l : S256x128.Idx) ∈ (Rect.unit (s := S256x128) ![0, 0] S256x128.size inb_S256x128_S256x128_0_0).set
        rw [Rect.mem_set_unit]
        intro a
        fin_cases a
        · show 0 ≤ R.val ∧ R.val < 0 + 256
          omega
        · show 0 ≤ l.val ∧ l.val < 0 + 128
          omega⟩
  rw [e, p12_apply x1 x2 x3 x4 x5 k x6 x11 h6 h11]
  simp only [max_le_iff, h R l b]
  constructor
  · rintro ⟨⟨⟨⟨⟨h0, hq⟩, e0⟩, e1⟩, e2⟩, e3⟩
    refine ⟨h0, fun q hlt hm => ?_⟩
    by_cases hq' : q.val < 512 * k.val
    · exact hq q hq' hm
    · have : q.val = 512 * k.val + l.val ∨ q.val = 512 * k.val + (128 + l.val) ∨ q.val = 512 * k.val + (256 + l.val) ∨ q.val = 512 * k.val + (384 + l.val) := by omega
      rcases this with he | he | he | he
      · rwa [show (⟨(512 * k.val + l.val) % 5120, by omega⟩ : Fin 5120) = q from Fin.ext (by show (512 * k.val + l.val) % 5120 = q.val; omega)] at e0
      · rwa [show (⟨(512 * k.val + (128 + l.val)) % 5120, by omega⟩ : Fin 5120) = q from Fin.ext (by show (512 * k.val + (128 + l.val)) % 5120 = q.val; omega)] at e1
      · rwa [show (⟨(512 * k.val + (256 + l.val)) % 5120, by omega⟩ : Fin 5120) = q from Fin.ext (by show (512 * k.val + (256 + l.val)) % 5120 = q.val; omega)] at e2
      · rwa [show (⟨(512 * k.val + (384 + l.val)) % 5120, by omega⟩ : Fin 5120) = q from Fin.ext (by show (512 * k.val + (384 + l.val)) % 5120 = q.val; omega)] at e3
  · rintro ⟨h0, hq⟩
    refine ⟨⟨⟨⟨⟨h0, fun q hlt hm => hq q (by omega) hm⟩, hq _ ?_ ?_⟩, hq _ ?_ ?_⟩, hq _ ?_ ?_⟩, hq _ ?_ ?_⟩ <;> (dsimp only; omega)

end Cert.Merge1Ideal.Body
-- ==== Proof.Merge1Ideal.Quant.lean ====
/- The codes of the activated product that one trip of the first merge kernel's third loop stores: 32 rows. -/
module

public import proofs.«01_k».proof.Proof.Merge1Ideal.Hidden

@[expose] public section

set_option maxRecDepth 16384

noncomputable section

namespace Cert.Merge1Ideal.Body

open Cert.Merge1Ideal Cert.Merge1Ideal.Gen Cert.Merge1Math
open Idealize.ShloMosaic Idealize.ShloMosaic.TcCoe Idealize.ShloMosaic.Tactic

variable (x1 : Vec Ideal S1024x1280 .bf16) (x2 : Vec Ideal S1x1280 .f32) (x3 : Vec Ideal S5120x5120 .fp8e4m3) (x4 x5 : Vec Ideal S1x5120 .f32)

/-- The codes of the block's activated product. -/
def valG (y : S256x5120.Idx) : EReal := gC x1 x2 x3 x4 x5 (y 0).val (y 1)

theorem trips3 : k0_t3_loop.trips = 8 := by decide +kernel
theorem off55_eq : ∀ k, k0_off55 k 0 = 32 * k.val ∧ k0_off55 k 1 = 0 := by decide +kernel
theorem off56_eq : ∀ k, k0_off56 k 0 = 32 * k.val := by decide +kernel

variable (k : Fin k0_t3_loop.trips)

theorem k3_lt : k.val < 8 := lt_of_lt_of_eq k.isLt trips3

theorem r8_inb (n : ℕ) : ∀ a, (![k0_off56 k 0, 128 * (n % 40)] : Fin 2 → ℕ) a + S32x128.size a ≤ S256x5120.size a := by
  have := off56_eq k; have := k3_lt k
  intro a; fin_cases a <;> simp [S256x5120, S32x128] <;> omega

variable (x10 : Vec Ideal S256x5120 .f32) (x12 : Vec Ideal S256x128 .f32)

/-- The forty stores, tile `n` of 128 columns. -/
def p8 (n : ℕ) : View.Piece (Elt Ideal) S256x5120 .fp8e4m3 :=
  ⟨Rect.unit (s := S256x5120) ![k0_off56 k 0, 128 * (n % 40)] S32x128.size (r8_inb k n),
    k0_pay97 (View.ld x12 (Rect.unit (s := S256x128) (k0_off55 k) S32x1.size (k0_off55_inb k)))
      (View.ld x10 (Rect.unit (s := S256x5120) ![k0_off56 k 0, 128 * (n % 40)] S32x128.size (r8_inb k n)))⟩
def L8 : List (View.Piece (Elt Ideal) S256x5120 .fp8e4m3) := tiles.map (p8 k x10 x12)

variable (h10 : ∀ y, x10 y = hv x1 x2 x3 x4 x5 (y 0).val (y 1)) (h12 : ∀ y, x12 y = gS x1 x2 x3 x4 x5 (y 0).val)

include h10 h12

theorem p8_ok (n : ℕ) (hn : n < 40) (x : S32x128.Idx) :
    (p8 k x10 x12 n).2 x = valG x1 x2 x3 x4 x5 ((p8 k x10 x12 n).1.emb x) := by
  have hk := k3_lt k
  have e55 := off55_eq k
  have e56 := off56_eq k
  obtain ⟨g, l, rfl⟩ : ∃ (g : Fin 32) (l : Fin 128), x = ix2 g l := ⟨x 0, x 1, by funext i; fin_cases i <;> rfl⟩
  have a12 : View.ld x12 (Rect.unit (s := S256x128) (k0_off55 k) S32x1.size (k0_off55_inb k)) (ix2 g 0)
      = gS x1 x2 x3 x4 x5 (32 * k.val + g.val) := by
    rw [View.ld_unit_apply_of _ _ _ _ _ (ix2 (n0 := 256) (n1 := 128) ⟨32 * k.val + g.val, by omega⟩ 0) (by
      rw [Fin.forall_fin_two]
      exact ⟨by show 32 * k.val + g.val = k0_off55 k 0 + g.val; omega, by show 0 = k0_off55 k 1 + 0; omega⟩), h12]
    rfl
  have a10 : View.ld x10 (Rect.unit (s := S256x5120) ![k0_off56 k 0, 128 * (n % 40)] S32x128.size (r8_inb k n)) (ix2 g l)
      = hv x1 x2 x3 x4 x5 (32 * k.val + g.val) ⟨(128 * n + l.val) % 5120, by omega⟩ := by
    rw [View.ld_unit_apply_of _ _ _ _ _ (ix2 (n0 := 256) (n1 := 5120) ⟨32 * k.val + g.val, by omega⟩ ⟨(128 * n + l.val) % 5120, by omega⟩) (by
      rw [Fin.forall_fin_two]
      exact ⟨by show 32 * k.val + g.val = k0_off56 k 0 + g.val; omega, by show (128 * n + l.val) % 5120 = 128 * (n % 40) + l.val; omega⟩), h10]
    rfl
  have e : (p8 k x10 x12 n).2 (ix2 g l) = gC x1 x2 x3 x4 x5 (32 * k.val + g.val) ⟨(128 * n + l.val) % 5120, by omega⟩ := by
    unfold gC codeOf
    rw [← a10, ← Ideal.mul_one_div (show gS x1 x2 x3 x4 x5 (32 * k.val + g.val) ≠ 0 from scaleOf_ne_zero _), ← a12]
    unfold p8
    dsimp only
    generalize View.ld x12 _ = y12
    generalize View.ld x10 _ = y10
    pointwise [k0_pay97, k0_pay96]
    rfl
  refine e.trans ?_
  unfold valG
  have h0 : ((p8 k x10 x12 n).1.emb (ix2 g l) 0).val = 32 * k.val + g.val := by
    show k0_off56 k 0 + 1 * g.val = _; rw [off56_eq]; omega
  rw [h0]
  congr 1
  exact Fin.ext (by show (128 * n + l.val) % 5120 = 128 * (n % 40) + 1 * l.val; omega)

/-- After the trip the codes of the rows up to `32 (k + 1)` are there. -/
theorem quant_step (arg8 : Memref sig .tc .vmem S256x5120 .fp8e4m3) (f8 : arg8.view.ty.Contents (Elt Ideal))
    (h : ∀ y : S256x5120.Idx, (y 0).val < 32 * k.val → arg8.view.read (Elt Ideal) f8 y = valG x1 x2 x3 x4 x5 y) :
    ∀ y : S256x5120.Idx, (y 0).val < 32 * (k.val + 1) →
      arg8.view.read (Elt Ideal) (arg8.view.writes (Elt Ideal) f8 (L8 k x10 x12)) y = valG x1 x2 x3 x4 x5 y := by
  intro y hy
  have hoff := off56_eq k
  have h1 : (y 1).val < 5120 := (y 1).isLt
  by_cases hlt : (y 0).val < 32 * k.val
  · rw [View.read_writes_apply_of_forall_not_mem (Val := Elt Ideal), h y hlt]
    intro p hp
    obtain ⟨n, -, rfl⟩ := List.mem_map.mp hp
    intro hm
    dsimp only [p8] at hm
    rw [Rect.mem_set_unit] at hm
    have : k0_off56 k 0 ≤ (y 0).val := (hm 0).1
    omega
  · refine View.read_writes_apply_of_pieces (Val := Elt Ideal) _ _ (valG x1 x2 x3 x4 x5) _ (fun p hp => ?_) y
      ⟨p8 k x10 x12 ((y 1).val / 128), List.mem_map.mpr ⟨_, tiles_mem.mpr (by omega), rfl⟩, ?_⟩
    · obtain ⟨n, hn, rfl⟩ := List.mem_map.mp hp
      exact p8_ok x1 x2 x3 x4 x5 k x10 x12 h10 h12 n (tiles_mem.mp hn)
    · dsimp only [p8]
      rw [Rect.mem_set_unit]
      intro a
      fin_cases a
      · show k0_off56 k 0 ≤ (y 0).val ∧ (y 0).val < k0_off56 k 0 + 32
        omega
      · show 128 * ((y 1).val / 128 % 40) ≤ (y 1).val ∧ (y 1).val < 128 * ((y 1).val / 128 % 40) + 128
        omega

end Cert.Merge1Ideal.Body
-- ==== Proof.Merge1Ideal.Trip23.lean ====
/- One trip of the second loop, and one of the third, keeps its invariant. -/
module

public import proofs.«01_k».proof.Proof.Gen.Merge1Ideal.Frame
public import proofs.«01_k».proof.Proof.Merge1Ideal.Quant

@[expose] public section

set_option maxRecDepth 16384

noncomputable section

namespace Cert.Merge1Ideal.Body

open Cert.Merge1Ideal Cert.Merge1Ideal.Gen Cert.Merge1Math
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window cellOf)

local notation "𝕄" => MT nD τ sig Unit (Elt Ideal) ℕ (UR sig nD τ) ℕ

variable (x1 : Vec Ideal S1024x1280 .bf16) (x2 : Vec Ideal S1x1280 .f32)

/-- Before trip `n` of the second loop: the first `512 n` columns of the activated product are there, and the running
    maximum of their absolute values. -/
def inv2 (c : Dev nD) (arg3 : Memref sig .tc .vmem S5120x5120 .fp8e4m3) (arg4 : Memref sig .tc .vmem S1x5120 .f32) (arg5 : Memref sig .tc .vmem S1x5120 .f32) (arg6 : Memref sig .tc .vmem S256x5120 .fp8e4m3) (arg10 : Memref sig .tc .vmem S256x5120 .f32) (arg11 : Memref sig .tc .vmem S256x128 .f32) (arg12 : Memref sig .tc .vmem S256x128 .f32)
    (f3 : arg3.view.ty.Contents (Elt Ideal)) (f4 : arg4.view.ty.Contents (Elt Ideal)) (f5 : arg5.view.ty.Contents (Elt Ideal)) (f6 : arg6.view.ty.Contents (Elt Ideal)) (f11 : arg11.view.ty.Contents (Elt Ideal)) (n : ℕ) (_ : Unit) : sProp 𝕄 :=
  iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg11.view.loc (c : Thread nD τ) ↦[arg11.view.set]{fullShare} f11)
    ∗ (∃ f, (arg10.view.loc (c : Thread nD τ) ↦[arg10.view.set]{fullShare} f) ∗ ⌜∀ y : S256x5120.Idx, (y 1).val < 512 * n → arg10.view.read (Elt Ideal) f y = hv x1 x2 (arg3.view.read (Elt Ideal) f3) (arg4.view.read (Elt Ideal) f4) (arg5.view.read (Elt Ideal) f5) (y 0).val (y 1)⌝)
    ∗ (∃ f, (arg12.view.loc (c : Thread nD τ) ↦[arg12.view.set]{fullShare} f) ∗ ⌜Top x1 x2 (arg3.view.read (Elt Ideal) f3) (arg4.view.read (Elt Ideal) f4) (arg5.view.read (Elt Ideal) f5) n (arg12.view.read (Elt Ideal) f)⌝))

set_option maxHeartbeats 4000000 in
theorem trip2 (c : Dev nD) (i : grid0.Coords) (arg1 : Memref sig .tc .vmem S1024x1280 .bf16) (harg1 : arg1.IsWhole) (arg2 : Memref sig .tc .vmem S1x1280 .f32) (harg2 : arg2.IsWhole) (arg3 : Memref sig .tc .vmem S5120x5120 .fp8e4m3) (harg3 : arg3.IsWhole) (arg4 : Memref sig .tc .vmem S1x5120 .f32) (harg4 : arg4.IsWhole) (arg5 : Memref sig .tc .vmem S1x5120 .f32) (harg5 : arg5.IsWhole)
    (arg6 : Memref sig .tc .vmem S256x5120 .fp8e4m3) (harg6 : arg6.IsWhole) (arg7 : Memref sig .tc .vmem S1x1x256 .f32) (harg7 : arg7.IsWhole) (arg8 : Memref sig .tc .vmem S256x5120 .fp8e4m3) (harg8 : arg8.IsWhole) (arg9 : Memref sig .tc .vmem S1x1x256 .f32) (harg9 : arg9.IsWhole)
    (arg10 : Memref sig .tc .vmem S256x5120 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S10x128x128 .f32) (harg13 : arg13.IsWhole) (arg14 : Memref sig .tc .vmem S128x128 .f32) (harg14 : arg14.IsWhole)
    (f3 : arg3.view.ty.Contents (Elt Ideal)) (f4 : arg4.view.ty.Contents (Elt Ideal)) (f5 : arg5.view.ty.Contents (Elt Ideal)) (f6 : arg6.view.ty.Contents (Elt Ideal)) (f11 : arg11.view.ty.Contents (Elt Ideal))
    (h6 : ∀ y, (arg6.view.read (Elt Ideal) f6) y = valM x1 x2 y) (h11 : ∀ y, (arg11.view.read (Elt Ideal) f11) y = mS x1 x2 (y 0).val) (k : Fin k0_t2_loop.trips) :
    inv2 x1 x2 c arg3 arg4 arg5 arg6 arg10 arg11 arg12 f3 f4 f5 f6 f11 k.val ()
      ⊢ wp frame (wpE (defs₀ (F := Ideal)) Variants.none c none) Set.univ (k0_t2_body i arg1 harg1 arg2 harg2 arg3 harg3 arg4 harg4 arg5 harg5 arg6 harg6 arg7 harg7 arg8 harg8 arg9 harg9 arg10 harg10 arg11 harg11 arg12 harg12 arg13 harg13 arg14 harg14 k ())
        (inv2 x1 x2 c arg3 arg4 arg5 arg6 arg10 arg11 arg12 f3 f4 f5 f6 f11 (k.val + 1)) := by
  unfold k0_t2_body inv2
  iintro ⟨H3, H4, H5, H6, H11, ⟨%f10, H10, %h10⟩, ⟨%f12, H12, %h12⟩⟩
  sl_exec
  sl_step
  isplitl [H3]; · iexact H3
  isplitl [H4]; · iexact H4
  isplitl [H5]; · iexact H5
  isplitl [H6]; · iexact H6
  isplitl [H11]; · iexact H11
  isplitl [H10]
  · iexists _; isplitl [H10]; · iexact H10
    ipureintro
    exact hidden_step x1 x2 (arg3.view.read (Elt Ideal) f3) (arg4.view.read (Elt Ideal) f4) (arg5.view.read (Elt Ideal) f5) k (arg6.view.read (Elt Ideal) f6) (arg11.view.read (Elt Ideal) f11) h6 h11 arg10 f10 h10
  iexists _; isplitl [H12]; · iexact H12
  ipureintro
  exact top_step x1 x2 (arg3.view.read (Elt Ideal) f3) (arg4.view.read (Elt Ideal) f4) (arg5.view.read (Elt Ideal) f5) k (arg6.view.read (Elt Ideal) f6) (arg11.view.read (Elt Ideal) f11) h6 h11 arg12 f12 h12

variable (x3 : Vec Ideal S5120x5120 .fp8e4m3) (x4 x5 : Vec Ideal S1x5120 .f32)

/-- Before trip `n` of the third loop: the codes of the first `32 n` rows of the activated product are there. -/
def inv3 (c : Dev nD) (arg8 : Memref sig .tc .vmem S256x5120 .fp8e4m3) (arg10 : Memref sig .tc .vmem S256x5120 .f32) (arg12 : Memref sig .tc .vmem S256x128 .f32)
    (f10 : arg10.view.ty.Contents (Elt Ideal)) (f12 : arg12.view.ty.Contents (Elt Ideal)) (n : ℕ) (_ : Unit) : sProp 𝕄 :=
  iprop((arg10.view.loc (c : Thread nD τ) ↦[arg10.view.set]{fullShare} f10) ∗ (arg12.view.loc (c : Thread nD τ) ↦[arg12.view.set]{fullShare} f12)
    ∗ (∃ f, (arg8.view.loc (c : Thread nD τ) ↦[arg8.view.set]{fullShare} f) ∗ ⌜∀ y : S256x5120.Idx, (y 0).val < 32 * n → arg8.view.read (Elt Ideal) f y = valG x1 x2 x3 x4 x5 y⌝))

set_option maxHeartbeats 4000000 in
theorem trip3 (c : Dev nD) (i : grid0.Coords) (arg1 : Memref sig .tc .vmem S1024x1280 .bf16) (harg1 : arg1.IsWhole) (arg2 : Memref sig .tc .vmem S1x1280 .f32) (harg2 : arg2.IsWhole) (arg3 : Memref sig .tc .vmem S5120x5120 .fp8e4m3) (harg3 : arg3.IsWhole) (arg4 : Memref sig .tc .vmem S1x5120 .f32) (harg4 : arg4.IsWhole) (arg5 : Memref sig .tc .vmem S1x5120 .f32) (harg5 : arg5.IsWhole)
    (arg6 : Memref sig .tc .vmem S256x5120 .fp8e4m3) (harg6 : arg6.IsWhole) (arg7 : Memref sig .tc .vmem S1x1x256 .f32) (harg7 : arg7.IsWhole) (arg8 : Memref sig .tc .vmem S256x5120 .fp8e4m3) (harg8 : arg8.IsWhole) (arg9 : Memref sig .tc .vmem S1x1x256 .f32) (harg9 : arg9.IsWhole)
    (arg10 : Memref sig .tc .vmem S256x5120 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S10x128x128 .f32) (harg13 : arg13.IsWhole) (arg14 : Memref sig .tc .vmem S128x128 .f32) (harg14 : arg14.IsWhole)
    (f10 : arg10.view.ty.Contents (Elt Ideal)) (f12 : arg12.view.ty.Contents (Elt Ideal))
    (h10 : ∀ y, (arg10.view.read (Elt Ideal) f10) y = hv x1 x2 x3 x4 x5 (y 0).val (y 1)) (h12 : ∀ y, (arg12.view.read (Elt Ideal) f12) y = gS x1 x2 x3 x4 x5 (y 0).val) (k : Fin k0_t3_loop.trips) :
    inv3 x1 x2 x3 x4 x5 c arg8 arg10 arg12 f10 f12 k.val ()
      ⊢ wp frame (wpE (defs₀ (F := Ideal)) Variants.none c none) Set.univ (k0_t3_body i arg1 harg1 arg2 harg2 arg3 harg3 arg4 harg4 arg5 harg5 arg6 harg6 arg7 harg7 arg8 harg8 arg9 harg9 arg10 harg10 arg11 harg11 arg12 harg12 arg13 harg13 arg14 harg14 k ())
        (inv3 x1 x2 x3 x4 x5 c arg8 arg10 arg12 f10 f12 (k.val + 1)) := by
  unfold k0_t3_body inv3
  iintro ⟨H10, H12, ⟨%f8, H8, %h8⟩⟩
  sl_exec
  sl_step
  isplitl [H10]; · iexact H10
  isplitl [H12]; · iexact H12
  iexists _; isplitl [H8]; · iexact H8
  ipureintro
  exact quant_step x1 x2 x3 x4 x5 k (arg10.view.read (Elt Ideal) f10) (arg12.view.read (Elt Ideal) f12) h10 h12 arg8 f8 h8

end Cert.Merge1Ideal.Body
-- ==== Proof.Merge1Ideal.Scales.lean ====
/- The scales the first merge kernel stores, and what it leaves in its four output blocks. -/
module

public import proofs.«01_k».proof.Proof.Merge1Ideal.Quant
public import Idealize.ShloMosaic.Lib.VecWindow

@[expose] public section

set_option maxRecDepth 16384

noncomputable section

namespace Cert.Merge1Ideal.Body

open Cert.Merge1Ideal Cert.Merge1Ideal.Gen Cert.Merge1Math
open Idealize.ShloMosaic Idealize.ShloMosaic.TcCoe Idealize.ShloMosaic.Tactic

/-- What a store of a whole buffer leaves. -/
theorem read_store {sig : RefSig} {κ : Kind} {sp : Space} {s : Shape} {e : EltTy} (v : View sig κ sp s e) (f : v.ty.Contents (Elt Ideal))
    {off : Fin s.rank → ℕ} (inb : ∀ a, off a + s.size a ≤ s.size a) (hz : ∀ a, off a = 0) (w : s.Idx → Elt Ideal e) :
    v.read (Elt Ideal) (v.writes (Elt Ideal) f [(⟨Rect.unit off s.size inb, w⟩ : View.Piece (Elt Ideal) s e)]) = w :=
  (View.ld_unit_lit inb _ hz).symm.trans (View.readAt_writes_full v f inb inb w [])

variable (x1 : Vec Ideal S1024x1280 .bf16) (x2 : Vec Ideal S1x1280 .f32) (x3 : Vec Ideal S5120x5120 .fp8e4m3) (x4 x5 : Vec Ideal S1x5120 .f32)

/-- The two blocks of scales. -/
def valMS (y : S1x1x256.Idx) : EReal := mS x1 x2 (y 2).val
def valGS (y : S1x1x256.Idx) : EReal := gS x1 x2 x3 x4 x5 (y 2).val

/-- The running maximum starts at zero. -/
theorem pay148_apply (y : S256x128.Idx) : k0_pay148 (F := Ideal) y = 0 := by
  obtain ⟨p, l, rfl⟩ : ∃ (p : Fin 256) (l : Fin 128), y = ix2 p l := ⟨y 0, y 1, by funext i; fin_cases i <;> rfl⟩
  pointwise [k0_pay148]

/-- The scale of each row of the activated product, from the running maximum after all ten trips. -/
theorem pay150_apply (M : Vec Ideal S256x128 .f32) (hM : Top x1 x2 x3 x4 x5 10 M) (y : S256x128.Idx) :
    k0_pay150 M y = gS x1 x2 x3 x4 x5 (y 0).val := by
  obtain ⟨R, l, rfl⟩ : ∃ (R : Fin 256) (l : Fin 128), y = ix2 R l := ⟨y 0, y 1, by funext i; fin_cases i <;> rfl⟩
  have h : Finset.fold max (Ideal.ofBits .f32 4286578688#32) (fun l : Fin 128 => M (ix2 R l)) Finset.univ
      = amax (hv x1 x2 x3 x4 x5 R.val) := by
    refine eq_amax fun b => ?_
    rw [Finset.fold_max_le, show (4286578688#32) = (0xFF800000#32) from rfl, neg_inf]
    simp only [bot_le, true_and, Finset.mem_univ, forall_const, hM R _ b]
    constructor
    · intro h
      exact ⟨(h 0).1, fun q => (h ⟨q.val % 128, by omega⟩).2 q (by omega) rfl⟩
    · rintro ⟨h0, h⟩ l
      exact ⟨h0, fun q _ _ => h q⟩
  show _ = scaleOf (amax (hv x1 x2 x3 x4 x5 R.val))
  unfold scaleOf
  pointwise [k0_pay150]
  rw [h]
  rfl

/-- A block of scales is the first column of the scratch that holds them. -/
theorem pay151_apply (M : Vec Ideal S256x128 .f32) (y : S1x1x256.Idx) : k0_pay151 M y = M (ix2 (n0 := 256) (n1 := 128) (y 2) 0) := by
  obtain ⟨a, b, l, rfl⟩ : ∃ (a b : Fin 1) (l : Fin 256), y = ix3 a b l := ⟨y 0, y 1, y 2, by funext i; fin_cases i <;> rfl⟩
  obtain rfl : a = 0 := Subsingleton.elim _ _
  obtain rfl : b = 0 := Subsingleton.elim _ _
  pointwise [k0_pay151]

theorem pay1_apply (M : Vec Ideal S256x128 .f32) (y : S1x1x256.Idx) : k0_pay1 (k0_pay152 M) y = M (ix2 (n0 := 256) (n1 := 128) (y 2) 0) := by
  obtain ⟨a, b, l, rfl⟩ : ∃ (a b : Fin 1) (l : Fin 256), y = ix3 a b l := ⟨y 0, y 1, y 2, by funext i; fin_cases i <;> rfl⟩
  obtain rfl : a = 0 := Subsingleton.elim _ _
  obtain rfl : b = 0 := Subsingleton.elim _ _
  pointwise [k0_pay1, k0_pay152]

/-- A load of a whole buffer. -/
theorem ld_whole {s : Shape} {e : EltTy} {off : Fin s.rank → ℕ} (inb : ∀ a, off a + s.size a ≤ s.size a) (hz : ∀ a, off a = 0)
    (X : s.Idx → Elt Ideal e) : View.ld X (Rect.unit off s.size inb) = X := View.ld_unit_lit inb X hz

end Cert.Merge1Ideal.Body
-- ==== Proof.Merge1Ideal.Kernel.lean ====
/- The first merge kernel on whole blocks: what it leaves in its output blocks. -/
module

public import proofs.«01_k».proof.Proof.Gen.Merge1Ideal.Frame
public import proofs.«01_k».proof.Proof.Merge1Ideal.Trip1
public import proofs.«01_k».proof.Proof.Merge1Ideal.Trip23
public import proofs.«01_k».proof.Proof.Merge1Ideal.Scales

@[expose] public section

set_option maxRecDepth 16384

noncomputable section

namespace Cert.Merge1Ideal.Body

open Cert.Merge1Ideal Cert.Merge1Ideal.Gen Cert.Merge1Math
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window cellOf)

local notation "𝕄" => MT nD τ sig Unit (Elt Ideal) ℕ (UR sig nD τ) ℕ

set_option maxHeartbeats 4000000 in
/-- The body on whole buffers, the inputs' at `xW`, the outputs' and the scratch buffers' at anything: the inputs' as
    they were, the outputs' at the block's codes and scales, the scratch buffers' at something. -/
theorem sound_kernel (c : Dev nD) (i : grid0.Coords) (arg1 : Memref sig .tc .vmem S1024x1280 .bf16) (harg1 : arg1.IsWhole) (arg2 : Memref sig .tc .vmem S1x1280 .f32) (harg2 : arg2.IsWhole) (arg3 : Memref sig .tc .vmem S5120x5120 .fp8e4m3) (harg3 : arg3.IsWhole) (arg4 : Memref sig .tc .vmem S1x5120 .f32) (harg4 : arg4.IsWhole) (arg5 : Memref sig .tc .vmem S1x5120 .f32) (harg5 : arg5.IsWhole)
    (arg6 : Memref sig .tc .vmem S256x5120 .fp8e4m3) (harg6 : arg6.IsWhole) (arg7 : Memref sig .tc .vmem S1x1x256 .f32) (harg7 : arg7.IsWhole) (arg8 : Memref sig .tc .vmem S256x5120 .fp8e4m3) (harg8 : arg8.IsWhole) (arg9 : Memref sig .tc .vmem S1x1x256 .f32) (harg9 : arg9.IsWhole)
    (arg10 : Memref sig .tc .vmem S256x5120 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S10x128x128 .f32) (harg13 : arg13.IsWhole) (arg14 : Memref sig .tc .vmem S128x128 .f32) (harg14 : arg14.IsWhole)
    (x1 : Vec Ideal S1024x1280 .bf16) (x2 : Vec Ideal S1x1280 .f32) (x3 : Vec Ideal S5120x5120 .fp8e4m3) (x4 x5 : Vec Ideal S1x5120 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ (∃ X, owns (c : Thread nD τ) arg6 fullShare X) ∗ (∃ X, owns (c : Thread nD τ) arg7 fullShare X) ∗ (∃ X, owns (c : Thread nD τ) arg8 fullShare X) ∗ (∃ X, owns (c : Thread nD τ) arg9 fullShare X) ∗ (∃ X, owns (c : Thread nD τ) arg10 fullShare X) ∗ (∃ X, owns (c : Thread nD τ) arg11 fullShare X) ∗ (∃ X, owns (c : Thread nD τ) arg12 fullShare X) ∗ (∃ X, owns (c : Thread nD τ) arg13 fullShare X) ∗ (∃ X, owns (c : Thread nD τ) arg14 fullShare X)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (valM x1 x2) ∗ owns (c : Thread nD τ) arg7 fullShare (valMS x1 x2) ∗ owns (c : Thread nD τ) arg8 fullShare (valG x1 x2 x3 x4 x5) ∗ owns (c : Thread nD τ) arg9 fullShare (valGS x1 x2 x3 x4 x5)
            ∗ (∃ X, owns (c : Thread nD τ) arg10 fullShare X) ∗ (∃ X, owns (c : Thread nD τ) arg11 fullShare X) ∗ (∃ X, owns (c : Thread nD τ) arg12 fullShare X) ∗ (∃ X, owns (c : Thread nD τ) arg13 fullShare X) ∗ (∃ X, owns (c : Thread nD τ) arg14 fullShare X)) -∗ K ⟨⟩))
      ⊢ wp frame (wpE (defs₀ (F := Ideal)) Variants.none c none) Set.univ (cc0_merge1 i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_merge1_eq_skeleton]; unfold cc0_merge1_skel
  simp only [k0_part30_eq_skeleton]; unfold k0_part30_skel
  simp only [LawfulMonad.bind_assoc]
  unfold owns
  iintro ⟨⟨%f1, %hf1, H1⟩, ⟨%f2, %hf2, H2⟩, ⟨%f3, %hf3, H3⟩, ⟨%f4, %hf4, H4⟩, ⟨%f5, %hf5, H5⟩, ⟨%y6, %f6, %hf6, H6⟩, ⟨%y7, %f7, %hf7, H7⟩, ⟨%y8, %f8, %hf8, H8⟩, ⟨%y9, %f9, %hf9, H9⟩, ⟨%y10, %f10, %hf10, H10⟩, ⟨%y11, %f11, %hf11, H11⟩, ⟨%y12, %f12, %hf12, H12⟩, ⟨%y13, %f13, %hf13, H13⟩, ⟨%y14, %f14, %hf14, H14⟩, Hk⟩
  subst hf1 hf2 hf3 hf4 hf5 hf6 hf7 hf8 hf9 hf10 hf11 hf12 hf13 hf14
  try sl_exec
  sl_for (inv1 c arg1 arg2 arg6 arg11 arg13 arg14 f1 f2) $$ [H1 H2 H6 H11 H13 H14]
  · intro k acc
    exact trip1 c i arg1 harg1 arg2 harg2 arg3 harg3 arg4 harg4 arg5 harg5 arg6 harg6 arg7 harg7 arg8 harg8 arg9 harg9 arg10 harg10 arg11 harg11 arg12 harg12 arg13 harg13 arg14 harg14 f1 f2 k
  · unfold inv1
    isplitl [H1]; · iexact H1
    isplitl [H2]; · iexact H2
    isplitl [H6]
    · iexists f6; isplitl [H6]; · iexact H6
      ipureintro; exact fun y hy => absurd hy (Nat.not_lt_zero _)
    isplitl [H11]
    · iexists f11; isplitl [H11]; · iexact H11
      ipureintro; exact fun y hy => absurd hy (Nat.not_lt_zero _)
    isplitl [H13]; · iexists f13; iexact H13
    iexists f14; iexact H14
  unfold inv1
  iintro %acc ⟨H1, H2, ⟨%f6, H6, %h6⟩, ⟨%f11, H11, %h11⟩, ⟨%f13, H13⟩, ⟨%f14, H14⟩⟩
  have h6 : ∀ y, (arg6.view.read (Elt Ideal) f6) y = valM (arg1.view.read (Elt Ideal) f1) (arg2.view.read (Elt Ideal) f2) y := fun y => h6 y (lt_of_lt_of_eq (show (y 0).val < 256 from (y 0).isLt) (by rw [show Scf.trips k0_t1_loop.lb k0_t1_loop.ub k0_t1_loop.st = 8 from trips1]))
  have h11 : ∀ y, (arg11.view.read (Elt Ideal) f11) y = mS (arg1.view.read (Elt Ideal) f1) (arg2.view.read (Elt Ideal) f2) (y 0).val := fun y => h11 y (lt_of_lt_of_eq (show (y 0).val < 256 from (y 0).isLt) (by rw [show Scf.trips k0_t1_loop.lb k0_t1_loop.ub k0_t1_loop.st = 8 from trips1]))
  sl_exec
  sl_for (inv2 (arg1.view.read (Elt Ideal) f1) (arg2.view.read (Elt Ideal) f2) c arg3 arg4 arg5 arg6 arg10 arg11 arg12 f3 f4 f5 f6 f11) $$ [H3 H4 H5 H6 H11 H10 H12]
  · intro k acc
    exact trip2 (arg1.view.read (Elt Ideal) f1) (arg2.view.read (Elt Ideal) f2) c i arg1 harg1 arg2 harg2 arg3 harg3 arg4 harg4 arg5 harg5 arg6 harg6 arg7 harg7 arg8 harg8 arg9 harg9 arg10 harg10 arg11 harg11 arg12 harg12 arg13 harg13 arg14 harg14 f3 f4 f5 f6 f11 h6 h11 k
  · unfold inv2
    isplitl [H3]; · iexact H3
    isplitl [H4]; · iexact H4
    isplitl [H5]; · iexact H5
    isplitl [H6]; · iexact H6
    isplitl [H11]; · iexact H11
    isplitl [H10]
    · iexists f10; isplitl [H10]; · iexact H10
      ipureintro; exact fun y hy => absurd hy (Nat.not_lt_zero _)
    iexists _; isplitl [H12]; · iexact H12
    ipureintro
    refine top_zero _ _ _ _ _ _ fun y => ?_
    refine (congrFun (read_store arg12.view _ _ (by rw [Fin.forall_fin_two]; exact ⟨rfl, rfl⟩) _) y).trans (pay148_apply y)
  unfold inv2
  iintro %acc ⟨H3, H4, H5, H6, H11, ⟨%f10, H10, %h10⟩, ⟨%f12, H12, %h12⟩⟩
  have h10 : ∀ y, (arg10.view.read (Elt Ideal) f10) y = hv (arg1.view.read (Elt Ideal) f1) (arg2.view.read (Elt Ideal) f2) (arg3.view.read (Elt Ideal) f3) (arg4.view.read (Elt Ideal) f4) (arg5.view.read (Elt Ideal) f5) (y 0).val (y 1) := fun y => h10 y (lt_of_lt_of_eq (show (y 1).val < 5120 from (y 1).isLt) (by rw [show Scf.trips k0_t2_loop.lb k0_t2_loop.ub k0_t2_loop.st = 10 from trips2]))
  rw [show Scf.trips k0_t2_loop.lb k0_t2_loop.ub k0_t2_loop.st = 10 from trips2] at h12
  sl_exec
  have z2 : ∀ a : Fin 2, (![0, 0] : Fin 2 → ℕ) a = 0 := by rw [Fin.forall_fin_two]; exact ⟨rfl, rfl⟩
  have z3 : ∀ a : Fin 3, (![0, 0, 0] : Fin 3 → ℕ) a = 0 := by intro a; fin_cases a <;> rfl
  have h7 : arg7.view.read (Elt Ideal) (arg7.view.writes (Elt Ideal) arg7.view.junk (sound_kernel.sl.H7_1 c arg11 f11)) = valMS (arg1.view.read (Elt Ideal) f1) (arg2.view.read (Elt Ideal) f2) :=
    (read_store arg7.view _ inb_S1x1x256_S1x1x256_0_0_0 z3
      (k0_pay151 (View.ld (arg11.view.read (Elt Ideal) f11) (Rect.unit (s := S256x128) ![0, 0] S256x128.size inb_S256x128_S256x128_0_0)))).trans (by
        rw [ld_whole inb_S256x128_S256x128_0_0 z2]
        funext y
        rw [pay151_apply]
        exact h11 _)
  have h12' : ∀ y, arg12.view.read (Elt Ideal) (arg12.view.writes (Elt Ideal) arg12.view.junk (sound_kernel.sl.H12_1_1 c arg12 f12)) y = gS (arg1.view.read (Elt Ideal) f1) (arg2.view.read (Elt Ideal) f2) (arg3.view.read (Elt Ideal) f3) (arg4.view.read (Elt Ideal) f4) (arg5.view.read (Elt Ideal) f5) (y 0).val := fun y =>
    (congrFun (read_store arg12.view _ inb_S256x128_S256x128_0_0 z2
      (k0_pay150 (View.ld (arg12.view.read (Elt Ideal) f12) (Rect.unit (s := S256x128) ![0, 0] S256x128.size inb_S256x128_S256x128_0_0)))) y).trans (by
        rw [ld_whole inb_S256x128_S256x128_0_0 z2]
        exact pay150_apply (arg1.view.read (Elt Ideal) f1) (arg2.view.read (Elt Ideal) f2) (arg3.view.read (Elt Ideal) f3) (arg4.view.read (Elt Ideal) f4) (arg5.view.read (Elt Ideal) f5) _ h12 y)
  have h9 : arg9.view.read (Elt Ideal) (arg9.view.writes (Elt Ideal) arg9.view.junk (sound_kernel.sl.H9_1 c arg12 f12)) = valGS (arg1.view.read (Elt Ideal) f1) (arg2.view.read (Elt Ideal) f2) (arg3.view.read (Elt Ideal) f3) (arg4.view.read (Elt Ideal) f4) (arg5.view.read (Elt Ideal) f5) :=
    (read_store arg9.view _ inb_S1x1x256_S1x1x256_0_0_0 z3
      (k0_pay1 (k0_pay152 (arg12.view.readCov [(⟨Rect.unit (s := S256x128) ![0, 0] S256x128.size inb_S256x128_S256x128_0_0,
          k0_pay150 (View.ld (arg12.view.read (Elt Ideal) f12) (Rect.unit (s := S256x128) ![0, 0] S256x128.size inb_S256x128_S256x128_0_0))⟩ : View.Piece (Elt Ideal) S256x128 .f32)]
        (Rect.unit (s := S256x128) ![0, 0] S256x128.size inb_S256x128_S256x128_0_0).toLoadRect)))).trans (by
          rw [View.readCov_full arg12.view inb_S256x128_S256x128_0_0 inb_S256x128_S256x128_0_0, ld_whole inb_S256x128_S256x128_0_0 z2]
          funext y
          rw [pay1_apply, pay150_apply (arg1.view.read (Elt Ideal) f1) (arg2.view.read (Elt Ideal) f2) (arg3.view.read (Elt Ideal) f3) (arg4.view.read (Elt Ideal) f4) (arg5.view.read (Elt Ideal) f5) _ h12]
          rfl)
  sl_for (inv3 (arg1.view.read (Elt Ideal) f1) (arg2.view.read (Elt Ideal) f2) (arg3.view.read (Elt Ideal) f3) (arg4.view.read (Elt Ideal) f4) (arg5.view.read (Elt Ideal) f5) c arg8 arg10 arg12 f10 (arg12.view.writes (Elt Ideal) arg12.view.junk (sound_kernel.sl.H12_1_1 c arg12 f12))) $$ [H10 H12 H8]
  · intro k acc
    exact trip3 (arg1.view.read (Elt Ideal) f1) (arg2.view.read (Elt Ideal) f2) (arg3.view.read (Elt Ideal) f3) (arg4.view.read (Elt Ideal) f4) (arg5.view.read (Elt Ideal) f5) c i arg1 harg1 arg2 harg2 arg3 harg3 arg4 harg4 arg5 harg5 arg6 harg6 arg7 harg7 arg8 harg8 arg9 harg9 arg10 harg10 arg11 harg11 arg12 harg12 arg13 harg13 arg14 harg14 f10 (arg12.view.writes (Elt Ideal) arg12.view.junk (sound_kernel.sl.H12_1_1 c arg12 f12)) h10 h12' k
  · unfold inv3
    isplitl [H10]; · iexact H10
    isplitl [H12]; · iexact H12
    iexists f8; isplitl [H8]; · iexact H8
    ipureintro; exact fun y hy => absurd hy (Nat.not_lt_zero _)
  unfold inv3
  iintro %acc ⟨H10, H12, ⟨%f8, H8, %h8⟩⟩
  have h8 : ∀ y, (arg8.view.read (Elt Ideal) f8) y = valG (arg1.view.read (Elt Ideal) f1) (arg2.view.read (Elt Ideal) f2) (arg3.view.read (Elt Ideal) f3) (arg4.view.read (Elt Ideal) f4) (arg5.view.read (Elt Ideal) f5) y := fun y => h8 y (lt_of_lt_of_eq (show (y 0).val < 256 from (y 0).isLt) (by rw [show Scf.trips k0_t3_loop.lb k0_t3_loop.ub k0_t3_loop.st = 8 from trips3]))
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; exact funext h6
                  iexact H6
  isplitl [H7]; · iexists _; isplitr; · ipureintro; exact h7
                  iexact H7
  isplitl [H8]; · iexists f8; isplitr; · ipureintro; exact funext h8
                  iexact H8
  isplitl [H9]; · iexists _; isplitr; · ipureintro; exact h9
                  iexact H9
  isplitl [H10]; · iexists _; iexists f10; isplitr; · ipureintro; rfl
                   iexact H10
  isplitl [H11]; · iexists _; iexists f11; isplitr; · ipureintro; rfl
                   iexact H11
  isplitl [H12]; · iexists _; iexists (arg12.view.writes (Elt Ideal) arg12.view.junk (sound_kernel.sl.H12_1_1 c arg12 f12)); isplitr; · ipureintro; rfl
                   iexact H12
  isplitl [H13]; · iexists _; iexists f13; isplitr; · ipureintro; rfl
                   iexact H13
  iexists _; iexists f14; isplitr; · ipureintro; rfl
  iexact H14

end Cert.Merge1Ideal.Body
-- ==== Proof.Merge1Ideal.Run.lean ====
/- The first merge kernel's run over the extended reals: its launch with the blocks' values, and the frame. -/
module

public import proofs.«01_k».proof.Proof.Merge1Ideal.Kernel
public import Idealize.ShloMosaic.Lib.Pipeline.ArrRel

@[expose] public section

set_option maxRecDepth 16384

noncomputable section

namespace Cert.Merge1Ideal.Body

open Cert.Merge1Ideal Cert.Merge1Ideal.Gen Cert.Merge1Math
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window cellOf)

local notation "𝕄" => MT nD τ sig Unit (Elt Ideal) ℕ (UR sig nD τ) ℕ

variable (m : (ℓ : Loc nD τ sig) → Buf (Elt Ideal) ℓ) (ρ : Dev nD → PrngReg)

/-! ## The launch -/

/-- What the run's data constrain: an input's buffer is left as found; an output's buffer holds its block of the result. -/
def rdat (c : Dev nD) : RDat τ (Elt Ideal) Unit ℕ (UR sig nD τ) ℕ cfg0 c where
  A w := V m c (Pipeline.arrRef spec0 w)
  after := fun w t => match w with
    | 0 => fun Y X => X = Y
    | 1 => fun Y X => X = Y
    | 2 => fun Y X => X = Y
    | 3 => fun Y X => X = Y
    | 4 => fun Y X => X = Y
    | 5 => fun _ X => X = valM (iblk m c 0 t) (iblk m c 1 t)
    | 6 => fun _ X => X = valMS (iblk m c 0 t) (iblk m c 1 t)
    | 7 => fun _ X => X = valG (iblk m c 0 t) (iblk m c 1 t) (iblk m c 2 t) (iblk m c 3 t) (iblk m c 4 t)
    | 8 => fun _ X => X = valGS (iblk m c 0 t) (iblk m c 1 t) (iblk m c 2 t) (iblk m c 3 t) (iblk m c 4 t)
  Φ _ := Pipeline.ΦA spec0 c
  q _ := fullShare
  owed _ := 0

/-! Every input's buffer is found at its block. -/

theorem finds_0 (c : Dev nD) (t : Fin cfg0.N) (Y) (h : (rdat m c).Finds 0 t Y) : Y = iblk m c 0 t := by
  obtain ⟨d, rfl⟩ := (rdat m c).finds_in_eq_fetched 0 rfl (fun _ _ _ => rfl) (fun _ _ _ h => h) t Y h
  rfl
theorem finds_1 (c : Dev nD) (t : Fin cfg0.N) (Y) (h : (rdat m c).Finds 1 t Y) : Y = iblk m c 1 t := by
  obtain ⟨d, rfl⟩ := (rdat m c).finds_in_eq_fetched 1 rfl (fun _ _ _ => rfl) (fun _ _ _ h => h) t Y h
  rfl
theorem finds_2 (c : Dev nD) (t : Fin cfg0.N) (Y) (h : (rdat m c).Finds 2 t Y) : Y = iblk m c 2 t := by
  obtain ⟨d, rfl⟩ := (rdat m c).finds_in_eq_fetched 2 rfl (fun _ _ _ => rfl) (fun _ _ _ h => h) t Y h
  rfl
theorem finds_3 (c : Dev nD) (t : Fin cfg0.N) (Y) (h : (rdat m c).Finds 3 t Y) : Y = iblk m c 3 t := by
  obtain ⟨d, rfl⟩ := (rdat m c).finds_in_eq_fetched 3 rfl (fun _ _ _ => rfl) (fun _ _ _ h => h) t Y h
  rfl
theorem finds_4 (c : Dev nD) (t : Fin cfg0.N) (Y) (h : (rdat m c).Finds 4 t Y) : Y = iblk m c 4 t := by
  obtain ⟨d, rfl⟩ := (rdat m c).finds_in_eq_fetched 4 rfl (fun _ _ _ => rfl) (fun _ _ _ h => h) t Y h
  rfl

theorem defs₀_row (t : Fin cfg0.N) : defs₀ (F := Ideal) .tc cfg0.body (cfg0.bodyArgs t (cfg0.slots t)) = bodyAt0 t := by
  unfold defs₀; rw [Defs.onTc_tc]

set_option maxHeartbeats 4000000 in
/-- At every point, from buffers the run may be found with, the body runs and leaves what `rdat` says. -/
theorem body_obligation (c : Dev nD) : (rdat m c).BodyObligation (defs₀ (F := Ideal)) Variants.none () Set.univ := fun t Y hY => by
  have h0 := finds_0 m c t _ (hY 0)
  have h1 := finds_1 m c t _ (hY 1)
  have h2 := finds_2 m c t _ (hY 2)
  have h3 := finds_3 m c t _ (hY 3)
  have h4 := finds_4 m c t _ (hY 4)
  rw [bigSep_W0, bigSep_W0, defs₀_row, h0, h1, h2, h3, h4]
  unfold bodyAt0
  rw [show (rdat m c).Φ t.succ = Pipeline.ΦA spec0 c from rfl, show (rdat m c).Φ t.castSucc = Pipeline.ΦA spec0 c from rfl,
    show (rdat m c).owesAt () t.succ = (rdat m c).owesAt () t.castSucc from rfl]
  unfold Pipeline.ΦA
  rw [scopedRest0_eq]
  simp only [← owns_whole]
  iintro ⟨⟨⟨HS0, HS1, HS2, HS3, HS4⟩, HR⟩, Ho, H0, H1, H2, H3, H4, H5, H6, H7, H8⟩
  iapply (sound_kernel c (cfg0.grid.coords t) _ _ _ _ _ _ _ _ _ _ _ _ _ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists Y 5; iexact H5
  isplitl [H6]; · iexists Y 6; iexact H6
  isplitl [H7]; · iexists Y 7; iexact H7
  isplitl [H8]; · iexists Y 8; iexact H8
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, HS0, HS1, HS2, HS3, HS4⟩
  isplitl [HS0 HS1 HS2 HS3 HS4 HR]
  · isplitl [HS0 HS1 HS2 HS3 HS4]
    · isplitl [HS0]; · iexact HS0
      isplitl [HS1]; · iexact HS1
      isplitl [HS2]; · iexact HS2
      isplitl [HS3]; · iexact HS3
      iexact HS4
    iexact HR
  isplitl [Ho]; · iexact Ho
  isplitl [H0]; · iexists iblk m c 0 t; isplitr; · ipureintro; rfl
                  iexact H0
  isplitl [H1]; · iexists iblk m c 1 t; isplitr; · ipureintro; rfl
                  iexact H1
  isplitl [H2]; · iexists iblk m c 2 t; isplitr; · ipureintro; rfl
                  iexact H2
  isplitl [H3]; · iexists iblk m c 3 t; isplitr; · ipureintro; rfl
                  iexact H3
  isplitl [H4]; · iexists iblk m c 4 t; isplitr; · ipureintro; rfl
                  iexact H4
  isplitl [H5]; · iexists valM (iblk m c 0 t) (iblk m c 1 t); isplitr; · ipureintro; rfl
                  iexact H5
  isplitl [H6]; · iexists valMS (iblk m c 0 t) (iblk m c 1 t); isplitr; · ipureintro; rfl
                  iexact H6
  isplitl [H7]; · iexists valG (iblk m c 0 t) (iblk m c 1 t) (iblk m c 2 t) (iblk m c 3 t) (iblk m c 4 t); isplitr; · ipureintro; rfl
                  iexact H7
  iexists valGS (iblk m c 0 t) (iblk m c 1 t) (iblk m c 2 t) (iblk m c 3 t) (iblk m c 4 t)
  isplitr; · ipureintro; rfl
  iexact H8

set_option backward.isDefEq.respectTransparency.types false in
set_option maxHeartbeats 800000 in
/-- The run: every array at something the data allow, every other buffer as the region found it, every counter zero. -/
theorem run_main_quiescent : θ_run defs (onTc (τ := τ) (main (F := Ideal))) (s₀ m ρ)
    (fun r => RDat.FramePost cfg0 (rdat m) (V m) r ∧ r.2.sem = fun _ => 0) :=
  Pipeline.RDat.θ_run_frame (Q' := _) cfgs (0 : Fin 1) launch0 defs₀ Variants.none (rdat m) m ρ main
    (hbody := body_obligation m) (hshare := fun c => (rdat m c).share_full fun _ => rfl)
    (howed := fun _ _ => rfl) (V := V m) (hmain := hmain m Variants.none) (hA := fun _ _ => rfl) (hΦ := fun _ _ => rfl)

/-- The argument arrays end unchanged. -/
theorem unchanged_of (r : PUnit × MemSt nD τ sig (Elt Ideal)) (h : RDat.FramePost cfg0 (rdat m) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(h.arr_in c 0 rfl).trans (V_main_arg0 m c),
    ((h c).2 main_arg1 (Pipeline.mem_restRefs_of main_arg1 (by decide) (by decide))).trans (V_main_arg1 m c),
    (h.arr_in c 2 rfl).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩

/-- The frame: the kernel runs, its arguments end unchanged and every semaphore at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨unchanged_of m r h.1, h.2⟩) (run_main_quiescent m ρ)

end Cert.Merge1Ideal.Body
-- ==== Proof.Merge1Spec.lean ====
/- The first merge product's four results as functions of its five arguments. -/
module

public import proofs.«01_k».proof.Proof.Merge1Math
public import Idealize.ShloMosaic.Lib.Pipeline.ValueKit

@[expose] public section

noncomputable section

namespace Cert.Merge1Math

open Idealize.ShloMosaic

variable (a0 : Vec Ideal ⟨2, ![4096, 1280]⟩ .bf16) (a1 : Vec Ideal ⟨1, ![1280]⟩ .f32) (a2 : Vec Ideal ⟨2, ![5120, 5120]⟩ .fp8e4m3)
  (a3 a4 : Vec Ideal ⟨1, ![5120]⟩ .f32)

/-- Group `g` of four normalised rows, side by side. -/
def vrow (g : ℕ) : Fin 5120 → EReal :=
  mrow (fun j q => a0 (ix2 ⟨(4 * g + j.val) % 4096, Nat.mod_lt _ (by decide)⟩ q)) (fun q => a1 (ix1 q))

/-- Its scale. -/
def sM (g : ℕ) : EReal := scaleOf (amax (vrow a0 a1 g))

/-- The activated product of its codes. -/
def hrow (g : ℕ) : Fin 5120 → EReal :=
  hid (vrow a0 a1 g) (fun k n => a2 (ix2 k n)) (fun n => a3 (ix1 n)) (fun n => a4 (ix1 n))

/-- The activated product's scale. -/
def sG (g : ℕ) : EReal := scaleOf (amax (hrow a0 a1 a2 a3 a4 g))

/-- The four results: the rows' codes and scales, the activated products' codes and scales. -/
def mCodes (y : (⟨2, ![1024, 5120]⟩ : Shape).Idx) : EReal := codeOf (vrow a0 a1 (y 0).val (y 1)) (sM a0 a1 (y 0).val)
def mScale (y : (⟨3, ![4, 1, 256]⟩ : Shape).Idx) : EReal := sM a0 a1 (256 * (y 0).val + (y 2).val)
def gCodes (y : (⟨2, ![1024, 5120]⟩ : Shape).Idx) : EReal :=
  codeOf (hrow a0 a1 a2 a3 a4 (y 0).val (y 1)) (sG a0 a1 a2 a3 a4 (y 0).val)
def gScale (y : (⟨3, ![4, 1, 256]⟩ : Shape).Idx) : EReal := sG a0 a1 a2 a3 a4 (256 * (y 0).val + (y 2).val)

end Cert.Merge1Math
-- ==== Proof.Merge1Ideal.Value.lean ====
/- What the first merge kernel's result arrays hold over the extended reals. -/
module

public import proofs.«01_k».proof.Proof.Merge1Ideal.Run
public import proofs.«01_k».proof.Proof.Merge1Spec

@[expose] public section

set_option maxRecDepth 16384

noncomputable section

namespace Cert.Merge1Ideal.Body

open Cert.Merge1Ideal Cert.Merge1Ideal.Gen Cert.Merge1Math
open Idealize.ShloMosaic Idealize.ShloMosaic.TcCoe Idealize.ShloMosaic.Tactic

variable (m : (ℓ : Loc nD τ sig) → Buf (Elt Ideal) ℓ)

/-- The arguments, as arrays. -/
abbrev A0 (c : Dev nD) := m ((c.tc : Thread nD τ).loc main_arg0)
abbrev A1 (c : Dev nD) := m ((c.tc : Thread nD τ).loc main_arg1)
abbrev A2 (c : Dev nD) := m ((c.tc : Thread nD τ).loc main_arg2)
abbrev A3 (c : Dev nD) := m ((c.tc : Thread nD τ).loc main_arg3)
abbrev A4 (c : Dev nD) := m ((c.tc : Thread nD τ).loc main_arg4)

theorem idx_0 : ∀ t : Fin cfg0.N, (cfg0.win 0).index t = ![t.val, 0] := by decide +kernel
theorem idx_1 : ∀ t : Fin cfg0.N, (cfg0.win 1).index t = ![0, 0] := by decide +kernel
theorem idx_2 : ∀ t : Fin cfg0.N, (cfg0.win 2).index t = ![0, 0] := by decide +kernel
theorem idx_3 : ∀ t : Fin cfg0.N, (cfg0.win 3).index t = ![0, 0] := by decide +kernel
theorem idx_4 : ∀ t : Fin cfg0.N, (cfg0.win 4).index t = ![0, 0] := by decide +kernel
theorem idx_5 : ∀ t : Fin cfg0.N, (cfg0.win 5).index t = ![t.val, 0] := by decide +kernel
theorem idx_6 : ∀ t : Fin cfg0.N, (cfg0.win 6).index t = ![t.val, 0, 0] := by decide +kernel
theorem idx_7 : ∀ t : Fin cfg0.N, (cfg0.win 7).index t = ![t.val, 0] := by decide +kernel
theorem idx_8 : ∀ t : Fin cfg0.N, (cfg0.win 8).index t = ![t.val, 0, 0] := by decide +kernel

/-! ## The input blocks in the arguments -/

theorem blk_0 (c : Dev nD) (t : Fin cfg0.N) (r : Fin 1024) (q : Fin 1280) (P : Fin 4096) (hP : P.val = 1024 * t.val + r.val) :
    iblk m c 0 t (ix2 r q) = A0 m c (ix2 P q) := by
  blk_ext [iblk, V, idx_0 t]
theorem blk_1 (c : Dev nD) (t : Fin cfg0.N) (q : Fin 1280) : iblk m c 1 t (ix2 0 q) = A1 m c (ix1 q) := by
  blk_ext! [iblk, V, idx_1 t]
theorem blk_2 (c : Dev nD) (t : Fin cfg0.N) (k n : Fin 5120) : iblk m c 2 t (ix2 k n) = A2 m c (ix2 k n) := by
  blk_ext [iblk, V, idx_2 t]
theorem blk_3 (c : Dev nD) (t : Fin cfg0.N) (n : Fin 5120) : iblk m c 3 t (ix2 0 n) = A3 m c (ix1 n) := by
  blk_ext! [iblk, V, idx_3 t]
theorem blk_4 (c : Dev nD) (t : Fin cfg0.N) (n : Fin 5120) : iblk m c 4 t (ix2 0 n) = A4 m c (ix1 n) := by
  blk_ext! [iblk, V, idx_4 t]

theorem xrow_blk (c : Dev nD) (t : Fin cfg0.N) (R : ℕ) (hR : R < 256) :
    xrow (iblk m c 0 t) (iblk m c 1 t) R = vrow (A0 m c) (A1 m c) (256 * t.val + R) := by
  have ht : t.val < 4 := t.isLt
  have e1 : (fun j : Fin 4 => prow (iblk m c 0 t) (4 * R + j.val))
      = fun j q => A0 m c (ix2 ⟨(4 * (256 * t.val + R) + j.val) % 4096, Nat.mod_lt _ (by decide)⟩ q) := by
    funext j q
    have hj : j.val < 4 := j.isLt
    exact blk_0 m c t _ q _ (by show (4 * (256 * t.val + R) + j.val) % 4096 = 1024 * t.val + (4 * R + j.val) % 1024; omega)
  have e2 : gain (iblk m c 1 t) = fun q => A1 m c (ix1 q) := funext fun q => blk_1 m c t q
  show mrow _ _ = mrow _ _
  rw [e1, e2]

theorem hv_blk (c : Dev nD) (t : Fin cfg0.N) (R : ℕ) (hR : R < 256) (n : Fin 5120) :
    hv (iblk m c 0 t) (iblk m c 1 t) (iblk m c 2 t) (iblk m c 3 t) (iblk m c 4 t) R n
      = hrow (A0 m c) (A1 m c) (A2 m c) (A3 m c) (A4 m c) (256 * t.val + R) n := by
  have e2 : (fun k n => iblk m c 2 t (ix2 k n)) = fun k n => A2 m c (ix2 k n) := funext fun k => funext fun n => blk_2 m c t k n
  have e3 : (fun n => iblk m c 3 t (ix2 0 n)) = fun n => A3 m c (ix1 n) := funext fun n => blk_3 m c t n
  have e4 : (fun n => iblk m c 4 t (ix2 0 n)) = fun n => A4 m c (ix1 n) := funext fun n => blk_4 m c t n
  unfold hv hrow
  rw [xrow_blk m c t R hR, e2, e3, e4]

theorem mS_blk (c : Dev nD) (t : Fin cfg0.N) (R : ℕ) (hR : R < 256) :
    mS (iblk m c 0 t) (iblk m c 1 t) R = sM (A0 m c) (A1 m c) (256 * t.val + R) := by
  unfold mS sM; rw [xrow_blk m c t R hR]

theorem mC_blk (c : Dev nD) (t : Fin cfg0.N) (R : ℕ) (hR : R < 256) (q : Fin 5120) :
    mC (iblk m c 0 t) (iblk m c 1 t) R q
      = codeOf (vrow (A0 m c) (A1 m c) (256 * t.val + R) q) (sM (A0 m c) (A1 m c) (256 * t.val + R)) := by
  unfold mC; rw [mS_blk m c t R hR, xrow_blk m c t R hR]

theorem gS_blk (c : Dev nD) (t : Fin cfg0.N) (R : ℕ) (hR : R < 256) :
    gS (iblk m c 0 t) (iblk m c 1 t) (iblk m c 2 t) (iblk m c 3 t) (iblk m c 4 t) R
      = sG (A0 m c) (A1 m c) (A2 m c) (A3 m c) (A4 m c) (256 * t.val + R) := by
  unfold gS sG; rw [funext fun n => hv_blk m c t R hR n]

theorem gC_blk (c : Dev nD) (t : Fin cfg0.N) (R : ℕ) (hR : R < 256) (q : Fin 5120) :
    gC (iblk m c 0 t) (iblk m c 1 t) (iblk m c 2 t) (iblk m c 3 t) (iblk m c 4 t) R q
      = codeOf (hrow (A0 m c) (A1 m c) (A2 m c) (A3 m c) (A4 m c) (256 * t.val + R) q)
          (sG (A0 m c) (A1 m c) (A2 m c) (A3 m c) (A4 m c) (256 * t.val + R)) := by
  unfold gC; rw [gS_blk m c t R hR, hv_blk m c t R hR]

/-! ## The result arrays -/

variable (r : PUnit × MemSt nD τ sig (Elt Ideal)) (h : Pipeline.RDat.FramePost cfg0 (rdat m) (V m) r) (c : Dev nD)

include h in
theorem result_5 : r.2.mem ((c.tc : Thread nD τ).loc main_v3_0) = mCodes (A0 m c) (A1 m c) := by
  obtain ⟨after, hL, hA⟩ := h.exists_exact c
  refine (hA 5).trans (Pipeline.Dat.arrAt_eq_of_covers _ 5 _ (by decide +kernel) fun t hf y => ?_)
  obtain ⟨Y, -, hX⟩ := hL 5 t hf
  dsimp only [rdat] at hX
  rw [Pipeline.RDat.withAfter_after, hX]
  blk_simp
  have e0 : (((win0_5.blk t).view.emb y) 0).val = 256 * t.val + (y 0).val := by
    blk_simp [idx_5 t]; show t.val * 256 + (y 0).val = _; omega
  have e1 : ((win0_5.blk t).view.emb y) 1 = y 1 := Fin.ext (by blk_simp [idx_5 t])
  unfold mCodes
  rw [e0, e1]
  exact mC_blk m c t _ (y 0).isLt _

include h in
theorem result_6 : r.2.mem ((c.tc : Thread nD τ).loc main_v3_1) = mScale (A0 m c) (A1 m c) := by
  obtain ⟨after, hL, hA⟩ := h.exists_exact c
  refine (hA 6).trans (Pipeline.Dat.arrAt_eq_of_covers _ 6 _ (by decide +kernel) fun t hf y => ?_)
  obtain ⟨Y, -, hX⟩ := hL 6 t hf
  dsimp only [rdat] at hX
  rw [Pipeline.RDat.withAfter_after, hX]
  blk_simp
  have e0 : 256 * (((win0_6.blk t).view.emb y) 0).val + (((win0_6.blk t).view.emb y) 2).val = 256 * t.val + (y 2).val := by
    have h0 : (y 0).val = 0 := Nat.lt_one_iff.mp (y 0).isLt
    blk_simp [idx_6 t]
  unfold mScale
  rw [e0]
  exact mS_blk m c t _ (y 2).isLt

include h in
theorem result_7 : r.2.mem ((c.tc : Thread nD τ).loc main_v3_2) = gCodes (A0 m c) (A1 m c) (A2 m c) (A3 m c) (A4 m c) := by
  obtain ⟨after, hL, hA⟩ := h.exists_exact c
  refine (hA 7).trans (Pipeline.Dat.arrAt_eq_of_covers _ 7 _ (by decide +kernel) fun t hf y => ?_)
  obtain ⟨Y, -, hX⟩ := hL 7 t hf
  dsimp only [rdat] at hX
  rw [Pipeline.RDat.withAfter_after, hX]
  blk_simp
  have e0 : (((win0_7.blk t).view.emb y) 0).val = 256 * t.val + (y 0).val := by
    blk_simp [idx_7 t]; show t.val * 256 + (y 0).val = _; omega
  have e1 : ((win0_7.blk t).view.emb y) 1 = y 1 := Fin.ext (by blk_simp [idx_7 t])
  unfold gCodes
  rw [e0, e1]
  exact gC_blk m c t _ (y 0).isLt _

include h in
theorem result_8 : r.2.mem ((c.tc : Thread nD τ).loc main_v3_3) = gScale (A0 m c) (A1 m c) (A2 m c) (A3 m c) (A4 m c) := by
  obtain ⟨after, hL, hA⟩ := h.exists_exact c
  refine (hA 8).trans (Pipeline.Dat.arrAt_eq_of_covers _ 8 _ (by decide +kernel) fun t hf y => ?_)
  obtain ⟨Y, -, hX⟩ := hL 8 t hf
  dsimp only [rdat] at hX
  rw [Pipeline.RDat.withAfter_after, hX]
  blk_simp
  have e0 : 256 * (((win0_8.blk t).view.emb y) 0).val + (((win0_8.blk t).view.emb y) 2).val = 256 * t.val + (y 2).val := by
    have h0 : (y 0).val = 0 := Nat.lt_one_iff.mp (y 0).isLt
    blk_simp [idx_8 t]
  unfold gScale
  rw [e0]
  exact gS_blk m c t _ (y 2).isLt

end Cert.Merge1Ideal.Body
-- ==== Proof.Ref1Ideal.Value.lean ====
/- What the first merge product's reference computes, element by element, over the extended reals. -/
module

public import proofs.«01_k».proof.Proof.Gen.Ref1Ideal.Frame
public import proofs.«01_k».proof.Proof.Merge1Spec

@[expose] public section

set_option maxRecDepth 16384

noncomputable section

namespace Cert.Ref1Ideal.Value

open Cert.Ref1Ideal Cert.Ref1Ideal.Gen Cert.Merge1Math
open Idealize.ShloMosaic Idealize.ShloMosaic.TcCoe Idealize.ShloMosaic.Tactic

/-! ## The payloads -/

/-- The largest absolute value of a row of an array. -/
theorem max_apply (r : FVec Ideal S1024x5120 .f32) (g : Fin 1024) :
    multiReduction (F := Ideal) .maximumf [1] S1024 (absf r) 0xFF800000#32 reduces_S1024x5120_S1024 (.inl rfl) rfl (ix1 g)
      = amax fun k => r (ix2 g k) := by
  unfold amax
  rw [← neg_inf]
  pointwise
  simp only [show ∀ x : EReal, FloatOps.absf (F := Ideal) (φ := .f32) x = max x (-x) from fun _ => rfl]

/-- The scale of a largest absolute value. -/
theorem sel_apply (v : FVec Ideal S1024 .f32) (g : Fin 1024) :
    select (cmpf .oeq v (broadcast S1024 (Scalar.ofBits .f32 0x00000000#32 : Ideal .f32))) (broadcast S1024 (Scalar.ofBits .f32 0x3F800000#32 : Ideal .f32))
      (divf v (broadcast S1024 (Scalar.ofBits .f32 0x43E00000#32 : Ideal .f32))) (ix1 g) = scaleOf (v (ix1 g)) := by
  unfold scaleOf c448
  pointwise

/-- The scale of every row of an array: one where the row is zero, else its largest absolute value over 448. -/
theorem scale_apply (r : FVec Ideal S1024x5120 .f32) (g : Fin 1024) :
    select (cmpf .oeq (multiReduction (F := Ideal) .maximumf [1] S1024 (absf r) 0xFF800000#32 reduces_S1024x5120_S1024 (.inl rfl) rfl)
        (broadcast S1024 (Scalar.ofBits .f32 0x00000000#32 : Ideal .f32))) (broadcast S1024 (Scalar.ofBits .f32 0x3F800000#32 : Ideal .f32))
      (divf (multiReduction (F := Ideal) .maximumf [1] S1024 (absf r) 0xFF800000#32 reduces_S1024x5120_S1024 (.inl rfl) rfl)
        (broadcast S1024 (Scalar.ofBits .f32 0x43E00000#32 : Ideal .f32))) (ix1 g)
      = scaleOf (amax fun k => r (ix2 g k)) :=
  (sel_apply _ g).trans (congrArg scaleOf (max_apply r g))

/-- The codes of an array at its rows' scales. -/
theorem code_apply (r : FVec Ideal S1024x5120 .f32) (s : FVec Ideal S1024 .f32) (g : Fin 1024) (k : Fin 5120) :
    truncf .fp8e4m3 (minimumf (broadcast S1024x5120 (Scalar.ofBits .f32 0x43E00000#32 : Ideal .f32))
      (maximumf (broadcast S1024x5120 (Scalar.ofBits .f32 0xC3E00000#32 : Ideal .f32))
        (divf r (broadcastTo S1024x5120 (shapeCast S1024x1 s shapeCasts_S1024_S1024x1) broadcasts_S1024x1_S1024x5120)))) bitsLt_fp8e4m3_f32 (ix2 g k)
      = codeOf (r (ix2 g k)) (s (ix1 g)) := by
  unfold codeOf c448 cneg
  pointwise

/-- The activation of an array with a row of biases added. -/
theorem gelu_apply (r : FVec Ideal S1024x5120 .f32) (b : Vec Ideal S5120 .f32) (g : Fin 1024) (n : Fin 5120) :
    k0_pay1 r b (ix2 g n) = gelu (r (ix2 g n) + b (ix1 n)) := by
  unfold gelu chalf croot
  pointwise [k0_pay1]

/-- The product of codes and weights, times the rows' scales and the columns'. -/
theorem prod_apply (x : FVec Ideal S1024x5120 .fp8e4m3) (w : FVec Ideal S5120x5120 .fp8e4m3) (s : FVec Ideal S1024 .f32) (t : Vec Ideal S5120 .f32)
    (g : Fin 1024) (n : Fin 5120) :
    mulf (mulf (matmul dot_S1024x5120_S5120x5120_S1024x5120_1_0_0_1_n_n none x w (constant (F := Ideal) S1024x5120 .f32 0x00000000#32))
        (broadcastTo S1024x5120 (shapeCast S1024x1 s shapeCasts_S1024_S1024x1) broadcasts_S1024x1_S1024x5120))
      (broadcastTo S1024x5120 (shapeCast S1x5120 t shapeCasts_S5120_S1x5120) broadcasts_S1x5120_S1024x5120) (ix2 g n)
      = (∑ k : Fin 5120, x (ix2 g k) * w (ix2 k n)) * s (ix1 g) * t (ix1 n) := by
  pointwise

/-- A row of scales in four rows of 256. -/
theorem fold_apply (s : FVec Ideal S1024 .f32) (f : ℕ → EReal) (h : ∀ g : Fin 1024, s (ix1 g) = f g.val) (y : S4x1x256.Idx) :
    shapeCast S4x1x256 s shapeCasts_S1024_S4x1x256 y = f (256 * (y 0).val + (y 2).val) := by
  have h0 : (y 0).val < 4 := (y 0).isLt
  have h1 : (y 1).val = 0 := Nat.lt_one_iff.mp (y 1).isLt
  have h2 : (y 2).val < 256 := (y 2).isLt
  refine (Idealize.ShloMosaic.shapeCast_apply _ _ y (ix1 ⟨256 * (y 0).val + (y 2).val, by omega⟩) ?_).trans (h _)
  rw [Idealize.ShloMosaic.rowMajor_val1, Idealize.ShloMosaic.rowMajor_val3 _ 256 256 rfl rfl]
  show 256 * (y 0).val + (y 2).val = _
  omega

section
variable (x0 : Vec Ideal S4096x1280 .bf16) (x1 : Vec Ideal S1280 .f32) (x2 : Vec Ideal S5120x5120 .fp8e4m3) (x3 x4 : Vec Ideal S5120 .f32)

theorem pay6_apply (g : Fin 1024) (k : Fin 5120) : k0_pay6 x0 x1 (ix2 g k) = vrow x0 x1 g.val k := by
  have hP : 4 * g.val + k.val / 1280 < 4096 := by omega
  have hq : k.val % 1280 < 1280 := Nat.mod_lt _ (by decide)
  have e : vrow x0 x1 g.val k = nrm (fun q => x0 (ix2 ⟨4 * g.val + k.val / 1280, hP⟩ q)) (fun q => x1 (ix1 q)) ⟨k.val % 1280, hq⟩ := by
    unfold vrow mrow
    have h : ∀ h', (⟨(4 * g.val + k.val / 1280) % 4096, h'⟩ : Fin 4096) = ⟨4 * g.val + k.val / 1280, hP⟩ := fun h' => Fin.ext (Nat.mod_eq_of_lt hP)
    simp only [h]
  rw [e]
  generalize hPP : (⟨4 * g.val + k.val / 1280, hP⟩ : Fin 4096) = P
  generalize hqq : (⟨k.val % 1280, hq⟩ : Fin 1280) = q
  have hP' : P.val = 4 * g.val + k.val / 1280 := by rw [← hPP]
  have hq' : q.val = k.val % 1280 := by rw [← hqq]
  unfold k0_pay6
  refine (Idealize.ShloMosaic.shapeCast_apply _ _ (ix2 g k) (ix2 P q) ?_).trans ?_
  · rw [Idealize.ShloMosaic.rowMajor_val2 _ 1280 rfl, Idealize.ShloMosaic.rowMajor_val2 _ 5120 rfl]
    show P.val * 1280 + q.val = g.val * 5120 + k.val
    omega
  unfold nrm rms cdim ceps
  pointwise

theorem pay6_row (g : Fin 1024) : (fun k => k0_pay6 x0 x1 (ix2 g k)) = vrow x0 x1 g.val := funext fun k => pay6_apply x0 x1 g k

theorem pay7_apply (g : Fin 1024) : k0_pay7 x0 x1 (ix1 g) = sM x0 x1 g.val :=
  (scale_apply (k0_pay6 x0 x1) g).trans (congrArg (fun f => scaleOf (amax f)) (pay6_row x0 x1 g))

theorem pay8_apply (g : Fin 1024) (k : Fin 5120) :
    k0_pay8 x0 x1 (ix2 g k) = codeOf (vrow x0 x1 g.val k) (sM x0 x1 g.val) :=
  (code_apply (k0_pay6 x0 x1) (k0_pay7 x0 x1) g k).trans (congrArg₂ codeOf (pay6_apply x0 x1 g k) (pay7_apply x0 x1 g))

theorem hid_apply (g : Fin 1024) (n : Fin 5120) :
    k0_pay1 (k0_pay9 x0 x1 x2 x3) x4 (ix2 g n) = hrow x0 x1 x2 x3 x4 g.val n := by
  have h : k0_pay9 x0 x1 x2 x3 (ix2 g n) = (∑ k : Fin 5120, codeOf (vrow x0 x1 g.val k) (sM x0 x1 g.val) * x2 (ix2 k n)) * sM x0 x1 g.val * x3 (ix1 n) := by
    refine (prod_apply (k0_pay8 x0 x1) x2 (k0_pay7 x0 x1) x3 g n).trans ?_
    rw [pay7_apply]
    simp only [pay8_apply]
  rw [gelu_apply, h]
  rfl

theorem hid_row (g : Fin 1024) : (fun n => k0_pay1 (k0_pay9 x0 x1 x2 x3) x4 (ix2 g n)) = hrow x0 x1 x2 x3 x4 g.val :=
  funext fun n => hid_apply x0 x1 x2 x3 x4 g n

theorem pay2_apply (g : Fin 1024) : k0_pay2 (k0_pay9 x0 x1 x2 x3) x4 (ix1 g) = sG x0 x1 x2 x3 x4 g.val :=
  (scale_apply (k0_pay1 (k0_pay9 x0 x1 x2 x3) x4) g).trans (congrArg (fun f => scaleOf (amax f)) (hid_row x0 x1 x2 x3 x4 g))

theorem pay3_apply (g : Fin 1024) (n : Fin 5120) :
    k0_pay3 (k0_pay9 x0 x1 x2 x3) x4 (ix2 g n) = codeOf (hrow x0 x1 x2 x3 x4 g.val n) (sG x0 x1 x2 x3 x4 g.val) :=
  (code_apply (k0_pay1 (k0_pay9 x0 x1 x2 x3) x4) (k0_pay2 (k0_pay9 x0 x1 x2 x3) x4) g n).trans
    (congrArg₂ codeOf (hid_apply x0 x1 x2 x3 x4 g n) (pay2_apply x0 x1 x2 x3 x4 g))

theorem out5_apply : k0_pay8 x0 x1 = mCodes x0 x1 := by
  funext y; idx_vars y; exact pay8_apply x0 x1 _ _

theorem out6_apply : k0_pay4 (k0_pay7 x0 x1) = mScale x0 x1 :=
  funext fun y => fold_apply _ (sM x0 x1) (pay7_apply x0 x1) y

theorem out7_apply : k0_pay3 (k0_pay9 x0 x1 x2 x3) x4 = gCodes x0 x1 x2 x3 x4 := by
  funext y; idx_vars y; exact pay3_apply x0 x1 x2 x3 x4 _ _

theorem out8_apply : k0_pay5 (k0_pay9 x0 x1 x2 x3) x4 = gScale x0 x1 x2 x3 x4 :=
  funext fun y => fold_apply _ (sG x0 x1 x2 x3 x4) (pay2_apply x0 x1 x2 x3 x4) y

end

/-! ## The arrays -/

variable (m : (ℓ : Loc nD τ sig) → Buf (Elt Ideal) ℓ)

/-- The arguments, as arrays. -/
abbrev A0 (c : Dev nD) := m ((c.tc : Thread nD τ).loc main_arg0)
abbrev A1 (c : Dev nD) := m ((c.tc : Thread nD τ).loc main_arg1)
abbrev A2 (c : Dev nD) := m ((c.tc : Thread nD τ).loc main_arg2)
abbrev A3 (c : Dev nD) := m ((c.tc : Thread nD τ).loc main_arg3)
abbrev A4 (c : Dev nD) := m ((c.tc : Thread nD τ).loc main_arg4)

theorem idx_0 : ∀ t : Fin cfg0.N, (cfg0.win 0).index t = ![0, 0] := by decide +kernel
theorem idx_1 : ∀ t : Fin cfg0.N, (cfg0.win 1).index t = ![0] := by decide +kernel
theorem idx_2 : ∀ t : Fin cfg0.N, (cfg0.win 2).index t = ![0, 0] := by decide +kernel
theorem idx_3 : ∀ t : Fin cfg0.N, (cfg0.win 3).index t = ![0] := by decide +kernel
theorem idx_4 : ∀ t : Fin cfg0.N, (cfg0.win 4).index t = ![0] := by decide +kernel

/-! Every input's block is its whole array. -/

theorem ld_0 (c : Dev nD) : View.ld (iblk m c 0 t0_0) r0_0 = A0 m c := by
  funext i; idx_vars i; pointwise; blk_ext [iblk, V, idx_0 t0_0]
theorem ld_1 (c : Dev nD) : View.ld (iblk m c 1 t0_0) r0_1 = A1 m c := by
  funext i; idx_vars i; pointwise; blk_ext [iblk, V, idx_1 t0_0]
theorem ld_2 (c : Dev nD) : View.ld (iblk m c 2 t0_0) r0_2 = A2 m c := by
  funext i; idx_vars i; pointwise; blk_ext [iblk, V, idx_2 t0_0]
theorem ld_3 (c : Dev nD) : View.ld (iblk m c 3 t0_0) r0_3 = A3 m c := by
  funext i; idx_vars i; pointwise; blk_ext [iblk, V, idx_3 t0_0]
theorem ld_4 (c : Dev nD) : View.ld (iblk m c 4 t0_0) r0_3 = A4 m c := by
  funext i; idx_vars i; pointwise; blk_ext [iblk, V, idx_4 t0_0]

theorem pay10_eq (c : Dev nD) : k0_pay10 (iblk m c 0 t0_0) (iblk m c 1 t0_0) (iblk m c 2 t0_0) (iblk m c 3 t0_0) (iblk m c 4 t0_0)
    = k0_pay9 (A0 m c) (A1 m c) (A2 m c) (A3 m c) := by
  unfold k0_pay10; rw [ld_0, ld_1, ld_2, ld_3]

theorem result_5 (c : Dev nD) : (dats m 0 c).arrAt 5 (cfgs 0).N = mCodes (A0 m c) (A1 m c) := by
  refine (dats m 0 c).arrAt_eq_of_after_last 5 t0_0 (by decide +kernel) _ fun j => ?_
  blk_simp
  rw [after0_5]
  unfold out0_5
  rw [View.canon_unit_zero (by decide), ld_0, ld_1]
  exact congrFun (out5_apply (A0 m c) (A1 m c)) j

theorem result_6 (c : Dev nD) : (dats m 0 c).arrAt 6 (cfgs 0).N = mScale (A0 m c) (A1 m c) := by
  refine (dats m 0 c).arrAt_eq_of_after_last 6 t0_0 (by decide +kernel) _ fun j => ?_
  blk_simp
  rw [after0_6]
  unfold out0_6
  rw [View.canon_unit_zero (by decide), ld_0, ld_1]
  exact congrFun (out6_apply (A0 m c) (A1 m c)) j

theorem result_7 (c : Dev nD) : (dats m 0 c).arrAt 7 (cfgs 0).N = gCodes (A0 m c) (A1 m c) (A2 m c) (A3 m c) (A4 m c) := by
  refine (dats m 0 c).arrAt_eq_of_after_last 7 t0_0 (by decide +kernel) _ fun j => ?_
  blk_simp
  rw [after0_7]
  unfold out0_7
  rw [View.canon_unit_zero (by decide), pay10_eq, ld_4]
  exact congrFun (out7_apply (A0 m c) (A1 m c) (A2 m c) (A3 m c) (A4 m c)) j

theorem result_8 (c : Dev nD) : (dats m 0 c).arrAt 8 (cfgs 0).N = gScale (A0 m c) (A1 m c) (A2 m c) (A3 m c) (A4 m c) := by
  refine (dats m 0 c).arrAt_eq_of_after_last 8 t0_0 (by decide +kernel) _ fun j => ?_
  blk_simp
  rw [after0_8]
  unfold out0_8
  rw [View.canon_unit_zero (by decide), pay10_eq, ld_4]
  exact congrFun (out8_apply (A0 m c) (A1 m c) (A2 m c) (A3 m c) (A4 m c)) j

end Cert.Ref1Ideal.Value
-- ==== Proof.Merge1Claim.lean ====
/- The first merge product's claim: kernel and reference both leave the four results of `Merge1Spec` of the arguments. -/
module

public import proofs.«01_k».proof.Defs
public import proofs.«01_k».proof.Proof.Merge1Ideal.Value
public import proofs.«01_k».proof.Proof.Ref1Ideal.Value
public import Idealize.ShloMosaic.Lib.Claim

@[expose] public section

set_option maxRecDepth 16384

noncomputable section

namespace Cert.Merge1Claim

open Idealize.ShloMosaic Idealize.ShloMosaic.TcCoe Idealize.SL.Sem
open Cert.Merge1Math
open Cert.Merge1Ideal.Body (A0 A1 A2 A3 A4)

theorem algebraic : Cert.algebraic_Merge1Ideal_Ref1Ideal := fun m g m' g' _ hag =>
  ⟨fun c => mCodes (A0 m c) (A1 m c), fun c => mScale (A0 m c) (A1 m c),
    fun c => gCodes (A0 m c) (A1 m c) (A2 m c) (A3 m c) (A4 m c), fun c => gScale (A0 m c) (A1 m c) (A2 m c) (A3 m c) (A4 m c),
    (θ_run _ _ _).mono (fun r h c => ⟨Merge1Ideal.Body.result_5 m r h.1 c, Merge1Ideal.Body.result_6 m r h.1 c,
        Merge1Ideal.Body.result_7 m r h.1 c, Merge1Ideal.Body.result_8 m r h.1 c, Merge1Ideal.Body.unchanged_of m r h.1 c⟩)
      (Merge1Ideal.Body.run_main_quiescent m g),
    (θ_run _ _ _).mono (fun r h c => by
        obtain ⟨e0, e1, e2, e3, e4⟩ := hag c
        refine ⟨((h.1 c).1 5).trans ((Ref1Ideal.Value.result_5 m' c).trans ?_), ((h.1 c).1 6).trans ((Ref1Ideal.Value.result_6 m' c).trans ?_),
          ((h.1 c).1 7).trans ((Ref1Ideal.Value.result_7 m' c).trans ?_), ((h.1 c).1 8).trans ((Ref1Ideal.Value.result_8 m' c).trans ?_), h.2 c⟩
        · unfold Ref1Ideal.Value.A0 Ref1Ideal.Value.A1; rw [e0, e1]
        · unfold Ref1Ideal.Value.A0 Ref1Ideal.Value.A1; rw [e0, e1]
        · unfold Ref1Ideal.Value.A0 Ref1Ideal.Value.A1 Ref1Ideal.Value.A2 Ref1Ideal.Value.A3 Ref1Ideal.Value.A4; rw [e0, e1, e2, e3, e4]
        · unfold Ref1Ideal.Value.A0 Ref1Ideal.Value.A1 Ref1Ideal.Value.A2 Ref1Ideal.Value.A3 Ref1Ideal.Value.A4; rw [e0, e1, e2, e3, e4])
      (θ_run_and (Ref1Ideal.Gen.run_main m' g') (Ref1Ideal.Gen.unchanged m' g'))⟩

end Cert.Merge1Claim
-- ==== Proof.Merge2.Body.lean ====
/- The second merge kernel's body on one column block: what one grid point makes of the output's buffer. -/
module

public import proofs.«01_k».proof.Proof.Gen.Merge2.Skeleton
public import proofs.«01_k».proof.Proof.Gen.Merge2.Loops
public import proofs.«01_k».proof.Proof.Gen.Merge2.Frame
public import Idealize.ShloMosaic.Lib.Pipeline.ValueKit
public import Idealize.ShloMosaic.Lib.Pointwise.Index

@[expose] public section

set_option maxRecDepth 16384

noncomputable section

namespace Cert.Merge2.Body

open Cert.Merge2 Cert.Merge2.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The row chunks: four of 256 rows. -/
theorem trips_eq : k0_t1_loop.trips = 4 := by decide

/-- One chunk's block: 256 rows of codes times the point's 512 weight columns, scaled and shifted. -/
def chunk (x1 : Vec F S1024x5120 .fp8e4m3) (x2 : Vec F S1024x1 .f32) (x3 : Vec F S5120x512 .fp8e4m3)
    (x4 x5 : Vec F S1x512 .f32) (k : Fin k0_t1_loop.trips) : FVec F S256x512 .f32 :=
  k0_pay3 (View.ld x1 (Rect.unit (s := S1024x5120) (k0_off1 k) S256x5120.size (k0_off1_inb k)))
    (View.ld x3 (Rect.unit (s := S5120x512) ![0, 0] S5120x512.size inb_S5120x512_S5120x512_0_0))
    (View.ld x2 (Rect.unit (s := S1024x1) (k0_off2 k) S256x1.size (k0_off2_inb k)))
    (View.ld x4 (Rect.unit (s := S1x512) ![0, 0] S1x512.size inb_S1x512_S1x512_0_0))
    (View.ld x5 (Rect.unit (s := S1x512) ![0, 0] S1x512.size inb_S1x512_S1x512_0_0))

/-- What the point's block says of the output's element `y` = (28 · row + tile, lane): the chunk of the row, at
    the row within the chunk and the column within the point's 512. -/
def tileVal (x1 : Vec F S1024x5120 .fp8e4m3) (x2 : Vec F S1024x1 .f32) (x3 : Vec F S5120x512 .fp8e4m3)
    (x4 x5 : Vec F S1x512 .f32) (y : S28672x128.Idx) : F .f32 :=
  chunk x1 x2 x3 x4 x5
    ⟨(y 0).val / 7168, by rw [trips_eq]; have : (y 0).val < 28672 := (y 0).isLt; omega⟩
    (ix2 ⟨(y 0).val / 28 % 256, Nat.mod_lt _ (by decide)⟩
      ⟨(y 0).val % 4 * 128 + (y 1).val, by have : (y 1).val < 128 := (y 1).isLt; omega⟩)

/-- The output's buffer after the chunks before `k` at grid point `i`: the point's four tiles of those chunks' rows at
    the block's values, every other element as it was. -/
def Left (i : grid0.Coords) (k : ℕ) (x1 : Vec F S1024x5120 .fp8e4m3) (x2 : Vec F S1024x1 .f32) (x3 : Vec F S5120x512 .fp8e4m3)
    (x4 x5 : Vec F S1x512 .f32) (Y X : S28672x128.Idx → F .f32) : Prop :=
  ∀ y : S28672x128.Idx, X y = if (y 0).val / 7168 < k ∧ (y 0).val % 28 / 4 = (i 0).val then tileVal x1 x2 x3 x4 x5 y else Y y

theorem off3_eq (i : grid0.Coords) (k : Fin k0_t1_loop.trips) (r : Fin 4) :
    k0_off3 i k (BitVec.ofNat 32 r.val) = ![7168 * k.val + 4 * (i 0).val + r.val, 0] := by
  unfold k0_off3
  generalize i 0 = a
  revert a k r
  decide +kernel

/-- The rectangle of tile `r` of chunk `k`'s rows: every 28th row of the output from the tile's own. -/
abbrev tileRect (i : grid0.Coords) (k : Fin k0_t1_loop.trips) (r : Fin 4) : Rect S28672x128 :=
  ⟨⟨k0_off3 i k (BitVec.ofNat 32 r.val), S256x128.size, ![28, 1], k0_off3_inb i k r⟩, spos_28_1⟩

/-- Where tile `r` places its element `x`. -/
theorem tileRect_emb (i : grid0.Coords) (k : Fin k0_t1_loop.trips) (r : Fin 4) (x : S256x128.Idx) :
    ((tileRect i k r).emb x 0).val = 7168 * k.val + 4 * (i 0).val + r.val + 28 * (x 0).val
      ∧ ((tileRect i k r).emb x 1).val = (x 1).val := by
  constructor
  · show k0_off3 i k (BitVec.ofNat 32 r.val) 0 + 28 * (x 0).val = _
    rw [off3_eq]; rfl
  · show k0_off3 i k (BitVec.ofNat 32 r.val) 1 + 1 * (x 1).val = _
    rw [off3_eq]; show 0 + 1 * (x 1).val = _; omega

/-- An element is in tile `r` of chunk `k` exactly when its row is one of the chunk's and its tile is `4 i + r`. -/
theorem mem_tileRect (i : grid0.Coords) (k : Fin k0_t1_loop.trips) (r : Fin 4) (y : S28672x128.Idx) :
    y ∈ (tileRect i k r).set ↔ (y 0).val / 7168 = k.val ∧ (y 0).val % 28 = 4 * (i 0).val + r.val := by
  have hi : (i 0).val < 7 := (i 0).isLt
  have hr := r.isLt
  have hy0 : (y 0).val < 28672 := (y 0).isLt
  have hy1 : (y 1).val < 128 := (y 1).isLt
  constructor
  · intro h
    obtain ⟨x, rfl⟩ := (tileRect i k r).exists_idx_of_mem h
    have hx : (x 0).val < 256 := (x 0).isLt
    have e0 : ((tileRect i k r).idx x 0).val = 7168 * k.val + 4 * (i 0).val + r.val + 28 * (x 0).val := (tileRect_emb i k r x).1
    rw [e0]
    omega
  · rintro ⟨h1, h2⟩
    let x : S256x128.Idx := ix2 ⟨(y 0).val / 28 % 256, Nat.mod_lt _ (by decide)⟩ ⟨(y 1).val, hy1⟩
    obtain ⟨e0, e1⟩ := tileRect_emb i k r x
    have : y = (tileRect i k r).emb x := by
      funext a; apply Fin.ext
      match a with
      | ⟨0, _⟩ =>
        refine Eq.trans ?_ e0.symm
        show (y 0).val = 7168 * k.val + 4 * (i 0).val + r.val + 28 * ((y 0).val / 28 % 256)
        omega
      | ⟨1, _⟩ => exact Eq.trans (show (y 1).val = (x 1).val from rfl) e1.symm
    rw [this, ← Rect.map_emb_univ]
    exact Finset.mem_map_of_mem _ (Finset.mem_univ _)

/-- The payload of tile `r`, columns `128 r …` of the chunk's block, is the block's value at the tile's elements. -/
theorem tile_payload (i : grid0.Coords) (k : Fin k0_t1_loop.trips) (r : Fin 4) (x1 : Vec F S1024x5120 .fp8e4m3) (x2 : Vec F S1024x1 .f32)
    (x3 : Vec F S5120x512 .fp8e4m3) (x4 x5 : Vec F S1x512 .f32) (off : Fin 2 → ℕ) (hoff : off = ![0, 128 * r.val])
    (hs : S256x512.Slices off S256x128) (x : S256x128.Idx) :
    extractStridedSlice S256x128 off (chunk x1 x2 x3 x4 x5 k) hs x = tileVal x1 x2 x3 x4 x5 ((tileRect i k r).emb x) := by
  subst hoff
  have hi : (i 0).val < 7 := (i 0).isLt
  have hr := r.isLt
  have hk : k.val < 4 := trips_eq ▸ k.isLt
  have hx0 : (x 0).val < 256 := (x 0).isLt
  have hx1 : (x 1).val < 128 := (x 1).isLt
  obtain ⟨e0, e1⟩ := tileRect_emb i k r x
  unfold tileVal
  have hk' : (⟨((tileRect i k r).emb x 0).val / 7168, by rw [e0]; exact lt_of_lt_of_eq (show _ < 4 by omega) trips_eq.symm⟩ : Fin k0_t1_loop.trips) = k := Fin.ext (by
    show ((tileRect i k r).emb x 0).val / 7168 = k.val
    rw [e0]; omega)
  rw [hk']
  refine extractStridedSlice_apply _ _ _ _ _ fun a => ?_
  match a with
  | ⟨0, _⟩ => show ((tileRect i k r).emb x 0).val / 28 % 256 = 0 + (x 0).val; rw [e0]; omega
  | ⟨1, _⟩ => show ((tileRect i k r).emb x 0).val % 4 * 128 + ((tileRect i k r).emb x 1).val = 128 * r.val + (x 1).val; rw [e0, e1]; omega

/-- The four tiles a chunk stores, over contents that hold the chunks before it, hold the chunk as well. -/
theorem left_step (i : grid0.Coords) (k : Fin k0_t1_loop.trips) (x1 : Vec F S1024x5120 .fp8e4m3) (x2 : Vec F S1024x1 .f32)
    (x3 : Vec F S5120x512 .fp8e4m3) (x4 x5 : Vec F S1x512 .f32) (Y : S28672x128.Idx → F .f32)
    (arg6 : Memref sig .tc .vmem S28672x128 .f32) (f : arg6.view.ty.Contents (Elt F))
    (hf : Left i k.val x1 x2 x3 x4 x5 Y (arg6.view.read (Elt F) f)) :
    Left i (k.val + 1) x1 x2 x3 x4 x5 Y (arg6.view.read (Elt F) (arg6.view.writes (Elt F) f
      [⟨tileRect i k 3, extractStridedSlice S256x128 ![0, 384] (chunk x1 x2 x3 x4 x5 k) slices_S256x512_o0_384_S256x128⟩,
       ⟨tileRect i k 2, extractStridedSlice S256x128 ![0, 256] (chunk x1 x2 x3 x4 x5 k) slices_S256x512_o0_256_S256x128⟩,
       ⟨tileRect i k 1, extractStridedSlice S256x128 ![0, 128] (chunk x1 x2 x3 x4 x5 k) slices_S256x512_o0_128_S256x128⟩,
       ⟨tileRect i k 0, extractStridedSlice S256x128 ![0, 0] (chunk x1 x2 x3 x4 x5 k) slices_S256x512_o0_0_S256x128⟩])) := by
  intro y
  have hi : (i 0).val < 7 := (i 0).isLt
  by_cases hy : (y 0).val / 7168 = k.val ∧ (y 0).val % 28 / 4 = (i 0).val
  · rw [if_pos ⟨by omega, hy.2⟩]
    refine View.read_writes_apply_of_pieces (Val := Elt F) (e := .f32) _ _ (tileVal x1 x2 x3 x4 x5) _ ?_ y ?_
    · simp only [List.forall_mem_cons, List.not_mem_nil, false_imp_iff, implies_true, _root_.and_true]
      exact ⟨fun x => tile_payload i k 3 x1 x2 x3 x4 x5 _ rfl _ x, fun x => tile_payload i k 2 x1 x2 x3 x4 x5 _ rfl _ x,
        fun x => tile_payload i k 1 x1 x2 x3 x4 x5 _ rfl _ x, fun x => tile_payload i k 0 x1 x2 x3 x4 x5 _ rfl _ x⟩
    · have h : ∀ r : Fin 4, (y 0).val % 4 = r.val → y ∈ (tileRect i k r).set := fun r hr =>
        (mem_tileRect i k r y).mpr ⟨hy.1, by omega⟩
      have h4 : (y 0).val % 4 < 4 := Nat.mod_lt _ (by decide)
      simp only [List.exists_mem_cons_iff]
      rcases (by omega : (y 0).val % 4 = 3 ∨ (y 0).val % 4 = 2 ∨ (y 0).val % 4 = 1 ∨ (y 0).val % 4 = 0) with e | e | e | e
      · exact .inl (h 3 e)
      · exact .inr (.inl (h 2 e))
      · exact .inr (.inr (.inl (h 1 e)))
      · exact .inr (.inr (.inr (.inl (h 0 e))))
  · rw [View.read_writes_apply_of_forall_not_mem]
    · rw [hf y]
      by_cases h' : (y 0).val / 7168 < k.val ∧ (y 0).val % 28 / 4 = (i 0).val
      · rw [if_pos h', if_pos ⟨by omega, h'.2⟩]
      · rw [if_neg h', if_neg (by omega)]
    · have h : ∀ r : Fin 4, y ∉ (tileRect i k r).set := fun r hr => hy (by
        have := (mem_tileRect i k r y).mp hr
        have := r.isLt
        omega)
      simp only [List.forall_mem_cons, List.not_mem_nil, false_imp_iff, implies_true, _root_.and_true]
      exact ⟨h 3, h 2, h 1, h 0⟩

/-- Before chunk `k`: the inputs' buffers as they are, the output's holding the chunks so far over `Y`. -/
def inv (c : Dev nD) (i : grid0.Coords) (arg1 : Memref sig .tc .vmem S1024x5120 .fp8e4m3) (harg1 : arg1.IsWhole) (arg2 : Memref sig .tc .vmem S1024x1 .f32) (harg2 : arg2.IsWhole) (arg3 : Memref sig .tc .vmem S5120x512 .fp8e4m3) (harg3 : arg3.IsWhole) (arg4 : Memref sig .tc .vmem S1x512 .f32) (harg4 : arg4.IsWhole) (arg5 : Memref sig .tc .vmem S1x512 .f32) (harg5 : arg5.IsWhole) (arg6 : Memref sig .tc .vmem S28672x128 .f32) (harg6 : arg6.IsWhole)
    (f1 : arg1.view.ty.Contents (Elt F)) (f2 : arg2.view.ty.Contents (Elt F)) (f3 : arg3.view.ty.Contents (Elt F)) (f4 : arg4.view.ty.Contents (Elt F)) (f5 : arg5.view.ty.Contents (Elt F)) (Y : S28672x128.Idx → F .f32) (k : ℕ) (_ : Unit) : sProp 𝕄 :=
  iprop((arg1.view.loc (c : Thread nD τ) ↦[arg1.view.set]{fullShare} f1) ∗ (arg2.view.loc (c : Thread nD τ) ↦[arg2.view.set]{fullShare} f2)
    ∗ (arg3.view.loc (c : Thread nD τ) ↦[arg3.view.set]{fullShare} f3) ∗ (arg4.view.loc (c : Thread nD τ) ↦[arg4.view.set]{fullShare} f4)
    ∗ (arg5.view.loc (c : Thread nD τ) ↦[arg5.view.set]{fullShare} f5)
    ∗ (∃ f, (arg6.view.loc (c : Thread nD τ) ↦[arg6.view.set]{fullShare} f) ∗ ⌜Left i k (arg1.view.read (Elt F) f1) (arg2.view.read (Elt F) f2) (arg3.view.read (Elt F) f3) (arg4.view.read (Elt F) f4) (arg5.view.read (Elt F) f5) Y (arg6.view.read (Elt F) f)⌝))

set_option maxHeartbeats 1000000 in
/-- One chunk: from the invariant before it to the invariant after it. -/
theorem trip (c : Dev nD) (i : grid0.Coords) (arg1 : Memref sig .tc .vmem S1024x5120 .fp8e4m3) (harg1 : arg1.IsWhole) (arg2 : Memref sig .tc .vmem S1024x1 .f32) (harg2 : arg2.IsWhole) (arg3 : Memref sig .tc .vmem S5120x512 .fp8e4m3) (harg3 : arg3.IsWhole) (arg4 : Memref sig .tc .vmem S1x512 .f32) (harg4 : arg4.IsWhole) (arg5 : Memref sig .tc .vmem S1x512 .f32) (harg5 : arg5.IsWhole) (arg6 : Memref sig .tc .vmem S28672x128 .f32) (harg6 : arg6.IsWhole) (arg0 : BitVec 32)
    (f1 : arg1.view.ty.Contents (Elt F)) (f2 : arg2.view.ty.Contents (Elt F)) (f3 : arg3.view.ty.Contents (Elt F)) (f4 : arg4.view.ty.Contents (Elt F)) (f5 : arg5.view.ty.Contents (Elt F)) (Y : S28672x128.Idx → F .f32)
    (k : Fin k0_t1_loop.trips) :
    inv c i arg1 harg1 arg2 harg2 arg3 harg3 arg4 harg4 arg5 harg5 arg6 harg6 f1 f2 f3 f4 f5 Y k.val ()
      ⊢ wp frame (wpE (defs₀ (F := F)) Variants.none c none) Set.univ (k0_t1_body i arg1 harg1 arg2 harg2 arg3 harg3 arg4 harg4 arg5 harg5 arg6 harg6 arg0 k ())
        (inv c i arg1 harg1 arg2 harg2 arg3 harg3 arg4 harg4 arg5 harg5 arg6 harg6 f1 f2 f3 f4 f5 Y (k.val + 1)) := by
  unfold k0_t1_body inv
  iintro ⟨H1, H2, H3, H4, H5, ⟨%f, H6, %hf⟩⟩
  sl_exec
  sl_step
  isplitl [H1]; · iexact H1
  isplitl [H2]; · iexact H2
  isplitl [H3]; · iexact H3
  isplitl [H4]; · iexact H4
  isplitl [H5]; · iexact H5
  iexists _; isplitl [H6]; · iexact H6
  ipureintro
  sl_unfold_words
  exact left_step i k _ _ _ _ _ _ arg6 f hf

end Cert.Merge2.Body
-- ==== Proof.Merge2.Run.lean ====
/- The second merge kernel's run: its launch under relational proof data, and the frame. -/
module

public import proofs.«01_k».proof.Proof.Merge2.Body
public import Idealize.ShloMosaic.Lib.Pipeline.ArrRel

@[expose] public section

set_option maxRecDepth 16384

noncomputable section

namespace Cert.Merge2.Body

open Cert.Merge2 Cert.Merge2.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body on whole buffers, the inputs' at `xW` and the output's at `Y`: the inputs' as they were, the output's with
    the point's four tiles of every row at the block's values. -/
theorem sound_kernel (c : Dev nD) (i : grid0.Coords) (arg1 : Memref sig .tc .vmem S1024x5120 .fp8e4m3) (harg1 : arg1.IsWhole) (arg2 : Memref sig .tc .vmem S1024x1 .f32) (harg2 : arg2.IsWhole) (arg3 : Memref sig .tc .vmem S5120x512 .fp8e4m3) (harg3 : arg3.IsWhole) (arg4 : Memref sig .tc .vmem S1x512 .f32) (harg4 : arg4.IsWhole) (arg5 : Memref sig .tc .vmem S1x512 .f32) (harg5 : arg5.IsWhole) (arg6 : Memref sig .tc .vmem S28672x128 .f32) (harg6 : arg6.IsWhole)
    (x1 : Vec F S1024x5120 .fp8e4m3) (x2 : Vec F S1024x1 .f32) (x3 : Vec F S5120x512 .fp8e4m3) (x4 x5 : Vec F S1x512 .f32) (Y : Vec F S28672x128 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare Y
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ X, ⌜Left i 4 x1 x2 x3 x4 x5 Y X⌝ ∗ owns (c : Thread nD τ) arg6 fullShare X)) -∗ K ⟨⟩))
      ⊢ wp frame (wpE (defs₀ (F := F)) Variants.none c none) Set.univ (cc0_merge2 i arg1 harg1 arg2 harg2 arg3 harg3 arg4 harg4 arg5 harg5 arg6 harg6) K := by
  simp only [cc0_merge2_eq_skeleton]; unfold cc0_merge2_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf1 hf2 hf3 hf4 hf5 hf6
  sl_exec
  sl_for (inv c i arg1 harg1 arg2 harg2 arg3 harg3 arg4 harg4 arg5 harg5 arg6 harg6 f1 f2 f3 f4 f5 (arg6.view.read (Elt F) f6)) $$ [H1 H2 H3 H4 H5 H6]
  · intro k acc
    exact trip c i arg1 harg1 arg2 harg2 arg3 harg3 arg4 harg4 arg5 harg5 arg6 harg6 _ f1 f2 f3 f4 f5 _ k
  · unfold inv
    isplitl [H1]; · iexact H1
    isplitl [H2]; · iexact H2
    isplitl [H3]; · iexact H3
    isplitl [H4]; · iexact H4
    isplitl [H5]; · iexact H5
    iexists f6
    isplitl [H6]; · iexact H6
    ipureintro
    exact fun y => (if_neg fun h => absurd h.1 (Nat.not_lt_zero _)).symm
  unfold inv
  iintro %acc ⟨H1, H2, H3, H4, H5, ⟨%f, H6, %hf⟩⟩
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  iexists arg6.view.read (Elt F) f
  isplitr
  · ipureintro
    have e := trips_eq
    exact e ▸ hf
  iexists f
  isplitr; · ipureintro; rfl
  iexact H6

/-! ## The launch -/

/-- What the run's data constrain: an input's buffer is left as found; the output's buffer holds, of what it held, all
    but the point's tiles, and those at the block's values. -/
def rdat (c : Dev nD) : RDat τ (Elt F) Unit ℕ (UR sig nD τ) ℕ cfg0 c where
  A w := V m c (Pipeline.arrRef spec0 w)
  after := fun w t => match w with
    | 0 => fun Y X => X = Y
    | 1 => fun Y X => X = Y
    | 2 => fun Y X => X = Y
    | 3 => fun Y X => X = Y
    | 4 => fun Y X => X = Y
    | 5 => fun Y X => Left (cfg0.grid.coords t) 4 (iblk m c 0 t) (iblk m c 1 t) (iblk m c 2 t) (iblk m c 3 t) (iblk m c 4 t) Y X
  Φ _ := Pipeline.ΦA spec0 c
  q _ := fullShare
  owed _ := 0

/-- Every input's buffer is found at its block. -/
theorem finds_0 (c : Dev nD) (t : Fin cfg0.N) (Y) (h : (rdat m c).Finds 0 t Y) : Y = iblk m c 0 t := by
  obtain ⟨d, rfl⟩ := (rdat m c).finds_in_eq_fetched 0 rfl (fun _ _ _ => rfl) (fun _ _ _ h => h) t Y h
  rfl
theorem finds_1 (c : Dev nD) (t : Fin cfg0.N) (Y) (h : (rdat m c).Finds 1 t Y) : Y = iblk m c 1 t := by
  obtain ⟨d, rfl⟩ := (rdat m c).finds_in_eq_fetched 1 rfl (fun _ _ _ => rfl) (fun _ _ _ h => h) t Y h
  rfl
theorem finds_2 (c : Dev nD) (t : Fin cfg0.N) (Y) (h : (rdat m c).Finds 2 t Y) : Y = iblk m c 2 t := by
  obtain ⟨d, rfl⟩ := (rdat m c).finds_in_eq_fetched 2 rfl (fun _ _ _ => rfl) (fun _ _ _ h => h) t Y h
  rfl
theorem finds_3 (c : Dev nD) (t : Fin cfg0.N) (Y) (h : (rdat m c).Finds 3 t Y) : Y = iblk m c 3 t := by
  obtain ⟨d, rfl⟩ := (rdat m c).finds_in_eq_fetched 3 rfl (fun _ _ _ => rfl) (fun _ _ _ h => h) t Y h
  rfl
theorem finds_4 (c : Dev nD) (t : Fin cfg0.N) (Y) (h : (rdat m c).Finds 4 t Y) : Y = iblk m c 4 t := by
  obtain ⟨d, rfl⟩ := (rdat m c).finds_in_eq_fetched 4 rfl (fun _ _ _ => rfl) (fun _ _ _ h => h) t Y h
  rfl

theorem defs₀_row (t : Fin cfg0.N) : defs₀ (F := F) .tc cfg0.body (cfg0.bodyArgs t (cfg0.slots t)) = bodyAt0 t := by
  unfold defs₀; rw [Defs.onTc_tc]

/-- At every point, from buffers the run may be found with, the body runs and leaves what `rdat` says. -/
theorem body_obligation (c : Dev nD) : (rdat m c).BodyObligation (defs₀ (F := F)) Variants.none () Set.univ := fun t Y hY => by
  have h0 := finds_0 m c t _ (hY 0)
  have h1 := finds_1 m c t _ (hY 1)
  have h2 := finds_2 m c t _ (hY 2)
  have h3 := finds_3 m c t _ (hY 3)
  have h4 := finds_4 m c t _ (hY 4)
  rw [bigSep_W0, bigSep_W0, defs₀_row, h0, h1, h2, h3, h4]
  unfold bodyAt0
  rw [show (rdat m c).Φ t.succ = (rdat m c).Φ t.castSucc from rfl,
    show (rdat m c).owesAt () t.succ = (rdat m c).owesAt () t.castSucc from rfl]
  iintro ⟨HΦ, Ho, H0, H1, H2, H3, H4, H5⟩
  iapply (sound_kernel c (cfg0.grid.coords t) _ _ _ _ _ _ _ _ _ _ _ _ (iblk m c 0 t) (iblk m c 1 t) (iblk m c 2 t) (iblk m c 3 t) (iblk m c 4 t) (Y 5) _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, ⟨%X, %hX, H5⟩⟩
  isplitl [HΦ]; · iexact HΦ
  isplitl [Ho]; · iexact Ho
  isplitl [H0]; · iexists iblk m c 0 t; isplitr; · ipureintro; rfl
                  iexact H0
  isplitl [H1]; · iexists iblk m c 1 t; isplitr; · ipureintro; rfl
                  iexact H1
  isplitl [H2]; · iexists iblk m c 2 t; isplitr; · ipureintro; rfl
                  iexact H2
  isplitl [H3]; · iexists iblk m c 3 t; isplitr; · ipureintro; rfl
                  iexact H3
  isplitl [H4]; · iexists iblk m c 4 t; isplitr; · ipureintro; rfl
                  iexact H4
  iexists X
  isplitr; · ipureintro; exact hX
  iexact H5

set_option backward.isDefEq.respectTransparency.types false in
set_option maxHeartbeats 800000 in
/-- The run: every array at something the data allow, every other buffer as the region found it, every counter zero. -/
theorem run_main_quiescent : θ_run defs (onTc (τ := τ) (main (F := F))) (s₀ m ρ)
    (fun r => RDat.FramePost cfg0 (rdat m) (V m) r ∧ r.2.sem = fun _ => 0) :=
  Pipeline.RDat.θ_run_frame (Q' := _) cfgs (0 : Fin 1) launch0 defs₀ Variants.none (rdat m) m ρ main
    (hbody := body_obligation m) (hshare := fun c => (rdat m c).share_full fun _ => rfl)
    (howed := fun _ _ => rfl) (V := V m) (hmain := hmain m Variants.none) (hA := fun _ _ => rfl) (hΦ := fun _ _ => rfl)

/-- The argument arrays end unchanged. -/
theorem unchanged_of (r : PUnit × MemSt nD τ sig (Elt F)) (h : RDat.FramePost cfg0 (rdat m) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(h.arr_in c 0 rfl).trans (V_main_arg0 m c),
    ((h c).2 main_arg1 (Pipeline.mem_restRefs_of main_arg1 (by decide) (by decide))).trans (V_main_arg1 m c),
    (h.arr_in c 2 rfl).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩

/-- The frame: the kernel runs, its arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨unchanged_of m r h.1, h.2⟩) (run_main_quiescent m ρ)

/-! ## What the output array holds -/

/-- The value grid point `t`'s blocks give the output's element `y`. -/
def ptVal (c : Dev nD) (t : Fin cfg0.N) (y : S28672x128.Idx) : F .f32 :=
  tileVal (iblk m c 0 t) (iblk m c 1 t) (iblk m c 2 t) (iblk m c 3 t) (iblk m c 4 t) y

/-- The grid point of the output's element `y`: its tile's group of four. -/
def pt (y : S28672x128.Idx) : Fin cfg0.N := ⟨(y 0).val % 28 / 4, by rw [show cfg0.N = 7 from N_0]; omega⟩

theorem coords_val : ∀ t : Fin cfg0.N, ((cfg0.grid.coords t) 0).val = t.val := by decide

theorem leaves_5 (c : Dev nD) (t : Fin cfg0.N) (X : S28672x128.Idx → F .f32) (h : (rdat m c).Leaves 5 t X) :
    ∃ Y : S28672x128.Idx → F .f32, (rdat m c).Finds 5 t Y ∧ ∀ y, X y = if pt y = t then ptVal m c t y else Y y := by
  obtain ⟨Y, hF, hX⟩ := h
  refine ⟨Y, hF, fun y => ?_⟩
  dsimp only [rdat] at hX
  refine (hX y).trans ?_
  have hy : (y 0).val < 28672 := (y 0).isLt
  have hiff : ((y 0).val / 7168 < 4 ∧ (y 0).val % 28 / 4 = ((cfg0.grid.coords t) 0).val) ↔ pt y = t := by
    rw [coords_val, Fin.ext_iff]
    exact ⟨fun h => h.2, fun h => ⟨by omega, h⟩⟩
  exact if_congr hiff rfl rfl

theorem no_fetch_5 : ∀ t : Fin cfg0.N, (cfg0.win 5).fetch t = false := by decide
theorem no_flush_5 : ∀ t : Fin cfg0.N, t.val < 6 → (cfg0.win 5).flush t = false := by decide

/-- After point `n` every element of a tile up to `n`'s has its value. -/
theorem leaves_upto (c : Dev nD) : ∀ (n : ℕ) (hn : n < cfg0.N) (X : S28672x128.Idx → F .f32), (rdat m c).Leaves 5 ⟨n, hn⟩ X →
    ∀ y : S28672x128.Idx, (pt y).val ≤ n → X y = ptVal m c (pt y) y := by
  intro n
  induction n with
  | zero =>
    intro hn X h y hy
    obtain ⟨Y, hF, hX⟩ := leaves_5 m c _ X h
    have e : pt y = ⟨0, hn⟩ := Fin.ext (Nat.le_zero.mp hy)
    rw [hX y, if_pos e, e]
  | succ n ih =>
    intro hn X h y hy
    obtain ⟨Y, hF, hX⟩ := leaves_5 m c _ X h
    rw [hX y]
    by_cases e : pt y = ⟨n + 1, hn⟩
    · rw [if_pos e, e]
    · rw [if_neg e]
      have h7 : cfg0.N = 7 := N_0
      rcases ((rdat m c).finds_of_pos (no_fetch_5 ⟨n + 1, hn⟩) (Nat.succ_ne_zero n) Y).mp hF with h' | h'
      · exact absurd (h'.symm.trans (no_flush_5 _ (show n < 6 by omega))) (by decide)
      · exact ih (by omega) Y h' y (by have : (pt y).val ≠ n + 1 := fun h => e (Fin.ext h)
                                       omega)

theorem whole_5 : (cfg0.win 5).WholeAt t0_6 := by decide

/-- The result array after the run. -/
theorem result_eq (r : PUnit × MemSt nD τ sig (Elt F)) (h : RDat.FramePost cfg0 (rdat m) (V m) r) (c : Dev nD) (y : S28672x128.Idx) :
    r.2.mem ((c.tc : Thread nD τ).loc main_v3) y = ptVal m c (pt y) y := by
  obtain ⟨X, hX, e⟩ := Pipeline.RDat.ArrAt.emb_eq_of_wholeAt (w := 5) ((h c).1 5) whole_5
  have h6 := leaves_upto m c 6 (by rw [show cfg0.N = 7 from N_0]; decide) X hX y (by have := (pt y).isLt; have h7 : cfg0.N = 7 := N_0; omega)
  rw [← h6]
  exact e y

end Cert.Merge2.Body
-- ==== Proof.Merge2Ideal.Body.lean ====
/- The second merge kernel's body on one column block: what one grid point makes of the output's buffer. -/
module

public import proofs.«01_k».proof.Proof.Gen.Merge2Ideal.Skeleton
public import proofs.«01_k».proof.Proof.Gen.Merge2Ideal.Loops
public import proofs.«01_k».proof.Proof.Gen.Merge2Ideal.Frame
public import Idealize.ShloMosaic.Lib.Pipeline.ValueKit
public import Idealize.ShloMosaic.Lib.Pointwise.Index

@[expose] public section

set_option maxRecDepth 16384

noncomputable section

namespace Cert.Merge2Ideal.Body

open Cert.Merge2Ideal Cert.Merge2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The row chunks: four of 256 rows. -/
theorem trips_eq : k0_t1_loop.trips = 4 := by decide

/-- One chunk's block: 256 rows of codes times the point's 512 weight columns, scaled and shifted. -/
def chunk (x1 : Vec F S1024x5120 .fp8e4m3) (x2 : Vec F S1024x1 .f32) (x3 : Vec F S5120x512 .fp8e4m3)
    (x4 x5 : Vec F S1x512 .f32) (k : Fin k0_t1_loop.trips) : FVec F S256x512 .f32 :=
  k0_pay3 (View.ld x1 (Rect.unit (s := S1024x5120) (k0_off1 k) S256x5120.size (k0_off1_inb k)))
    (View.ld x3 (Rect.unit (s := S5120x512) ![0, 0] S5120x512.size inb_S5120x512_S5120x512_0_0))
    (View.ld x2 (Rect.unit (s := S1024x1) (k0_off2 k) S256x1.size (k0_off2_inb k)))
    (View.ld x4 (Rect.unit (s := S1x512) ![0, 0] S1x512.size inb_S1x512_S1x512_0_0))
    (View.ld x5 (Rect.unit (s := S1x512) ![0, 0] S1x512.size inb_S1x512_S1x512_0_0))

/-- What the point's block says of the output's element `y` = (28 · row + tile, lane): the chunk of the row, at
    the row within the chunk and the column within the point's 512. -/
def tileVal (x1 : Vec F S1024x5120 .fp8e4m3) (x2 : Vec F S1024x1 .f32) (x3 : Vec F S5120x512 .fp8e4m3)
    (x4 x5 : Vec F S1x512 .f32) (y : S28672x128.Idx) : F .f32 :=
  chunk x1 x2 x3 x4 x5
    ⟨(y 0).val / 7168, by rw [trips_eq]; have : (y 0).val < 28672 := (y 0).isLt; omega⟩
    (ix2 ⟨(y 0).val / 28 % 256, Nat.mod_lt _ (by decide)⟩
      ⟨(y 0).val % 4 * 128 + (y 1).val, by have : (y 1).val < 128 := (y 1).isLt; omega⟩)

/-- The output's buffer after the chunks before `k` at grid point `i`: the point's four tiles of those chunks' rows at
    the block's values, every other element as it was. -/
def Left (i : grid0.Coords) (k : ℕ) (x1 : Vec F S1024x5120 .fp8e4m3) (x2 : Vec F S1024x1 .f32) (x3 : Vec F S5120x512 .fp8e4m3)
    (x4 x5 : Vec F S1x512 .f32) (Y X : S28672x128.Idx → F .f32) : Prop :=
  ∀ y : S28672x128.Idx, X y = if (y 0).val / 7168 < k ∧ (y 0).val % 28 / 4 = (i 0).val then tileVal x1 x2 x3 x4 x5 y else Y y

theorem off3_eq (i : grid0.Coords) (k : Fin k0_t1_loop.trips) (r : Fin 4) :
    k0_off3 i k (BitVec.ofNat 32 r.val) = ![7168 * k.val + 4 * (i 0).val + r.val, 0] := by
  unfold k0_off3
  generalize i 0 = a
  revert a k r
  decide +kernel

/-- The rectangle of tile `r` of chunk `k`'s rows: every 28th row of the output from the tile's own. -/
abbrev tileRect (i : grid0.Coords) (k : Fin k0_t1_loop.trips) (r : Fin 4) : Rect S28672x128 :=
  ⟨⟨k0_off3 i k (BitVec.ofNat 32 r.val), S256x128.size, ![28, 1], k0_off3_inb i k r⟩, spos_28_1⟩

/-- Where tile `r` places its element `x`. -/
theorem tileRect_emb (i : grid0.Coords) (k : Fin k0_t1_loop.trips) (r : Fin 4) (x : S256x128.Idx) :
    ((tileRect i k r).emb x 0).val = 7168 * k.val + 4 * (i 0).val + r.val + 28 * (x 0).val
      ∧ ((tileRect i k r).emb x 1).val = (x 1).val := by
  constructor
  · show k0_off3 i k (BitVec.ofNat 32 r.val) 0 + 28 * (x 0).val = _
    rw [off3_eq]; rfl
  · show k0_off3 i k (BitVec.ofNat 32 r.val) 1 + 1 * (x 1).val = _
    rw [off3_eq]; show 0 + 1 * (x 1).val = _; omega

/-- An element is in tile `r` of chunk `k` exactly when its row is one of the chunk's and its tile is `4 i + r`. -/
theorem mem_tileRect (i : grid0.Coords) (k : Fin k0_t1_loop.trips) (r : Fin 4) (y : S28672x128.Idx) :
    y ∈ (tileRect i k r).set ↔ (y 0).val / 7168 = k.val ∧ (y 0).val % 28 = 4 * (i 0).val + r.val := by
  have hi : (i 0).val < 7 := (i 0).isLt
  have hr := r.isLt
  have hy0 : (y 0).val < 28672 := (y 0).isLt
  have hy1 : (y 1).val < 128 := (y 1).isLt
  constructor
  · intro h
    obtain ⟨x, rfl⟩ := (tileRect i k r).exists_idx_of_mem h
    have hx : (x 0).val < 256 := (x 0).isLt
    have e0 : ((tileRect i k r).idx x 0).val = 7168 * k.val + 4 * (i 0).val + r.val + 28 * (x 0).val := (tileRect_emb i k r x).1
    rw [e0]
    omega
  · rintro ⟨h1, h2⟩
    let x : S256x128.Idx := ix2 ⟨(y 0).val / 28 % 256, Nat.mod_lt _ (by decide)⟩ ⟨(y 1).val, hy1⟩
    obtain ⟨e0, e1⟩ := tileRect_emb i k r x
    have : y = (tileRect i k r).emb x := by
      funext a; apply Fin.ext
      match a with
      | ⟨0, _⟩ =>
        refine Eq.trans ?_ e0.symm
        show (y 0).val = 7168 * k.val + 4 * (i 0).val + r.val + 28 * ((y 0).val / 28 % 256)
        omega
      | ⟨1, _⟩ => exact Eq.trans (show (y 1).val = (x 1).val from rfl) e1.symm
    rw [this, ← Rect.map_emb_univ]
    exact Finset.mem_map_of_mem _ (Finset.mem_univ _)

/-- The payload of tile `r`, columns `128 r …` of the chunk's block, is the block's value at the tile's elements. -/
theorem tile_payload (i : grid0.Coords) (k : Fin k0_t1_loop.trips) (r : Fin 4) (x1 : Vec F S1024x5120 .fp8e4m3) (x2 : Vec F S1024x1 .f32)
    (x3 : Vec F S5120x512 .fp8e4m3) (x4 x5 : Vec F S1x512 .f32) (off : Fin 2 → ℕ) (hoff : off = ![0, 128 * r.val])
    (hs : S256x512.Slices off S256x128) (x : S256x128.Idx) :
    extractStridedSlice S256x128 off (chunk x1 x2 x3 x4 x5 k) hs x = tileVal x1 x2 x3 x4 x5 ((tileRect i k r).emb x) := by
  subst hoff
  have hi : (i 0).val < 7 := (i 0).isLt
  have hr := r.isLt
  have hk : k.val < 4 := trips_eq ▸ k.isLt
  have hx0 : (x 0).val < 256 := (x 0).isLt
  have hx1 : (x 1).val < 128 := (x 1).isLt
  obtain ⟨e0, e1⟩ := tileRect_emb i k r x
  unfold tileVal
  have hk' : (⟨((tileRect i k r).emb x 0).val / 7168, by rw [e0]; exact lt_of_lt_of_eq (show _ < 4 by omega) trips_eq.symm⟩ : Fin k0_t1_loop.trips) = k := Fin.ext (by
    show ((tileRect i k r).emb x 0).val / 7168 = k.val
    rw [e0]; omega)
  rw [hk']
  refine extractStridedSlice_apply _ _ _ _ _ fun a => ?_
  match a with
  | ⟨0, _⟩ => show ((tileRect i k r).emb x 0).val / 28 % 256 = 0 + (x 0).val; rw [e0]; omega
  | ⟨1, _⟩ => show ((tileRect i k r).emb x 0).val % 4 * 128 + ((tileRect i k r).emb x 1).val = 128 * r.val + (x 1).val; rw [e0, e1]; omega

/-- The four tiles a chunk stores, over contents that hold the chunks before it, hold the chunk as well. -/
theorem left_step (i : grid0.Coords) (k : Fin k0_t1_loop.trips) (x1 : Vec F S1024x5120 .fp8e4m3) (x2 : Vec F S1024x1 .f32)
    (x3 : Vec F S5120x512 .fp8e4m3) (x4 x5 : Vec F S1x512 .f32) (Y : S28672x128.Idx → F .f32)
    (arg6 : Memref sig .tc .vmem S28672x128 .f32) (f : arg6.view.ty.Contents (Elt F))
    (hf : Left i k.val x1 x2 x3 x4 x5 Y (arg6.view.read (Elt F) f)) :
    Left i (k.val + 1) x1 x2 x3 x4 x5 Y (arg6.view.read (Elt F) (arg6.view.writes (Elt F) f
      [⟨tileRect i k 3, extractStridedSlice S256x128 ![0, 384] (chunk x1 x2 x3 x4 x5 k) slices_S256x512_o0_384_S256x128⟩,
       ⟨tileRect i k 2, extractStridedSlice S256x128 ![0, 256] (chunk x1 x2 x3 x4 x5 k) slices_S256x512_o0_256_S256x128⟩,
       ⟨tileRect i k 1, extractStridedSlice S256x128 ![0, 128] (chunk x1 x2 x3 x4 x5 k) slices_S256x512_o0_128_S256x128⟩,
       ⟨tileRect i k 0, extractStridedSlice S256x128 ![0, 0] (chunk x1 x2 x3 x4 x5 k) slices_S256x512_o0_0_S256x128⟩])) := by
  intro y
  have hi : (i 0).val < 7 := (i 0).isLt
  by_cases hy : (y 0).val / 7168 = k.val ∧ (y 0).val % 28 / 4 = (i 0).val
  · rw [if_pos ⟨by omega, hy.2⟩]
    refine View.read_writes_apply_of_pieces (Val := Elt F) (e := .f32) _ _ (tileVal x1 x2 x3 x4 x5) _ ?_ y ?_
    · simp only [List.forall_mem_cons, List.not_mem_nil, false_imp_iff, implies_true, _root_.and_true]
      exact ⟨fun x => tile_payload i k 3 x1 x2 x3 x4 x5 _ rfl _ x, fun x => tile_payload i k 2 x1 x2 x3 x4 x5 _ rfl _ x,
        fun x => tile_payload i k 1 x1 x2 x3 x4 x5 _ rfl _ x, fun x => tile_payload i k 0 x1 x2 x3 x4 x5 _ rfl _ x⟩
    · have h : ∀ r : Fin 4, (y 0).val % 4 = r.val → y ∈ (tileRect i k r).set := fun r hr =>
        (mem_tileRect i k r y).mpr ⟨hy.1, by omega⟩
      have h4 : (y 0).val % 4 < 4 := Nat.mod_lt _ (by decide)
      simp only [List.exists_mem_cons_iff]
      rcases (by omega : (y 0).val % 4 = 3 ∨ (y 0).val % 4 = 2 ∨ (y 0).val % 4 = 1 ∨ (y 0).val % 4 = 0) with e | e | e | e
      · exact .inl (h 3 e)
      · exact .inr (.inl (h 2 e))
      · exact .inr (.inr (.inl (h 1 e)))
      · exact .inr (.inr (.inr (.inl (h 0 e))))
  · rw [View.read_writes_apply_of_forall_not_mem]
    · rw [hf y]
      by_cases h' : (y 0).val / 7168 < k.val ∧ (y 0).val % 28 / 4 = (i 0).val
      · rw [if_pos h', if_pos ⟨by omega, h'.2⟩]
      · rw [if_neg h', if_neg (by omega)]
    · have h : ∀ r : Fin 4, y ∉ (tileRect i k r).set := fun r hr => hy (by
        have := (mem_tileRect i k r y).mp hr
        have := r.isLt
        omega)
      simp only [List.forall_mem_cons, List.not_mem_nil, false_imp_iff, implies_true, _root_.and_true]
      exact ⟨h 3, h 2, h 1, h 0⟩

/-- Before chunk `k`: the inputs' buffers as they are, the output's holding the chunks so far over `Y`. -/
def inv (c : Dev nD) (i : grid0.Coords) (arg1 : Memref sig .tc .vmem S1024x5120 .fp8e4m3) (harg1 : arg1.IsWhole) (arg2 : Memref sig .tc .vmem S1024x1 .f32) (harg2 : arg2.IsWhole) (arg3 : Memref sig .tc .vmem S5120x512 .fp8e4m3) (harg3 : arg3.IsWhole) (arg4 : Memref sig .tc .vmem S1x512 .f32) (harg4 : arg4.IsWhole) (arg5 : Memref sig .tc .vmem S1x512 .f32) (harg5 : arg5.IsWhole) (arg6 : Memref sig .tc .vmem S28672x128 .f32) (harg6 : arg6.IsWhole)
    (f1 : arg1.view.ty.Contents (Elt F)) (f2 : arg2.view.ty.Contents (Elt F)) (f3 : arg3.view.ty.Contents (Elt F)) (f4 : arg4.view.ty.Contents (Elt F)) (f5 : arg5.view.ty.Contents (Elt F)) (Y : S28672x128.Idx → F .f32) (k : ℕ) (_ : Unit) : sProp 𝕄 :=
  iprop((arg1.view.loc (c : Thread nD τ) ↦[arg1.view.set]{fullShare} f1) ∗ (arg2.view.loc (c : Thread nD τ) ↦[arg2.view.set]{fullShare} f2)
    ∗ (arg3.view.loc (c : Thread nD τ) ↦[arg3.view.set]{fullShare} f3) ∗ (arg4.view.loc (c : Thread nD τ) ↦[arg4.view.set]{fullShare} f4)
    ∗ (arg5.view.loc (c : Thread nD τ) ↦[arg5.view.set]{fullShare} f5)
    ∗ (∃ f, (arg6.view.loc (c : Thread nD τ) ↦[arg6.view.set]{fullShare} f) ∗ ⌜Left i k (arg1.view.read (Elt F) f1) (arg2.view.read (Elt F) f2) (arg3.view.read (Elt F) f3) (arg4.view.read (Elt F) f4) (arg5.view.read (Elt F) f5) Y (arg6.view.read (Elt F) f)⌝))

set_option maxHeartbeats 1000000 in
/-- One chunk: from the invariant before it to the invariant after it. -/
theorem trip (c : Dev nD) (i : grid0.Coords) (arg1 : Memref sig .tc .vmem S1024x5120 .fp8e4m3) (harg1 : arg1.IsWhole) (arg2 : Memref sig .tc .vmem S1024x1 .f32) (harg2 : arg2.IsWhole) (arg3 : Memref sig .tc .vmem S5120x512 .fp8e4m3) (harg3 : arg3.IsWhole) (arg4 : Memref sig .tc .vmem S1x512 .f32) (harg4 : arg4.IsWhole) (arg5 : Memref sig .tc .vmem S1x512 .f32) (harg5 : arg5.IsWhole) (arg6 : Memref sig .tc .vmem S28672x128 .f32) (harg6 : arg6.IsWhole) (arg0 : BitVec 32)
    (f1 : arg1.view.ty.Contents (Elt F)) (f2 : arg2.view.ty.Contents (Elt F)) (f3 : arg3.view.ty.Contents (Elt F)) (f4 : arg4.view.ty.Contents (Elt F)) (f5 : arg5.view.ty.Contents (Elt F)) (Y : S28672x128.Idx → F .f32)
    (k : Fin k0_t1_loop.trips) :
    inv c i arg1 harg1 arg2 harg2 arg3 harg3 arg4 harg4 arg5 harg5 arg6 harg6 f1 f2 f3 f4 f5 Y k.val ()
      ⊢ wp frame (wpE (defs₀ (F := F)) Variants.none c none) Set.univ (k0_t1_body i arg1 harg1 arg2 harg2 arg3 harg3 arg4 harg4 arg5 harg5 arg6 harg6 arg0 k ())
        (inv c i arg1 harg1 arg2 harg2 arg3 harg3 arg4 harg4 arg5 harg5 arg6 harg6 f1 f2 f3 f4 f5 Y (k.val + 1)) := by
  unfold k0_t1_body inv
  iintro ⟨H1, H2, H3, H4, H5, ⟨%f, H6, %hf⟩⟩
  sl_exec
  sl_step
  isplitl [H1]; · iexact H1
  isplitl [H2]; · iexact H2
  isplitl [H3]; · iexact H3
  isplitl [H4]; · iexact H4
  isplitl [H5]; · iexact H5
  iexists _; isplitl [H6]; · iexact H6
  ipureintro
  sl_unfold_words
  exact left_step i k _ _ _ _ _ _ arg6 f hf

end Cert.Merge2Ideal.Body
-- ==== Proof.Merge2Ideal.Run.lean ====
/- The second merge kernel's run: its launch under relational proof data, and the frame. -/
module

public import proofs.«01_k».proof.Proof.Merge2Ideal.Body
public import Idealize.ShloMosaic.Lib.Pipeline.ArrRel

@[expose] public section

set_option maxRecDepth 16384

noncomputable section

namespace Cert.Merge2Ideal.Body

open Cert.Merge2Ideal Cert.Merge2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body on whole buffers, the inputs' at `xW` and the output's at `Y`: the inputs' as they were, the output's with
    the point's four tiles of every row at the block's values. -/
theorem sound_kernel (c : Dev nD) (i : grid0.Coords) (arg1 : Memref sig .tc .vmem S1024x5120 .fp8e4m3) (harg1 : arg1.IsWhole) (arg2 : Memref sig .tc .vmem S1024x1 .f32) (harg2 : arg2.IsWhole) (arg3 : Memref sig .tc .vmem S5120x512 .fp8e4m3) (harg3 : arg3.IsWhole) (arg4 : Memref sig .tc .vmem S1x512 .f32) (harg4 : arg4.IsWhole) (arg5 : Memref sig .tc .vmem S1x512 .f32) (harg5 : arg5.IsWhole) (arg6 : Memref sig .tc .vmem S28672x128 .f32) (harg6 : arg6.IsWhole)
    (x1 : Vec F S1024x5120 .fp8e4m3) (x2 : Vec F S1024x1 .f32) (x3 : Vec F S5120x512 .fp8e4m3) (x4 x5 : Vec F S1x512 .f32) (Y : Vec F S28672x128 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare Y
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ X, ⌜Left i 4 x1 x2 x3 x4 x5 Y X⌝ ∗ owns (c : Thread nD τ) arg6 fullShare X)) -∗ K ⟨⟩))
      ⊢ wp frame (wpE (defs₀ (F := F)) Variants.none c none) Set.univ (cc0_merge2 i arg1 harg1 arg2 harg2 arg3 harg3 arg4 harg4 arg5 harg5 arg6 harg6) K := by
  simp only [cc0_merge2_eq_skeleton]; unfold cc0_merge2_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf1 hf2 hf3 hf4 hf5 hf6
  sl_exec
  sl_for (inv c i arg1 harg1 arg2 harg2 arg3 harg3 arg4 harg4 arg5 harg5 arg6 harg6 f1 f2 f3 f4 f5 (arg6.view.read (Elt F) f6)) $$ [H1 H2 H3 H4 H5 H6]
  · intro k acc
    exact trip c i arg1 harg1 arg2 harg2 arg3 harg3 arg4 harg4 arg5 harg5 arg6 harg6 _ f1 f2 f3 f4 f5 _ k
  · unfold inv
    isplitl [H1]; · iexact H1
    isplitl [H2]; · iexact H2
    isplitl [H3]; · iexact H3
    isplitl [H4]; · iexact H4
    isplitl [H5]; · iexact H5
    iexists f6
    isplitl [H6]; · iexact H6
    ipureintro
    exact fun y => (if_neg fun h => absurd h.1 (Nat.not_lt_zero _)).symm
  unfold inv
  iintro %acc ⟨H1, H2, H3, H4, H5, ⟨%f, H6, %hf⟩⟩
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  iexists arg6.view.read (Elt F) f
  isplitr
  · ipureintro
    have e := trips_eq
    exact e ▸ hf
  iexists f
  isplitr; · ipureintro; rfl
  iexact H6

/-! ## The launch -/

/-- What the run's data constrain: an input's buffer is left as found; the output's buffer holds, of what it held, all
    but the point's tiles, and those at the block's values. -/
def rdat (c : Dev nD) : RDat τ (Elt F) Unit ℕ (UR sig nD τ) ℕ cfg0 c where
  A w := V m c (Pipeline.arrRef spec0 w)
  after := fun w t => match w with
    | 0 => fun Y X => X = Y
    | 1 => fun Y X => X = Y
    | 2 => fun Y X => X = Y
    | 3 => fun Y X => X = Y
    | 4 => fun Y X => X = Y
    | 5 => fun Y X => Left (cfg0.grid.coords t) 4 (iblk m c 0 t) (iblk m c 1 t) (iblk m c 2 t) (iblk m c 3 t) (iblk m c 4 t) Y X
  Φ _ := Pipeline.ΦA spec0 c
  q _ := fullShare
  owed _ := 0

/-- Every input's buffer is found at its block. -/
theorem finds_0 (c : Dev nD) (t : Fin cfg0.N) (Y) (h : (rdat m c).Finds 0 t Y) : Y = iblk m c 0 t := by
  obtain ⟨d, rfl⟩ := (rdat m c).finds_in_eq_fetched 0 rfl (fun _ _ _ => rfl) (fun _ _ _ h => h) t Y h
  rfl
theorem finds_1 (c : Dev nD) (t : Fin cfg0.N) (Y) (h : (rdat m c).Finds 1 t Y) : Y = iblk m c 1 t := by
  obtain ⟨d, rfl⟩ := (rdat m c).finds_in_eq_fetched 1 rfl (fun _ _ _ => rfl) (fun _ _ _ h => h) t Y h
  rfl
theorem finds_2 (c : Dev nD) (t : Fin cfg0.N) (Y) (h : (rdat m c).Finds 2 t Y) : Y = iblk m c 2 t := by
  obtain ⟨d, rfl⟩ := (rdat m c).finds_in_eq_fetched 2 rfl (fun _ _ _ => rfl) (fun _ _ _ h => h) t Y h
  rfl
theorem finds_3 (c : Dev nD) (t : Fin cfg0.N) (Y) (h : (rdat m c).Finds 3 t Y) : Y = iblk m c 3 t := by
  obtain ⟨d, rfl⟩ := (rdat m c).finds_in_eq_fetched 3 rfl (fun _ _ _ => rfl) (fun _ _ _ h => h) t Y h
  rfl
theorem finds_4 (c : Dev nD) (t : Fin cfg0.N) (Y) (h : (rdat m c).Finds 4 t Y) : Y = iblk m c 4 t := by
  obtain ⟨d, rfl⟩ := (rdat m c).finds_in_eq_fetched 4 rfl (fun _ _ _ => rfl) (fun _ _ _ h => h) t Y h
  rfl

theorem defs₀_row (t : Fin cfg0.N) : defs₀ (F := F) .tc cfg0.body (cfg0.bodyArgs t (cfg0.slots t)) = bodyAt0 t := by
  unfold defs₀; rw [Defs.onTc_tc]

/-- At every point, from buffers the run may be found with, the body runs and leaves what `rdat` says. -/
theorem body_obligation (c : Dev nD) : (rdat m c).BodyObligation (defs₀ (F := F)) Variants.none () Set.univ := fun t Y hY => by
  have h0 := finds_0 m c t _ (hY 0)
  have h1 := finds_1 m c t _ (hY 1)
  have h2 := finds_2 m c t _ (hY 2)
  have h3 := finds_3 m c t _ (hY 3)
  have h4 := finds_4 m c t _ (hY 4)
  rw [bigSep_W0, bigSep_W0, defs₀_row, h0, h1, h2, h3, h4]
  unfold bodyAt0
  rw [show (rdat m c).Φ t.succ = (rdat m c).Φ t.castSucc from rfl,
    show (rdat m c).owesAt () t.succ = (rdat m c).owesAt () t.castSucc from rfl]
  iintro ⟨HΦ, Ho, H0, H1, H2, H3, H4, H5⟩
  iapply (sound_kernel c (cfg0.grid.coords t) _ _ _ _ _ _ _ _ _ _ _ _ (iblk m c 0 t) (iblk m c 1 t) (iblk m c 2 t) (iblk m c 3 t) (iblk m c 4 t) (Y 5) _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, ⟨%X, %hX, H5⟩⟩
  isplitl [HΦ]; · iexact HΦ
  isplitl [Ho]; · iexact Ho
  isplitl [H0]; · iexists iblk m c 0 t; isplitr; · ipureintro; rfl
                  iexact H0
  isplitl [H1]; · iexists iblk m c 1 t; isplitr; · ipureintro; rfl
                  iexact H1
  isplitl [H2]; · iexists iblk m c 2 t; isplitr; · ipureintro; rfl
                  iexact H2
  isplitl [H3]; · iexists iblk m c 3 t; isplitr; · ipureintro; rfl
                  iexact H3
  isplitl [H4]; · iexists iblk m c 4 t; isplitr; · ipureintro; rfl
                  iexact H4
  iexists X
  isplitr; · ipureintro; exact hX
  iexact H5

set_option backward.isDefEq.respectTransparency.types false in
set_option maxHeartbeats 800000 in
/-- The run: every array at something the data allow, every other buffer as the region found it, every counter zero. -/
theorem run_main_quiescent : θ_run defs (onTc (τ := τ) (main (F := F))) (s₀ m ρ)
    (fun r => RDat.FramePost cfg0 (rdat m) (V m) r ∧ r.2.sem = fun _ => 0) :=
  Pipeline.RDat.θ_run_frame (Q' := _) cfgs (0 : Fin 1) launch0 defs₀ Variants.none (rdat m) m ρ main
    (hbody := body_obligation m) (hshare := fun c => (rdat m c).share_full fun _ => rfl)
    (howed := fun _ _ => rfl) (V := V m) (hmain := hmain m Variants.none) (hA := fun _ _ => rfl) (hΦ := fun _ _ => rfl)

/-- The argument arrays end unchanged. -/
theorem unchanged_of (r : PUnit × MemSt nD τ sig (Elt F)) (h : RDat.FramePost cfg0 (rdat m) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(h.arr_in c 0 rfl).trans (V_main_arg0 m c),
    ((h c).2 main_arg1 (Pipeline.mem_restRefs_of main_arg1 (by decide) (by decide))).trans (V_main_arg1 m c),
    (h.arr_in c 2 rfl).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩

/-- The frame: the kernel runs, its arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨unchanged_of m r h.1, h.2⟩) (run_main_quiescent m ρ)

/-! ## What the output array holds -/

/-- The value grid point `t`'s blocks give the output's element `y`. -/
def ptVal (c : Dev nD) (t : Fin cfg0.N) (y : S28672x128.Idx) : F .f32 :=
  tileVal (iblk m c 0 t) (iblk m c 1 t) (iblk m c 2 t) (iblk m c 3 t) (iblk m c 4 t) y

/-- The grid point of the output's element `y`: its tile's group of four. -/
def pt (y : S28672x128.Idx) : Fin cfg0.N := ⟨(y 0).val % 28 / 4, by rw [show cfg0.N = 7 from N_0]; omega⟩

theorem coords_val : ∀ t : Fin cfg0.N, ((cfg0.grid.coords t) 0).val = t.val := by decide

theorem leaves_5 (c : Dev nD) (t : Fin cfg0.N) (X : S28672x128.Idx → F .f32) (h : (rdat m c).Leaves 5 t X) :
    ∃ Y : S28672x128.Idx → F .f32, (rdat m c).Finds 5 t Y ∧ ∀ y, X y = if pt y = t then ptVal m c t y else Y y := by
  obtain ⟨Y, hF, hX⟩ := h
  refine ⟨Y, hF, fun y => ?_⟩
  dsimp only [rdat] at hX
  refine (hX y).trans ?_
  have hy : (y 0).val < 28672 := (y 0).isLt
  have hiff : ((y 0).val / 7168 < 4 ∧ (y 0).val % 28 / 4 = ((cfg0.grid.coords t) 0).val) ↔ pt y = t := by
    rw [coords_val, Fin.ext_iff]
    exact ⟨fun h => h.2, fun h => ⟨by omega, h⟩⟩
  exact if_congr hiff rfl rfl

theorem no_fetch_5 : ∀ t : Fin cfg0.N, (cfg0.win 5).fetch t = false := by decide
theorem no_flush_5 : ∀ t : Fin cfg0.N, t.val < 6 → (cfg0.win 5).flush t = false := by decide

/-- After point `n` every element of a tile up to `n`'s has its value. -/
theorem leaves_upto (c : Dev nD) : ∀ (n : ℕ) (hn : n < cfg0.N) (X : S28672x128.Idx → F .f32), (rdat m c).Leaves 5 ⟨n, hn⟩ X →
    ∀ y : S28672x128.Idx, (pt y).val ≤ n → X y = ptVal m c (pt y) y := by
  intro n
  induction n with
  | zero =>
    intro hn X h y hy
    obtain ⟨Y, hF, hX⟩ := leaves_5 m c _ X h
    have e : pt y = ⟨0, hn⟩ := Fin.ext (Nat.le_zero.mp hy)
    rw [hX y, if_pos e, e]
  | succ n ih =>
    intro hn X h y hy
    obtain ⟨Y, hF, hX⟩ := leaves_5 m c _ X h
    rw [hX y]
    by_cases e : pt y = ⟨n + 1, hn⟩
    · rw [if_pos e, e]
    · rw [if_neg e]
      have h7 : cfg0.N = 7 := N_0
      rcases ((rdat m c).finds_of_pos (no_fetch_5 ⟨n + 1, hn⟩) (Nat.succ_ne_zero n) Y).mp hF with h' | h'
      · exact absurd (h'.symm.trans (no_flush_5 _ (show n < 6 by omega))) (by decide)
      · exact ih (by omega) Y h' y (by have : (pt y).val ≠ n + 1 := fun h => e (Fin.ext h)
                                       omega)

theorem whole_5 : (cfg0.win 5).WholeAt t0_6 := by decide

/-- The result array after the run. -/
theorem result_eq (r : PUnit × MemSt nD τ sig (Elt F)) (h : RDat.FramePost cfg0 (rdat m) (V m) r) (c : Dev nD) (y : S28672x128.Idx) :
    r.2.mem ((c.tc : Thread nD τ).loc main_v3) y = ptVal m c (pt y) y := by
  obtain ⟨X, hX, e⟩ := Pipeline.RDat.ArrAt.emb_eq_of_wholeAt (w := 5) ((h c).1 5) whole_5
  have h6 := leaves_upto m c 6 (by rw [show cfg0.N = 7 from N_0]; decide) X hX y (by have := (pt y).isLt; have h7 : cfg0.N = 7 := N_0; omega)
  rw [← h6]
  exact e y

end Cert.Merge2Ideal.Body
-- ==== Proof.Merge2Math.lean ====
/- The second merge product as mathematics: one element of the merged hidden states. -/
module

public import Idealize.ShloMosaic.Lib.Pointwise

@[expose] public section

noncomputable section

namespace Cert.Merge2Math

open Idealize.ShloMosaic

/-- Element `(R, C)` of the codes times the weights, scaled by the row's and the column's scale and shifted by the bias. -/
def prod (g : (⟨2, ![1024, 5120]⟩ : Shape).Idx → EReal) (gs : (⟨1, ![1024]⟩ : Shape).Idx → EReal)
    (w : (⟨2, ![5120, 3584]⟩ : Shape).Idx → EReal) (s b : (⟨1, ![3584]⟩ : Shape).Idx → EReal) (R : Fin 1024) (C : Fin 3584) : EReal :=
  (∑ j : Fin 5120, g (ix2 R j) * w (ix2 j C)) * gs (ix1 R) * s (ix1 C) + b (ix1 C)

/-- The result: the 1024 × 3584 product read row by row as 28 tiles of 128 lanes. -/
def merged (g : (⟨2, ![1024, 5120]⟩ : Shape).Idx → EReal) (gs : (⟨1, ![1024]⟩ : Shape).Idx → EReal)
    (w : (⟨2, ![5120, 3584]⟩ : Shape).Idx → EReal) (s b : (⟨1, ![3584]⟩ : Shape).Idx → EReal) (y : (⟨2, ![28672, 128]⟩ : Shape).Idx) : EReal :=
  prod g gs w s b ⟨(y 0).val / 28, by have : (y 0).val < 28672 := (y 0).isLt; omega⟩
    ⟨(y 0).val % 28 * 128 + (y 1).val, by have : (y 1).val < 128 := (y 1).isLt; omega⟩

theorem merged_congr {g g' : (⟨2, ![1024, 5120]⟩ : Shape).Idx → EReal} {gs gs' : (⟨1, ![1024]⟩ : Shape).Idx → EReal}
    {w w' : (⟨2, ![5120, 3584]⟩ : Shape).Idx → EReal} {s s' b b' : (⟨1, ![3584]⟩ : Shape).Idx → EReal}
    (hg : g = g') (hgs : gs = gs') (hw : w = w') (hs : s = s') (hb : b = b') (y : (⟨2, ![28672, 128]⟩ : Shape).Idx) :
    merged g gs w s b y = merged g' gs' w' s' b' y := by
  subst hg hgs hw hs hb; rfl

end Cert.Merge2Math
-- ==== Proof.Merge2Ideal.Value.lean ====
/- What the second merge kernel's result array holds, element by element, over the extended reals. -/
module

public import proofs.«01_k».proof.Proof.Merge2Ideal.Run
public import proofs.«01_k».proof.Proof.Merge2Math
public import Idealize.ShloMosaic.Lib.Pipeline.ValueKit

@[expose] public section

set_option maxRecDepth 16384

noncomputable section

namespace Cert.Merge2Ideal.Body

open Cert.Merge2Ideal Cert.Merge2Ideal.Gen
open Idealize.ShloMosaic Idealize.ShloMosaic.TcCoe Idealize.ShloMosaic.Tactic

variable (m : (ℓ : Loc nD τ sig) → Buf (Elt Ideal) ℓ)

theorem off1_eq : ∀ k : Fin k0_t1_loop.trips, k0_off1 k = ![256 * k.val, 0] := by decide +kernel
theorem off2_eq : ∀ k : Fin k0_t1_loop.trips, k0_off2 k = ![256 * k.val, 0] := by decide +kernel

theorem idx_2 : ∀ t : Fin cfg0.N, (cfg0.win 2).index t = ![0, t.val] := by decide +kernel
theorem idx_3 : ∀ t : Fin cfg0.N, (cfg0.win 3).index t = ![0, t.val] := by decide +kernel
theorem idx_4 : ∀ t : Fin cfg0.N, (cfg0.win 4).index t = ![0, t.val] := by decide +kernel
theorem idx_0 : ∀ t : Fin cfg0.N, (cfg0.win 0).index t = ![0, 0] := by decide +kernel
theorem idx_1 : ∀ t : Fin cfg0.N, (cfg0.win 1).index t = ![0, 0] := by decide +kernel

/-- One element of a chunk's block. -/
theorem chunk_apply (x1 : Vec Ideal S1024x5120 .fp8e4m3) (x2 : Vec Ideal S1024x1 .f32) (x3 : Vec Ideal S5120x512 .fp8e4m3)
    (x4 x5 : Vec Ideal S1x512 .f32) (k : Fin k0_t1_loop.trips) (r : Fin 256) (l : Fin 512) (R : Fin 1024) (hR : R.val = 256 * k.val + r.val) :
    chunk x1 x2 x3 x4 x5 k (ix2 r l)
      = (∑ j : Fin 5120, x1 (ix2 R j) * x3 (ix2 j l)) * x2 (ix2 R 0) * x4 (ix2 0 l) + x5 (ix2 0 l) := by
  unfold chunk
  pointwise [k0_pay3, off1_eq, off2_eq]
  have e : (⟨256 * k.val + r.val, hR ▸ R.isLt⟩ : Fin 1024) = R := Fin.ext hR.symm
  simp only [e]

theorem blk_0 (c : Dev nD) (t : Fin cfg0.N) (r : Fin 1024) (j : Fin 5120) :
    iblk m c 0 t (ix2 r j) = m ((c.tc : Thread nD τ).loc main_arg0) (ix2 r j) := by
  blk_ext [iblk, V, idx_0 t]
theorem blk_1 (c : Dev nD) (t : Fin cfg0.N) (r : Fin 1024) :
    iblk m c 1 t (ix2 r 0) = m ((c.tc : Thread nD τ).loc main_arg1) (ix1 r) := by
  blk_ext! [iblk, V, idx_1 t]
theorem blk_2 (c : Dev nD) (t : Fin cfg0.N) (j : Fin 5120) (l : Fin 512) (C : Fin 3584) (hC : C.val = 512 * t.val + l.val) :
    iblk m c 2 t (ix2 j l) = m ((c.tc : Thread nD τ).loc main_arg2) (ix2 j C) := by
  blk_ext [iblk, V, idx_2 t]
theorem blk_3 (c : Dev nD) (t : Fin cfg0.N) (l : Fin 512) (C : Fin 3584) (hC : C.val = 512 * t.val + l.val) :
    iblk m c 3 t (ix2 0 l) = m ((c.tc : Thread nD τ).loc main_arg3) (ix1 C) := by
  blk_ext! [iblk, V, idx_3 t]
theorem blk_4 (c : Dev nD) (t : Fin cfg0.N) (l : Fin 512) (C : Fin 3584) (hC : C.val = 512 * t.val + l.val) :
    iblk m c 4 t (ix2 0 l) = m ((c.tc : Thread nD τ).loc main_arg4) (ix1 C) := by
  blk_ext! [iblk, V, idx_4 t]

/-- The value of an element at its own grid point is the product's. -/
theorem ptVal_eq (c : Dev nD) (y : S28672x128.Idx) :
    ptVal m c (pt y) y = Merge2Math.merged (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) y := by
  have h0 : (y 0).val < 28672 := (y 0).isLt
  have h1 : (y 1).val < 128 := (y 1).isLt
  have hp : (pt y).val = (y 0).val % 28 / 4 := rfl
  unfold ptVal tileVal Merge2Math.merged Merge2Math.prod
  rw [chunk_apply _ _ _ _ _ _ _ _ ⟨(y 0).val / 28, by omega⟩ (by show (y 0).val / 28 = 256 * ((y 0).val / 7168) + (y 0).val / 28 % 256; omega)]
  have hC : ((y 0).val % 28 * 128 + (y 1).val) = 512 * (pt y).val + ((y 0).val % 4 * 128 + (y 1).val) := by rw [hp]; omega
  rw [blk_1, blk_3 m c (pt y) _ ⟨(y 0).val % 28 * 128 + (y 1).val, by omega⟩ hC, blk_4 m c (pt y) _ ⟨(y 0).val % 28 * 128 + (y 1).val, by omega⟩ hC]
  congr 3
  refine Finset.sum_congr rfl fun j _ => ?_
  rw [blk_0, blk_2 m c (pt y) j _ ⟨(y 0).val % 28 * 128 + (y 1).val, by omega⟩ hC]

/-- The result array after the run. -/
theorem result (r : PUnit × MemSt nD τ sig (Elt Ideal)) (h : Pipeline.RDat.FramePost cfg0 (rdat m) (V m) r) (c : Dev nD) :
    r.2.mem ((c.tc : Thread nD τ).loc main_v3) = Merge2Math.merged (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) :=
  funext fun y => (result_eq m r h c y).trans (ptVal_eq m c y)

end Cert.Merge2Ideal.Body
-- ==== Proof.Ref2Ideal.Value.lean ====
/- What the second merge product's reference computes, element by element, over the extended reals. -/
module

public import proofs.«01_k».proof.Proof.Gen.Ref2Ideal.Frame
public import proofs.«01_k».proof.Proof.Merge2Math
public import Idealize.ShloMosaic.Lib.Pipeline.ValueKit

@[expose] public section

set_option maxRecDepth 16384

noncomputable section

namespace Cert.Ref2Ideal.Value

open Cert.Ref2Ideal Cert.Ref2Ideal.Gen
open Idealize.ShloMosaic Idealize.ShloMosaic.TcCoe Idealize.ShloMosaic.Tactic

variable (m : (ℓ : Loc nD τ sig) → Buf (Elt Ideal) ℓ)

/-- The reference's block is the product. -/
theorem pay_eq (x0 : Vec Ideal S1024x5120 .fp8e4m3) (x1 : Vec Ideal S1024 .f32) (x2 : Vec Ideal S5120x3584 .fp8e4m3) (x3 x4 : Vec Ideal S3584 .f32)
    (y : S28672x128.Idx) : k0_pay1 x0 x2 x1 x3 x4 y = Merge2Math.merged x0 x1 x2 x3 x4 y := by
  idx_vars y
  unfold Merge2Math.merged Merge2Math.prod
  pointwise [k0_pay1]

theorem idx_0 : ∀ t : Fin cfg0.N, (cfg0.win 0).index t = ![0, 0] := by decide +kernel
theorem idx_1 : ∀ t : Fin cfg0.N, (cfg0.win 1).index t = ![0] := by decide +kernel
theorem idx_2 : ∀ t : Fin cfg0.N, (cfg0.win 2).index t = ![0, 0] := by decide +kernel
theorem idx_3 : ∀ t : Fin cfg0.N, (cfg0.win 3).index t = ![0] := by decide +kernel
theorem idx_4 : ∀ t : Fin cfg0.N, (cfg0.win 4).index t = ![0] := by decide +kernel

/-- The result array after the run. -/
theorem result (c : Dev nD) : (dats m 0 c).arrAt 5 (cfgs 0).N
    = Merge2Math.merged (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  refine (dats m 0 c).arrAt_eq_of_after_last 5 t0_0 (by decide +kernel) _ fun j => ?_
  blk_simp
  rw [after0_5]
  unfold out0_5
  rw [View.canon_unit_zero (by decide)]
  simp only [View.ld_unit_zero]
  rw [pay_eq]
  have e0 : View.ld (iblk m c 0 t0_0) r0_0 = m ((c.tc : Thread nD τ).loc main_arg0) := by
    funext i; idx_vars i; pointwise; blk_ext [iblk, V, idx_0 t0_0]
  have e1 : View.ld (iblk m c 1 t0_0) r0_2 = m ((c.tc : Thread nD τ).loc main_arg1) := by
    funext i; idx_vars i; pointwise; blk_ext [iblk, V, idx_1 t0_0]
  have e2 : View.ld (iblk m c 2 t0_0) r0_1 = m ((c.tc : Thread nD τ).loc main_arg2) := by
    funext i; idx_vars i; pointwise; blk_ext [iblk, V, idx_2 t0_0]
  have e3 : View.ld (iblk m c 3 t0_0) r0_3 = m ((c.tc : Thread nD τ).loc main_arg3) := by
    funext i; idx_vars i; pointwise; blk_ext [iblk, V, idx_3 t0_0]
  have e4 : View.ld (iblk m c 4 t0_0) r0_3 = m ((c.tc : Thread nD τ).loc main_arg4) := by
    funext i; idx_vars i; pointwise; blk_ext [iblk, V, idx_4 t0_0]
  exact Merge2Math.merged_congr e0 e1 e2 e3 e4 j

end Cert.Ref2Ideal.Value
-- ==== Proof.Merge2Claim.lean ====
/- The second merge product's claims: kernel and reference both leave the product `Merge2Math.merged` of the arguments. -/
module

public import proofs.«01_k».proof.Defs
public import proofs.«01_k».proof.Proof.Merge2.Run
public import proofs.«01_k».proof.Proof.Merge2Ideal.Value
public import proofs.«01_k».proof.Proof.Ref2Ideal.Value
public import Idealize.ShloMosaic.Lib.Claim

@[expose] public section

set_option maxRecDepth 16384

noncomputable section

namespace Cert.Merge2Claim

open Idealize.ShloMosaic Idealize.ShloMosaic.TcCoe Idealize.SL.Sem

theorem algebraic : Cert.algebraic_Merge2Ideal_Ref2Ideal := fun m g m' g' _ hag =>
  ⟨fun c => Merge2Math.merged (m ((c.tc : Thread Merge2Ideal.nD Merge2Ideal.τ).loc Merge2Ideal.main_arg0))
      (m ((c.tc : Thread Merge2Ideal.nD Merge2Ideal.τ).loc Merge2Ideal.main_arg1))
      (m ((c.tc : Thread Merge2Ideal.nD Merge2Ideal.τ).loc Merge2Ideal.main_arg2))
      (m ((c.tc : Thread Merge2Ideal.nD Merge2Ideal.τ).loc Merge2Ideal.main_arg3))
      (m ((c.tc : Thread Merge2Ideal.nD Merge2Ideal.τ).loc Merge2Ideal.main_arg4)),
    (θ_run _ _ _).mono (fun r h c => ⟨Merge2Ideal.Body.result m r h.1 c, Merge2Ideal.Body.unchanged_of m r h.1 c⟩)
      (Merge2Ideal.Body.run_main_quiescent m g),
    (θ_run _ _ _).mono (fun r h c =>
        ⟨(((h.1 c).1 5).trans (Ref2Ideal.Value.result m' c)).trans (funext fun y =>
          Merge2Math.merged_congr (hag c).1 (hag c).2.1 (hag c).2.2.1 (hag c).2.2.2.1 (hag c).2.2.2.2 y), h.2 c⟩)
      (θ_run_and (Ref2Ideal.Gen.run_main m' g') (Ref2Ideal.Gen.unchanged m' g'))⟩

end Cert.Merge2Claim
-- ==== Proof.lean ====
/- The certificate: for each of the two merge calls its frames, and the equation of kernel and reference over the extended reals. -/
module

public import proofs.«01_k».proof.Defs
public import proofs.«01_k».proof.Proof.Merge1.Run
public import proofs.«01_k».proof.Proof.Merge1Claim
public import proofs.«01_k».proof.Proof.Merge2Claim

@[expose] public section

noncomputable section

namespace Cert.Proof

open Idealize.ShloMosaic Idealize.SL.Sem

theorem claim : Cert.Claim :=
  ⟨Cert.Merge1.Gen.facts, Cert.Merge1Ideal.Gen.facts, Cert.Ref1Ideal.Gen.facts,
    Cert.Merge2.Gen.facts, Cert.Merge2Ideal.Gen.facts, Cert.Ref2Ideal.Gen.facts,
    fun m ρ _ => Cert.Merge1.Body.frame m ρ,
    fun m ρ _ => Cert.Merge1Ideal.Body.frame m ρ,
    fun m ρ _ => Cert.Ref1Ideal.Gen.frame m ρ,
    fun m ρ _ => Cert.Merge2.Body.frame m ρ,
    fun m ρ _ => Cert.Merge2Ideal.Body.frame m ρ,
    fun m ρ _ => Cert.Ref2Ideal.Gen.frame m ρ,
    trivial,
    Cert.Merge1Claim.algebraic,
    trivial,
    Cert.Merge2Claim.algebraic⟩

end Cert.Proof

end
